-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "scale2" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v40)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v86) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S1x8 : Shape := ⟨2, ![1, 8]⟩
abbrev S2x16384x6656 : Shape := ⟨3, ![2, 16384, 6656]⟩
abbrev S2x256x6656 : Shape := ⟨3, ![2, 256, 6656]⟩
abbrev S_ : Shape := ⟨0, ![]⟩
abbrev S2x16384x1280 : Shape := ⟨3, ![2, 16384, 1280]⟩
abbrev S2x256x256 : Shape := ⟨3, ![2, 256, 256]⟩

class Facts : Prop where
  bcast_S_S1x8 : S_.BroadcastsInDim S1x8 (![] : Fin 0 → Fin S1x8.rank)
  slices_S2x16384x6656_S2x16384x1280_0_0_0 : S2x16384x6656.Slices ![0, 0, 0] S2x16384x1280
  bcast_S_S2x16384x1280 : S_.BroadcastsInDim S2x16384x1280 (![] : Fin 0 → Fin S2x16384x1280.rank)
  slices_S2x256x6656_S2x256x256_0_0_1024 : S2x256x6656.Slices ![0, 0, 1024] S2x256x256
  bcast_S_S2x256x256 : S_.BroadcastsInDim S2x256x256 (![] : Fin 0 → Fin S2x256x256.rank)

variable [Facts]

def fn {F : FTy → Type} [FloatOps F] (main_arg0 : FVec F S1x8 .f32) (main_arg1 : FVec F S2x16384x6656 .f32) (main_arg2 : FVec F S2x256x6656 .f32) : IVec S1x8 1 × IVec S2x16384x1280 1 × IVec S2x256x256 1 :=
  let main_v0 : FVec F S1x8 .f32 := Host.absf main_arg0
  let main_cst : FVec F S_ .f32 := constant S_ .f32 0x7F800000#32
  let main_v1 : FVec F S1x8 .f32 := broadcastInDim S1x8 ![] bcast_S_S1x8 main_cst
  let main_v2 : IVec S1x8 1 := cmpf .olt main_v0 main_v1
  let main_v3 : FVec F S2x16384x1280 .f32 := (extractStridedSlice S2x16384x1280 ![0, 0, 0] · slices_S2x16384x6656_S2x16384x1280_0_0_0) main_arg1
  let main_v4 : FVec F S2x16384x1280 .f32 := Host.absf main_v3
  let main_cst_0 : FVec F S_ .f32 := constant S_ .f32 0x7F800000#32
  let main_v5 : FVec F S2x16384x1280 .f32 := broadcastInDim S2x16384x1280 ![] bcast_S_S2x16384x1280 main_cst_0
  let main_v6 : IVec S2x16384x1280 1 := cmpf .olt main_v4 main_v5
  let main_v7 : FVec F S2x256x256 .f32 := (extractStridedSlice S2x256x256 ![0, 0, 1024] · slices_S2x256x6656_S2x256x256_0_0_1024) main_arg2
  let main_v8 : FVec F S2x256x256 .f32 := Host.absf main_v7
  let main_cst_1 : FVec F S_ .f32 := constant S_ .f32 0x7F800000#32
  let main_v9 : FVec F S2x256x256 .f32 := broadcastInDim S2x256x256 ![] bcast_S_S2x256x256 main_cst_1
  let main_v10 : IVec S2x256x256 1 := cmpf .olt main_v8 main_v9
  (main_v2, main_v6, main_v10)
-- ==== Kernel.lean ====
abbrev S1x8 : Shape := ⟨2, ![1, 8]⟩
abbrev S2x16384x6656 : Shape := ⟨3, ![2, 16384, 6656]⟩
abbrev S2x256x6656 : Shape := ⟨3, ![2, 256, 6656]⟩
abbrev S8 : Shape := ⟨1, ![8]⟩
abbrev S2x16384x1024 : Shape := ⟨3, ![2, 16384, 1024]⟩
abbrev S1x128x1024 : Shape := ⟨3, ![1, 128, 1024]⟩
abbrev S1x128x256 : Shape := ⟨3, ![1, 128, 256]⟩
abbrev S1x256x256 : Shape := ⟨3, ![1, 256, 256]⟩
abbrev S128x1024 : Shape := ⟨2, ![128, 1024]⟩
abbrev S128x256 : Shape := ⟨2, ![128, 256]⟩
abbrev S384x256 : Shape := ⟨2, ![384, 256]⟩
abbrev S512x384 : Shape := ⟨2, ![512, 384]⟩
abbrev S128x128 : Shape := ⟨2, ![128, 128]⟩
abbrev S512x128 : Shape := ⟨2, ![512, 128]⟩
abbrev S384x128 : Shape := ⟨2, ![384, 128]⟩
abbrev S256x256 : Shape := ⟨2, ![256, 256]⟩
abbrev S256x128 : Shape := ⟨2, ![256, 128]⟩
abbrev S512x256 : Shape := ⟨2, ![512, 256]⟩
abbrev S512x1 : Shape := ⟨2, ![512, 1]⟩
abbrev S1 : Shape := ⟨1, ![1]⟩
abbrev S512 : Shape := ⟨1, ![512]⟩
abbrev S1x128x128 : Shape := ⟨3, ![1, 128, 128]⟩

abbrev nBuf : Space → Nat
  | .hbm => 5
  | .vmem => 20
  | .smem => 1
  | _ => 0

abbrev bufTy : (tb : Table) → Fin (tcTables nBuf tb) → BufTy
  | .hbm, ⟨0, _⟩ => ⟨S1x8, .f32⟩
  | .hbm, ⟨1, _⟩ => ⟨S2x16384x6656, .f32⟩
  | .hbm, ⟨2, _⟩ => ⟨S2x256x6656, .f32⟩
  | .hbm, ⟨3, _⟩ => ⟨S8, .f32⟩
  | .hbm, ⟨4, _⟩ => ⟨S2x16384x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S1x128x1024, .bf16⟩
  | .local _ .vmem, ⟨19, _⟩ => ⟨S1x128x1024, .bf16⟩
  | .local _ .smem, ⟨0, _⟩ => ⟨S8, .f32⟩
  | _, _ => ⟨S1x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 128], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  ![arg0.toNat, v1.toNat, c4_i32.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c127_i32 : BitVec 32 := 127#32
  let v1 : BitVec 32 := Scalar.minsi v0 c127_i32
  let c4_i32 : BitVec 32 := 4#32
  let c0_i32 : BitVec 32 := 0#32
  ![arg0.toNat, v1.toNat, c4_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c5_i32 : BitVec 32 := 5#32
  let c0_i32_0 : BitVec 32 := 0#32
  ![arg0.toNat, v1.toNat, c5_i32.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c127_i32 : BitVec 32 := 127#32
  let v1 : BitVec 32 := Scalar.minsi v0 c127_i32
  let c5_i32 : BitVec 32 := 5#32
  let c0_i32 : BitVec 32 := 0#32
  ![arg0.toNat, v1.toNat, c5_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "scale2" => some (((Real.sqrt 128)⁻¹ * (Real.log 2)⁻¹ : ℝ) : EReal)
  | _ => none
-- ==== ReferenceIdeal.lean ====
abbrev S1x8 : Shape := ⟨2, ![1, 8]⟩
abbrev S2x16384x6656 : Shape := ⟨3, ![2, 16384, 6656]⟩
abbrev S2x256x6656 : Shape := ⟨3, ![2, 256, 6656]⟩
abbrev S8 : Shape := ⟨1, ![8]⟩
abbrev S_ : Shape := ⟨0, ![]⟩
abbrev S2x16384x1024 : Shape := ⟨3, ![2, 16384, 1024]⟩
abbrev S2x16384x2x4x128 : Shape := ⟨5, ![2, 16384, 2, 4, 128]⟩
abbrev S2x16384x256 : Shape := ⟨3, ![2, 16384, 256]⟩
abbrev S2x16384x2x128 : Shape := ⟨4, ![2, 16384, 2, 128]⟩
abbrev S2x256x256 : Shape := ⟨3, ![2, 256, 256]⟩
abbrev S2x256x2x128 : Shape := ⟨4, ![2, 256, 2, 128]⟩
abbrev S1x2x4x1x1 : Shape := ⟨5, ![1, 2, 4, 1, 1]⟩
abbrev S2x2x4x16384x1 : Shape := ⟨5, ![2, 2, 4, 16384, 1]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x2x16384x16384x4 : Shape := ⟨5, ![2, 2, 16384, 16384, 4]⟩
abbrev S2x2x4x16384x16384 : Shape := ⟨5, ![2, 2, 4, 16384, 16384]⟩
abbrev S2x2x256x16384x4 : Shape := ⟨5, ![2, 2, 256, 16384, 4]⟩
abbrev S2x2x4x16384x256 : Shape := ⟨5, ![2, 2, 4, 16384, 256]⟩
abbrev S2x2x4x16384x16641 : Shape := ⟨5, ![2, 2, 4, 16384, 16641]⟩
abbrev S2x2x4x16384 : Shape := ⟨4, ![2, 2, 4, 16384]⟩
abbrev S2x2x128x4x16384 : Shape := ⟨5, ![2, 2, 128, 4, 16384]⟩

abbrev nBuf : Space → Nat
  | .hbm => 68
  | .vmem => 0
  | .smem => 0
  | _ => 0

abbrev bufTy : (tb : Table) → Fin (tcTables nBuf tb) → BufTy
  | .hbm, ⟨0, _⟩ => ⟨S1x8, .f32⟩
  | .hbm, ⟨1, _⟩ => ⟨S2x16384x6656, .f32⟩
  | .hbm, ⟨2, _⟩ => ⟨S2x256x6656, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16384x1024, .f32⟩
  | .hbm, ⟨9, _⟩ => ⟨S2x16384x2x4x128, .f32⟩
  | .hbm, ⟨10, _⟩ => ⟨S2x16384x256, .f32⟩
  | .hbm, ⟨11, _⟩ => ⟨S2x16384x2x128, .f32⟩
  | .hbm, ⟨12, _⟩ => ⟨S2x16384x256, .f32⟩
  | .hbm, ⟨13, _⟩ => ⟨S2x16384x2x128, .f32⟩
  | .hbm, ⟨14, _⟩ => ⟨S2x256x256, .f32⟩
  | .hbm, ⟨15, _⟩ => ⟨S2x256x2x128, .f32⟩
  | .hbm, ⟨16, _⟩ => ⟨S2x256x256, .f32⟩
  | .hbm, ⟨17, _⟩ => ⟨S2x256x2x128, .f32⟩
  | .hbm, ⟨18, _⟩ => ⟨S1x2x4x1x1, .f32⟩
  | .hbm, ⟨19, _⟩ => ⟨S2x2x4x16384x1, .f32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S1x16384, .i32⟩
  | .hbm, ⟨24, _⟩ => ⟨S16384x16384, .i32⟩
  | .hbm, ⟨25, _⟩ => ⟨S16384x16384, .i32⟩
  | .hbm, ⟨26, _⟩ => ⟨S16384x16384, .i32⟩
  | .hbm, ⟨27, _⟩ => ⟨S16384x16384, .i32⟩
  | .hbm, ⟨28, _⟩ => ⟨S_, .i32⟩
  | .hbm, ⟨29, _⟩ => ⟨S16384x16384, .i32⟩
  | .hbm, ⟨30, _⟩ => ⟨S16384x16384, .i1⟩
  | .hbm, ⟨31, _⟩ => ⟨S2x2x16384x16384x4, .f32⟩
  | .hbm, ⟨32, _⟩ => ⟨S2x2x4x16384x16384, .f32⟩
  | .hbm, ⟨33, _⟩ => ⟨S2x2x4x16384x16384, .f32⟩
  | .hbm, ⟨34, _⟩ => ⟨S2x2x4x16384x16384, .f32⟩
  | .hbm, ⟨35, _⟩ => ⟨S_, .f32⟩
  | .hbm, ⟨36, _⟩ => ⟨S_, .f32⟩
  | .hbm, ⟨37, _⟩ => ⟨S2x2x4x16384x16384, .i1⟩
  | .hbm, ⟨38, _⟩ => ⟨S2x2x4x16384x16384, .f32⟩
  | .hbm, ⟨39, _⟩ => ⟨S2x2x4x16384x16384, .f32⟩
  | .hbm, ⟨40, _⟩ => ⟨S2x2x256x16384x4, .f32⟩
  | .hbm, ⟨41, _⟩ => ⟨S2x2x4x16384x256, .f32⟩
  | .hbm, ⟨42, _⟩ => ⟨S2x2x4x16384x256, .f32⟩
  | .hbm, ⟨43, _⟩ => ⟨S2x2x4x16384x256, .f32⟩
  | .hbm, ⟨44, _⟩ => ⟨S2x2x4x16384x16641, .f32⟩
  | .hbm, ⟨45, _⟩ => ⟨S_, .f32⟩
  | .hbm, ⟨46, _⟩ => ⟨S2x2x4x16384, .f32⟩
  | .hbm, ⟨47, _⟩ => ⟨S_, .f32⟩
  | .hbm, ⟨48, _⟩ => ⟨S2x2x4x16384, .f32⟩
  | .hbm, ⟨49, _⟩ => ⟨S2x2x4x16384, .f32⟩
  | .hbm, ⟨50, _⟩ => ⟨S2x2x4x16384x1, .f32⟩
  | .hbm, ⟨51, _⟩ => ⟨S2x2x4x16384x16641, .f32⟩
  | .hbm, ⟨52, _⟩ => ⟨S2x2x4x16384x16641, .f32⟩
  | .hbm, ⟨53, _⟩ => ⟨S2x2x4x16384x16641, .f32⟩
  | .hbm, ⟨54, _⟩ => ⟨S_, .f32⟩
  | .hbm, ⟨55, _⟩ => ⟨S2x2x4x16384, .f32⟩
  | .hbm, ⟨56, _⟩ => ⟨S2x2x4x16384x1, .f32⟩
  | .hbm, ⟨57, _⟩ => ⟨S2x2x4x16384x16641, .f32⟩
  | .hbm, ⟨58, _⟩ => ⟨S2x2x4x16384x16641, .f32⟩
  | .hbm, ⟨59, _⟩ => ⟨S2x2x4x16384x16384, .f32⟩
  | .hbm, ⟨60, _⟩ => ⟨S2x2x4x16384x256, .f32⟩
  | .hbm, ⟨61, _⟩ => ⟨S2x2x128x4x16384, .f32⟩
  | .hbm, ⟨62, _⟩ => ⟨S2x16384x2x4x128, .f32⟩
  | .hbm, ⟨63, _⟩ => ⟨S2x2x128x4x16384, .f32⟩
  | .hbm, ⟨64, _⟩ => ⟨S2x16384x2x4x128, .f32⟩
  | .hbm, ⟨65, _⟩ => ⟨S2x16384x2x4x128, .f32⟩
  | .hbm, ⟨66, _⟩ => ⟨S2x16384x1024, .f32⟩
  | .hbm, ⟨67, _⟩ => ⟨S2x16384x1024, .bf16⟩
  | _, _ => ⟨S1x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩

abbrev nD : Nat := 1
abbrev τ : Topo := Topo.v7x

variable {F : FTy → Type} [FloatOps F]
-- ==== Kernel2.lean ====
abbrev S2x16384x2048 : Shape := ⟨3, ![2, 16384, 2048]⟩
abbrev S2048 : Shape := ⟨1, ![2048]⟩
abbrev S2x1x2048 : Shape := ⟨3, ![2, 1, 2048]⟩
abbrev S2048x8192 : Shape := ⟨2, ![2048, 8192]⟩
abbrev S8192x2048 : Shape := ⟨2, ![8192, 2048]⟩
abbrev S1x2048 : Shape := ⟨2, ![1, 2048]⟩
abbrev S1x1024x2048 : Shape := ⟨3, ![1, 1024, 2048]⟩
abbrev S1x1x2048 : Shape := ⟨3, ![1, 1, 2048]⟩
abbrev S2048x512 : Shape := ⟨2, ![2048, 512]⟩
abbrev S512x2048 : Shape := ⟨2, ![512, 2048]⟩
abbrev S1024x2048 : Shape := ⟨2, ![1024, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩
abbrev S512x512 : Shape := ⟨2, ![512, 512]⟩
abbrev S1x1024x512 : Shape := ⟨3, ![1, 1024, 512]⟩
abbrev S1x128x2048 : Shape := ⟨3, ![1, 128, 2048]⟩
abbrev S128x2048 : Shape := ⟨2, ![128, 2048]⟩
abbrev S128 : Shape := ⟨1, ![128]⟩
abbrev S128x1 : Shape := ⟨2, ![128, 1]⟩

abbrev nBuf : Space → Nat
  | .hbm => 13
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x8192, .f32⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S2048x8192, .bf16⟩
  | .hbm, ⟨10, _⟩ => ⟨S8192x2048, .bf16⟩
  | .hbm, ⟨11, _⟩ => ⟨S1x2048, .f32⟩
  | .hbm, ⟨12, _⟩ => ⟨S2x16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S1x1024x2048, .f32⟩
  | .local _ .vmem, ⟨15, _⟩ => ⟨S1x1024x2048, .f32⟩
  | .local _ .vmem, ⟨16, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 16, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c64_i32 : BitVec 32 := 64#32
  let v29 : BitVec 32 := Scalar.addi c0_i32_19 c64_i32
  let c1_i32 : BitVec 32 := 1#32
  ⟨c0_i32_19, v29, c1_i32⟩
def k0_mult1 (k0_t1 : Fin k0_t1_loop.trips) : BitVec 32 :=
  let c0_i32_19 : BitVec 32 := 0#32
  let c1_i32 : BitVec 32 := 1#32
  let arg13 : BitVec 32 := Scf.iv c0_i32_19 c1_i32 k0_t1
  let c16_i32 : BitVec 32 := 16#32
  let v30 : BitVec 32 := Scalar.muli arg13 c16_i32
  v30
def k0_off1 (k0_t1 : Fin k0_t1_loop.trips) : Fin 3 → Nat :=
  let c0_21 : Index := 0#32
  let c0_i32_19 : BitVec 32 := 0#32
  let c1_i32 : BitVec 32 := 1#32
  let arg13 : BitVec 32 := Scf.iv c0_i32_19 c1_i32 k0_t1
  let c16_i32 : BitVec 32 := 16#32
  let v30 : BitVec 32 := Scalar.muli arg13 c16_i32
  let v31 : BitVec 32 := v30
  let v32 : Index := Scalar.indexCast v31
  let c0_22 : Index := 0#32
  ![0, v32.toNat, 0]
def k0_off2 (k0_t1 : Fin k0_t1_loop.trips) : Fin 2 → Nat :=
  let c0_i32_19 : BitVec 32 := 0#32
  let c1_i32 : BitVec 32 := 1#32
  let arg13 : BitVec 32 := Scf.iv c0_i32_19 c1_i32 k0_t1
  let c16_i32 : BitVec 32 := 16#32
  let v30 : BitVec 32 := Scalar.muli arg13 c16_i32
  let v31 : BitVec 32 := v30
  let v50 : Index := Scalar.indexCast v31
  let c0_26 : Index := 0#32
  ![v50.toNat, 0]
def k0_cond2 (i : grid0.Coords) : BitVec 1 :=
  let arg2 : BitVec 32 := BitVec.ofNat 32 (i 2).val
  let c0_i32_5 : BitVec 32 := 0#32
  let v11 : BitVec 1 := Scalar.cmpi .eq arg2 c0_i32_5
  let v12 : BitVec 32 := Scalar.extui v11
  let c0_i32_6 : BitVec 32 := 0#32
  let v13 : BitVec 1 := Scalar.cmpi .ne v12 c0_i32_6
  v13

def k0_cond3 (i : grid0.Coords) : BitVec 1 :=
  let arg2 : BitVec 32 := BitVec.ofNat 32 (i 2).val
  let c0_i32_7 : BitVec 32 := 0#32
  let v14 : BitVec 1 := Scalar.cmpi .ne arg2 c0_i32_7
  let v15 : BitVec 32 := Scalar.extui v14
  let c0_i32_8 : BitVec 32 := 0#32
  let v16 : BitVec 1 := Scalar.cmpi .ne v15 c0_i32_8
  v16

def k0_cond4 (i : grid0.Coords) : BitVec 1 :=
  let arg2 : BitVec 32 := BitVec.ofNat 32 (i 2).val
  let c15_i32 : BitVec 32 := 15#32
  let v17 : BitVec 1 := Scalar.cmpi .eq arg2 c15_i32
  let v18 : BitVec 32 := Scalar.extui v17
  let c0_i32_9 : BitVec 32 := 0#32
  let v19 : BitVec 1 := Scalar.cmpi .ne v18 c0_i32_9
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference2Ideal.lean ====
abbrev S2x16384x2048 : Shape := ⟨3, ![2, 16384, 2048]⟩
abbrev S2048 : Shape := ⟨1, ![2048]⟩
abbrev S2x1x2048 : Shape := ⟨3, ![2, 1, 2048]⟩
abbrev S2048x8192 : Shape := ⟨2, ![2048, 8192]⟩
abbrev S8192x2048 : Shape := ⟨2, ![8192, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x8192 : Shape := ⟨3, ![2, 16384, 8192]⟩

abbrev nBuf : Space → Nat
  | .hbm => 56
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x8192, .f32⟩
  | .hbm, ⟨6, _⟩ => ⟨S8192x2048, .f32⟩
  | .hbm, ⟨7, _⟩ => ⟨S2048, .f32⟩
  | .hbm, ⟨8, _⟩ => ⟨S2x16384x2048, .f32⟩
  | .hbm, ⟨9, _⟩ => ⟨S_, .f32⟩
  | .hbm, ⟨10, _⟩ => ⟨S2x16384, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S2x16384x1, .f32⟩
  | .hbm, ⟨19, _⟩ => ⟨S2x16384x2048, .f32⟩
  | .hbm, ⟨20, _⟩ => ⟨S2x16384x2048, .f32⟩
  | .hbm, ⟨21, _⟩ => ⟨S1x1x2048, .f32⟩
  | .hbm, ⟨22, _⟩ => ⟨S2x16384x2048, .f32⟩
  | .hbm, ⟨23, _⟩ => ⟨S2x16384x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | .hbm, ⟨31, _⟩ => ⟨S2x16384x8192, .f32⟩
  | .hbm, ⟨32, _⟩ => ⟨S_, .f32⟩
  | .hbm, ⟨33, _⟩ => ⟨S2x16384x8192, .f32⟩
  | .hbm, ⟨34, _⟩ => ⟨S2x16384x8192, .f32⟩
  | .hbm, ⟨35, _⟩ => ⟨S2x16384x8192, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | .hbm, ⟨39, _⟩ => ⟨S2x16384x2048, .f32⟩
  | .hbm, ⟨40, _⟩ => ⟨S2x16384x2048, .f32⟩
  | .hbm, ⟨41, _⟩ => ⟨S_, .f32⟩
  | .hbm, ⟨42, _⟩ => ⟨S2x16384, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S_, .f32⟩
  | .hbm, ⟨48, _⟩ => ⟨S2x16384x1, .f32⟩
  | .hbm, ⟨49, _⟩ => ⟨S2x16384x1, .f32⟩
  | .hbm, ⟨50, _⟩ => ⟨S2x16384x1, .f32⟩
  | .hbm, ⟨51, _⟩ => ⟨S2x16384x2048, .f32⟩
  | .hbm, ⟨52, _⟩ => ⟨S2x16384x2048, .f32⟩
  | .hbm, ⟨53, _⟩ => ⟨S1x1x2048, .f32⟩
  | .hbm, ⟨54, _⟩ => ⟨S2x16384x2048, .f32⟩
  | .hbm, ⟨55, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel3.lean ====
abbrev S2x16384x2048 : Shape := ⟨3, ![2, 16384, 2048]⟩
abbrev S2048 : Shape := ⟨1, ![2048]⟩
abbrev S2x1x2048 : Shape := ⟨3, ![2, 1, 2048]⟩
abbrev S2048x8192 : Shape := ⟨2, ![2048, 8192]⟩
abbrev S8192x2048 : Shape := ⟨2, ![8192, 2048]⟩
abbrev S1x2048 : Shape := ⟨2, ![1, 2048]⟩
abbrev S1x1024x2048 : Shape := ⟨3, ![1, 1024, 2048]⟩
abbrev S1x1x2048 : Shape := ⟨3, ![1, 1, 2048]⟩
abbrev S2048x512 : Shape := ⟨2, ![2048, 512]⟩
abbrev S512x2048 : Shape := ⟨2, ![512, 2048]⟩
abbrev S1024x2048 : Shape := ⟨2, ![1024, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S1024x512 : Shape := ⟨2, ![1024, 512]⟩
abbrev S512x512 : Shape := ⟨2, ![512, 512]⟩
abbrev S1x1024x512 : Shape := ⟨3, ![1, 1024, 512]⟩
abbrev S1x128x2048 : Shape := ⟨3, ![1, 128, 2048]⟩
abbrev S128x2048 : Shape := ⟨2, ![128, 2048]⟩

abbrev nBuf : Space → Nat
  | .hbm => 11
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x8192, .f32⟩
  | .hbm, ⟨6, _⟩ => ⟨S8192x2048, .f32⟩
  | .hbm, ⟨7, _⟩ => ⟨S1x2048, .f32⟩
  | .hbm, ⟨8, _⟩ => ⟨S2048x8192, .bf16⟩
  | .hbm, ⟨9, _⟩ => ⟨S8192x2048, .bf16⟩
  | .hbm, ⟨10, _⟩ => ⟨S2x16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S1x1024x2048, .f32⟩
  | .local _ .vmem, ⟨14, _⟩ => ⟨S1x1024x2048, .f32⟩
  | .local _ .vmem, ⟨15, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 16, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c64_i32 : BitVec 32 := 64#32
  let v29 : BitVec 32 := Scalar.addi c0_i32_19 c64_i32
  let c1_i32 : BitVec 32 := 1#32
  ⟨c0_i32_19, v29, c1_i32⟩
def k0_mult1 (k0_t1 : Fin k0_t1_loop.trips) : BitVec 32 :=
  let c0_i32_19 : BitVec 32 := 0#32
  let c1_i32 : BitVec 32 := 1#32
  let arg12 : BitVec 32 := Scf.iv c0_i32_19 c1_i32 k0_t1
  let c16_i32 : BitVec 32 := 16#32
  let v30 : BitVec 32 := Scalar.muli arg12 c16_i32
  v30
def k0_off1 (k0_t1 : Fin k0_t1_loop.trips) : Fin 3 → Nat :=
  let c0_21 : Index := 0#32
  let c0_i32_19 : BitVec 32 := 0#32
  let c1_i32 : BitVec 32 := 1#32
  let arg12 : BitVec 32 := Scf.iv c0_i32_19 c1_i32 k0_t1
  let c16_i32 : BitVec 32 := 16#32
  let v30 : BitVec 32 := Scalar.muli arg12 c16_i32
  let v31 : BitVec 32 := v30
  let v32 : Index := Scalar.indexCast v31
  let c0_22 : Index := 0#32
  ![0, v32.toNat, 0]
def k0_off2 (k0_t1 : Fin k0_t1_loop.trips) : Fin 2 → Nat :=
  let c0_i32_19 : BitVec 32 := 0#32
  let c1_i32 : BitVec 32 := 1#32
  let arg12 : BitVec 32 := Scf.iv c0_i32_19 c1_i32 k0_t1
  let c16_i32 : BitVec 32 := 16#32
  let v30 : BitVec 32 := Scalar.muli arg12 c16_i32
  let v31 : BitVec 32 := v30
  let v50 : Index := Scalar.indexCast v31
  let c0_26 : Index := 0#32
  ![v50.toNat, 0]
def k0_cond2 (i : grid0.Coords) : BitVec 1 :=
  let arg2 : BitVec 32 := BitVec.ofNat 32 (i 2).val
  let c0_i32_5 : BitVec 32 := 0#32
  let v11 : BitVec 1 := Scalar.cmpi .eq arg2 c0_i32_5
  let v12 : BitVec 32 := Scalar.extui v11
  let c0_i32_6 : BitVec 32 := 0#32
  let v13 : BitVec 1 := Scalar.cmpi .ne v12 c0_i32_6
  v13

def k0_cond3 (i : grid0.Coords) : BitVec 1 :=
  let arg2 : BitVec 32 := BitVec.ofNat 32 (i 2).val
  let c0_i32_7 : BitVec 32 := 0#32
  let v14 : BitVec 1 := Scalar.cmpi .ne arg2 c0_i32_7
  let v15 : BitVec 32 := Scalar.extui v14
  let c0_i32_8 : BitVec 32 := 0#32
  let v16 : BitVec 1 := Scalar.cmpi .ne v15 c0_i32_8
  v16

def k0_cond4 (i : grid0.Coords) : BitVec 1 :=
  let arg2 : BitVec 32 := BitVec.ofNat 32 (i 2).val
  let c15_i32 : BitVec 32 := 15#32
  let v17 : BitVec 1 := Scalar.cmpi .eq arg2 c15_i32
  let v18 : BitVec 32 := Scalar.extui v17
  let c0_i32_9 : BitVec 32 := 0#32
  let v19 : BitVec 1 := Scalar.cmpi .ne v18 c0_i32_9
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference3Ideal.lean ====
abbrev S2x16384x2048 : Shape := ⟨3, ![2, 16384, 2048]⟩
abbrev S2048 : Shape := ⟨1, ![2048]⟩
abbrev S2x1x2048 : Shape := ⟨3, ![2, 1, 2048]⟩
abbrev S2048x8192 : Shape := ⟨2, ![2048, 8192]⟩
abbrev S8192x2048 : Shape := ⟨2, ![8192, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x8192 : Shape := ⟨3, ![2, 16384, 8192]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2x1x2048, .f32⟩
  | .hbm, ⟨5, _⟩ => ⟨S2048x8192, .f32⟩
  | .hbm, ⟨6, _⟩ => ⟨S8192x2048, .f32⟩
  | .hbm, ⟨7, _⟩ => ⟨S2x16384x2048, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x2048, .f32⟩
  | .hbm, ⟨19, _⟩ => ⟨S2x16384x2048, .f32⟩
  | .hbm, ⟨20, _⟩ => ⟨S1x1x2048, .f32⟩
  | .hbm, ⟨21, _⟩ => ⟨S2x16384x2048, .f32⟩
  | .hbm, ⟨22, _⟩ => ⟨S2x16384x2048, .f32⟩
  | .hbm, ⟨23, _⟩ => ⟨S_, .f32⟩
  | .hbm, ⟨24, _⟩ => ⟨S2x1x2048, .f32⟩
  | .hbm, ⟨25, _⟩ => ⟨S2x1x2048, .f32⟩
  | .hbm, ⟨26, _⟩ => ⟨S2x16384x2048, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S2x16384x8192, .f32⟩
  | .hbm, ⟨31, _⟩ => ⟨S_, .f32⟩
  | .hbm, ⟨32, _⟩ => ⟨S2x16384x8192, .f32⟩
  | .hbm, ⟨33, _⟩ => ⟨S2x16384x8192, .f32⟩
  | .hbm, ⟨34, _⟩ => ⟨S2x16384x8192, .f32⟩
  | .hbm, ⟨35, _⟩ => ⟨S2x16384x2048, .f32⟩
  | .hbm, ⟨36, _⟩ => ⟨S2x16384x2048, .f32⟩
  | .hbm, ⟨37, _⟩ => ⟨S2x16384x2048, .f32⟩
  | .hbm, ⟨38, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel4.lean ====
abbrev S2x16384x2048 : Shape := ⟨3, ![2, 16384, 2048]⟩
abbrev S2048 : Shape := ⟨1, ![2048]⟩
abbrev S2x1x2048 : Shape := ⟨3, ![2, 1, 2048]⟩
abbrev S2048x6656 : Shape := ⟨2, ![2048, 6656]⟩
abbrev S1x2048 : Shape := ⟨2, ![1, 2048]⟩
abbrev S16384 : Shape := ⟨1, ![16384]⟩
abbrev S_ : Shape := ⟨0, ![]⟩
abbrev S32 : Shape := ⟨1, ![32]⟩
abbrev S128 : Shape := ⟨1, ![128]⟩
abbrev S1x128 : Shape := ⟨2, ![1, 128]⟩
abbrev S16384x1 : Shape := ⟨2, ![16384, 1]⟩
abbrev S16384x128 : Shape := ⟨2, ![16384, 128]⟩
abbrev S128x1 : Shape := ⟨2, ![128, 1]⟩
abbrev S2x16384x6656 : Shape := ⟨3, ![2, 16384, 6656]⟩
abbrev S1x512x2048 : Shape := ⟨3, ![1, 512, 2048]⟩
abbrev S1x1x2048 : Shape := ⟨3, ![1, 1, 2048]⟩
abbrev S2048x3328 : Shape := ⟨2, ![2048, 3328]⟩
abbrev S512x128 : Shape := ⟨2, ![512, 128]⟩
abbrev S1x512x3328 : Shape := ⟨3, ![1, 512, 3328]⟩
abbrev S512x2048 : Shape := ⟨2, ![512, 2048]⟩
abbrev S1x32x2048 : Shape := ⟨3, ![1, 32, 2048]⟩
abbrev S32x2048 : Shape := ⟨2, ![32, 2048]⟩
abbrev S32x1 : Shape := ⟨2, ![32, 1]⟩
abbrev S512x3328 : Shape := ⟨2, ![512, 3328]⟩
abbrev S1x512x128 : Shape := ⟨3, ![1, 512, 128]⟩

abbrev nBuf : Space → Nat
  | .hbm => 143
  | .vmem => 19
  | .smem => 0
  | _ => 0

abbrev hbmTy0_0 (i : Nat) : BufTy := match i % 128 with
  | 0 => ⟨S2x16384x2048, .f32⟩
  | 1 => ⟨S2048, .f32⟩
  | 2 => ⟨S2x1x2048, .f32⟩
  | 3 => ⟨S2x1x2048, .f32⟩
  | 4 => ⟨S2048x6656, .f32⟩
  | 5 => ⟨S1x2048, .f32⟩
  | 6 => ⟨S2048x6656, .bf16⟩
  | 7 => ⟨S16384, .i32⟩
  | 8 => ⟨S_, .i32⟩
  | 9 => ⟨S_, .i32⟩
  | 10 => ⟨S16384, .i32⟩
  | 11 => ⟨S16384, .i32⟩
  | 12 => ⟨S16384, .i32⟩
  | 13 => ⟨S_, .i32⟩
  | 14 => ⟨S16384, .i32⟩
  | 15 => ⟨S16384, .i1⟩
  | 16 => ⟨S16384, .i32⟩
  | 17 => ⟨S16384, .i32⟩
  | 18 => ⟨S_, .i32⟩
  | 19 => ⟨S16384, .i32⟩
  | 20 => ⟨S16384, .i1⟩
  | 21 => ⟨S16384, .i1⟩
  | 22 => ⟨S_, .i32⟩
  | 23 => ⟨S16384, .i32⟩
  | 24 => ⟨S16384, .i32⟩
  | 25 => ⟨S16384, .i32⟩
  | 26 => ⟨S16384, .f32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S16384, .i32⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i1⟩
  | 41 => ⟨S_, .i32⟩
  | 42 => ⟨S_, .i1⟩
  | 43 => ⟨S16384, .i1⟩
  | 44 => ⟨S16384, .i1⟩
  | 45 => ⟨S16384, .i1⟩
  | 46 => ⟨S16384, .i32⟩
  | 47 => ⟨S16384, .i32⟩
  | 48 => ⟨S16384, .i32⟩
  | 49 => ⟨S16384, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S128, .i32⟩
  | 59 => ⟨S_, .i32⟩
  | 60 => ⟨S128, .i32⟩
  | 61 => ⟨S128, .i1⟩
  | 62 => ⟨S1x128, .i1⟩
  | 63 => ⟨S16384x1, .f32⟩
  | 64 => ⟨S16384x1, .f32⟩
  | 65 => ⟨S16384x128, .i1⟩
  | 66 => ⟨S16384x128, .f32⟩
  | 67 => ⟨S16384x128, .f32⟩
  | 68 => ⟨S16384x128, .f32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S128, .i32⟩
  | 76 => ⟨S128, .i32⟩
  | 77 => ⟨S_, .i32⟩
  | 78 => ⟨S128, .i32⟩
  | 79 => ⟨S128, .i1⟩
  | 80 => ⟨S_, .i32⟩
  | 81 => ⟨S128, .i32⟩
  | 82 => ⟨S128, .i1⟩
  | 83 => ⟨S_, .i32⟩
  | 84 => ⟨S_, .i1⟩
  | 85 => ⟨S128, .i1⟩
  | 86 => ⟨S128, .i1⟩
  | 87 => ⟨S128, .i1⟩
  | 88 => ⟨S128, .i32⟩
  | 89 => ⟨S128, .i32⟩
  | 90 => ⟨S128, .i32⟩
  | 91 => ⟨S_, .i32⟩
  | 92 => ⟨S128, .i32⟩
  | 93 => ⟨S128, .i1⟩
  | 94 => ⟨S_, .i32⟩
  | 95 => ⟨S128, .i32⟩
  | 96 => ⟨S128, .i32⟩
  | 97 => ⟨S128, .i32⟩
  | 98 => ⟨S128x1, .i32⟩
  | 99 => ⟨S128, .f32⟩
  | 100 => ⟨S1x128, .f32⟩
  | 101 => ⟨S16384x128, .f32⟩
  | 102 => ⟨S16384x128, .f32⟩
  | 103 => ⟨S16384x128, .f32⟩
  | 104 => ⟨S16384x128, .f32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S128, .i32⟩
  | 112 => ⟨S128, .i32⟩
  | 113 => ⟨S_, .i32⟩
  | 114 => ⟨S128, .i32⟩
  | 115 => ⟨S128, .i1⟩
  | 116 => ⟨S_, .i32⟩
  | 117 => ⟨S128, .i32⟩
  | 118 => ⟨S128, .i1⟩
  | 119 => ⟨S_, .i32⟩
  | 120 => ⟨S_, .i1⟩
  | 121 => ⟨S128, .i1⟩
  | 122 => ⟨S128, .i1⟩
  | 123 => ⟨S128, .i1⟩
  | 124 => ⟨S128, .i32⟩
  | 125 => ⟨S128, .i32⟩
  | 126 => ⟨S128, .i32⟩
  | 127 => ⟨S_, .i32⟩
  | _ => ⟨S2x16384x2048, .f32⟩

abbrev hbmTy0_1 (i : Nat) : BufTy := match i % 128 with
  | 0 => ⟨S128, .i32⟩
  | 1 => ⟨S128, .i1⟩
  | 2 => ⟨S1x128, .i1⟩
  | 3 => ⟨S16384x128, .f32⟩
  | 4 => ⟨S_, .f32⟩
  | 5 => ⟨S_, .f32⟩
  | 6 => ⟨S16384x128, .i1⟩
  | 7 => ⟨S16384x128, .f32⟩
  | 8 => ⟨S16384x128, .f32⟩
  | 9 => ⟨S_, .f32⟩
  | 10 => ⟨S_, .f32⟩
  | 11 => ⟨S16384x128, .i1⟩
  | 12 => ⟨S16384x128, .f32⟩
  | 13 => ⟨S16384x128, .f32⟩
  | 14 => ⟨S2x16384x6656, .f32⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x3328, .bf16⟩
  | .local _ .vmem, ⟨8, _⟩ => ⟨S2048x3328, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512x3328, .f32⟩
  | .local _ .vmem, ⟨16, _⟩ => ⟨S1x512x3328, .f32⟩
  | .local _ .vmem, ⟨17, _⟩ => ⟨S512x2048, .bf16⟩
  | .local _ .vmem, ⟨18, _⟩ => ⟨S512x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_call1_v0 : Ref sig .tc := ⟨.hbm, 28, rfl⟩
abbrev main_call1_c : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_v5 : Ref sig .tc := ⟨.hbm, 36, rfl⟩
abbrev main_call1_v6 : Ref sig .tc := ⟨.hbm, 37, rfl⟩
abbrev main_call1_c_2 : Ref sig .tc := ⟨.hbm, 38, rfl⟩
abbrev main_call1_v7 : Ref sig .tc := ⟨.hbm, 39, rfl⟩
abbrev main_call1_v8 : Ref sig .tc := ⟨.hbm, 40, rfl⟩
abbrev main_call1_c_3 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_cst : Ref sig .tc := ⟨.hbm, 52, rfl⟩
abbrev main_v9 : Ref sig .tc := ⟨.hbm, 53, rfl⟩
abbrev main_v10 : Ref sig .tc := ⟨.hbm, 54, rfl⟩
abbrev main_cst_1 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_c_2 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v19 : Ref sig .tc := ⟨.hbm, 68, rfl⟩
abbrev main_c_3 : Ref sig .tc := ⟨.hbm, 69, rfl⟩
abbrev main_call3_v0 : Ref sig .tc := ⟨.hbm, 70, rfl⟩
abbrev main_call3_c : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_1 : Ref sig .tc := ⟨.hbm, 77, rfl⟩
abbrev main_call3_v5 : Ref sig .tc := ⟨.hbm, 78, rfl⟩
abbrev main_call3_v6 : Ref sig .tc := ⟨.hbm, 79, rfl⟩
abbrev main_call3_c_2 : Ref sig .tc := ⟨.hbm, 80, rfl⟩
abbrev main_call3_v7 : Ref sig .tc := ⟨.hbm, 81, rfl⟩
abbrev main_call3_v8 : Ref sig .tc := ⟨.hbm, 82, rfl⟩
abbrev main_call3_c_3 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_v20 : Ref sig .tc := ⟨.hbm, 90, rfl⟩
abbrev main_c_4 : Ref sig .tc := ⟨.hbm, 91, rfl⟩
abbrev main_v21 : Ref sig .tc := ⟨.hbm, 92, rfl⟩
abbrev main_v22 : Ref sig .tc := ⟨.hbm, 93, rfl⟩
abbrev main_c_5 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_v27 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_c_6 : Ref sig .tc := ⟨.hbm, 105, rfl⟩
abbrev main_call4_v0 : Ref sig .tc := ⟨.hbm, 106, rfl⟩
abbrev main_call4_c : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_c_1 : Ref sig .tc := ⟨.hbm, 113, rfl⟩
abbrev main_call4_v5 : Ref sig .tc := ⟨.hbm, 114, rfl⟩
abbrev main_call4_v6 : Ref sig .tc := ⟨.hbm, 115, rfl⟩
abbrev main_call4_c_2 : Ref sig .tc := ⟨.hbm, 116, rfl⟩
abbrev main_call4_v7 : Ref sig .tc := ⟨.hbm, 117, rfl⟩
abbrev main_call4_v8 : Ref sig .tc := ⟨.hbm, 118, rfl⟩
abbrev main_call4_c_3 : Ref sig .tc := ⟨.hbm, 119, rfl⟩
abbrev main_call4_v9 : Ref sig .tc := ⟨.hbm, 120, rfl⟩
abbrev main_call4_v10 : Ref sig .tc := ⟨.hbm, 121, rfl⟩
abbrev main_call4_v11 : Ref sig .tc := ⟨.hbm, 122, rfl⟩
abbrev main_call4_v12 : Ref sig .tc := ⟨.hbm, 123, rfl⟩
abbrev main_call4_v13 : Ref sig .tc := ⟨.hbm, 124, rfl⟩
abbrev main_call4_v14 : Ref sig .tc := ⟨.hbm, 125, rfl⟩
abbrev main_v33 : Ref sig .tc := ⟨.hbm, 126, rfl⟩
abbrev main_c_7 : Ref sig .tc := ⟨.hbm, 127, rfl⟩
abbrev main_v34 : Ref sig .tc := ⟨.hbm, 128, rfl⟩
abbrev main_v35 : Ref sig .tc := ⟨.hbm, 129, rfl⟩
abbrev main_v36 : Ref sig .tc := ⟨.hbm, 130, rfl⟩
abbrev main_v37 : Ref sig .tc := ⟨.hbm, 131, rfl⟩
abbrev main_cst_8 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_v38 : Ref sig .tc := ⟨.hbm, 136, rfl⟩
abbrev main_cst_9 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v39 : Ref sig .tc := ⟨.hbm, 141, rfl⟩
abbrev main_v40 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 2, 33], ![false, false, false]⟩

def k0_cond2 (i : grid0.Coords) : BitVec 1 :=
  let arg2 : BitVec 32 := BitVec.ofNat 32 (i 2).val
  let c2_i32 : BitVec 32 := 2#32
  let c0_i32_3 : BitVec 32 := 0#32
  let v7 : BitVec 1 := Scalar.cmpi .eq c2_i32 c0_i32_3
  let c1_i32 : BitVec 32 := 1#32
  let v8 : BitVec 32 := Scalar.select v7 c1_i32 c2_i32
  let v9 : BitVec 32 := Scalar.remsi arg2 v8
  let c0_i32_5 : BitVec 32 := 0#32
  let v11 : BitVec 1 := Scalar.cmpi .slt v9 c0_i32_5
  let c0_i32_6 : BitVec 32 := 0#32
  let v12 : BitVec 1 := Scalar.cmpi .slt v8 c0_i32_6
  let v13 : BitVec 1 := Scalar.xori v11 v12
  let c0_i32_4 : BitVec 32 := 0#32
  let v10 : BitVec 1 := Scalar.cmpi .ne v9 c0_i32_4
  let v14 : BitVec 1 := Scalar.andi v13 v10
  let v15 : BitVec 32 := Scalar.addi v9 v8
  let v16 : BitVec 32 := Scalar.select v14 v15 v9
  let c0_i32_7 : BitVec 32 := 0#32
  let v17 : BitVec 1 := Scalar.cmpi .eq v16 c0_i32_7
  let v18 : BitVec 32 := Scalar.extui v17
  let c0_i32_8 : BitVec 32 := 0#32
  let v19 : BitVec 1 := Scalar.cmpi .ne v18 c0_i32_8
  v19

def k0_cond3 (i : grid0.Coords) : BitVec 1 :=
  let arg2 : BitVec 32 := BitVec.ofNat 32 (i 2).val
  let c2_i32_9 : BitVec 32 := 2#32
  let c0_i32_10 : BitVec 32 := 0#32
  let v20 : BitVec 1 := Scalar.cmpi .eq c2_i32_9 c0_i32_10
  let c1_i32_11 : BitVec 32 := 1#32
  let v21 : BitVec 32 := Scalar.select v20 c1_i32_11 c2_i32_9
  let v22 : BitVec 32 := Scalar.remsi arg2 v21
  let c0_i32_13 : BitVec 32 := 0#32
  let v24 : BitVec 1 := Scalar.cmpi .slt v22 c0_i32_13
  let c0_i32_14 : BitVec 32 := 0#32
  let v25 : BitVec 1 := Scalar.cmpi .slt v21 c0_i32_14
  let v26 : BitVec 1 := Scalar.xori v24 v25
  let c0_i32_12 : BitVec 32 := 0#32
  let v23 : BitVec 1 := Scalar.cmpi .ne v22 c0_i32_12
  let v27 : BitVec 1 := Scalar.andi v26 v23
  let v28 : BitVec 32 := Scalar.addi v22 v21
  let v29 : BitVec 32 := Scalar.select v27 v28 v22
  let c1_i32_15 : BitVec 32 := 1#32
  let v30 : BitVec 1 := Scalar.cmpi .eq v29 c1_i32_15
  let v31 : BitVec 32 := Scalar.extui v30
  let c0_i32_16 : BitVec 32 := 0#32
  let v32 : BitVec 1 := Scalar.cmpi .ne v31 c0_i32_16
  v32

def k0_cond4 (i : grid0.Coords) : BitVec 1 :=
  let arg0 : BitVec 32 := BitVec.ofNat 32 (i 0).val
  let c0_i32_17 : BitVec 32 := 0#32
  let v33 : BitVec 1 := Scalar.cmpi .eq arg0 c0_i32_17
  let v34 : BitVec 32 := Scalar.extui v33
  let c0_i32_18 : BitVec 32 := 0#32
  let v35 : BitVec 1 := Scalar.cmpi .ne v34 c0_i32_18
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.minsi arg2 c31_i32
  let c0_i32 : BitVec 32 := 0#32
  let c0_i32_0 : BitVec 32 := 0#32
  ![arg1.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg1.toNat, v1.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x3328 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x512x3328 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Reference4Ideal.lean ====
abbrev S2x16384x2048 : Shape := ⟨3, ![2, 16384, 2048]⟩
abbrev S2048 : Shape := ⟨1, ![2048]⟩
abbrev S2x1x2048 : Shape := ⟨3, ![2, 1, 2048]⟩
abbrev S2048x6656 : Shape := ⟨2, ![2048, 6656]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x6656 : Shape := ⟨3, ![2, 16384, 6656]⟩
abbrev S2x16384x1280 : Shape := ⟨3, ![2, 16384, 1280]⟩
abbrev S2x16384x10x128 : Shape := ⟨4, ![2, 16384, 10, 128]⟩
abbrev S32 : Shape := ⟨1, ![32]⟩
abbrev S2x16384x10x64 : Shape := ⟨4, ![2, 16384, 10, 64]⟩
abbrev S16384x1 : Shape := ⟨2, ![16384, 1]⟩
abbrev S1x32 : Shape := ⟨2, ![1, 32]⟩
abbrev S16384x32 : Shape := ⟨2, ![16384, 32]⟩
abbrev S1x16384x1x32 : Shape := ⟨4, ![1, 16384, 1, 32]⟩
abbrev S2x16384x10x32 : Shape := ⟨4, ![2, 16384, 10, 32]⟩
abbrev S2x16384x5376 : Shape := ⟨3, ![2, 16384, 5376]⟩

abbrev nBuf : Space → Nat
  | .hbm => 98
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2x1x2048, .f32⟩
  | .hbm, ⟨3, _⟩ => ⟨S2x1x2048, .f32⟩
  | .hbm, ⟨4, _⟩ => ⟨S2048x6656, .f32⟩
  | .hbm, ⟨5, _⟩ => ⟨S256, .i32⟩
  | .hbm, ⟨6, _⟩ => ⟨S256x64, .i32⟩
  | .hbm, ⟨7, _⟩ => ⟨S16384, .i32⟩
  | .hbm, ⟨8, _⟩ => ⟨S64, .i32⟩
  | .hbm, ⟨9, _⟩ => ⟨S1x64, .i32⟩
  | .hbm, ⟨10, _⟩ => ⟨S256x64, .i32⟩
  | .hbm, ⟨11, _⟩ => ⟨S16384, .i32⟩
  | .hbm, ⟨12, _⟩ => ⟨S2x16384x2048, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S1x1x2048, .f32⟩
  | .hbm, ⟨26, _⟩ => ⟨S2x16384x2048, .f32⟩
  | .hbm, ⟨27, _⟩ => ⟨S2x16384x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x16384x2048, .f32⟩
  | .hbm, ⟨32, _⟩ => ⟨S2x16384x2048, .f32⟩
  | .hbm, ⟨33, _⟩ => ⟨S2x16384x2048, .f32⟩
  | .hbm, ⟨34, _⟩ => ⟨S2x16384x2048, .f32⟩
  | .hbm, ⟨35, _⟩ => ⟨S2x16384x6656, .f32⟩
  | .hbm, ⟨36, _⟩ => ⟨S2x16384x1280, .f32⟩
  | .hbm, ⟨37, _⟩ => ⟨S2x16384x10x128, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S2x16384x10x64, .f32⟩
  | .hbm, ⟨47, _⟩ => ⟨S16384, .f32⟩
  | .hbm, ⟨48, _⟩ => ⟨S16384x1, .f32⟩
  | .hbm, ⟨49, _⟩ => ⟨S1x32, .f32⟩
  | .hbm, ⟨50, _⟩ => ⟨S16384x32, .f32⟩
  | .hbm, ⟨51, _⟩ => ⟨S16384x32, .f32⟩
  | .hbm, ⟨52, _⟩ => ⟨S16384x32, .f32⟩
  | .hbm, ⟨53, _⟩ => ⟨S16384x32, .f32⟩
  | .hbm, ⟨54, _⟩ => ⟨S1x16384x1x32, .f32⟩
  | .hbm, ⟨55, _⟩ => ⟨S16384x32, .f32⟩
  | .hbm, ⟨56, _⟩ => ⟨S1x16384x1x32, .f32⟩
  | .hbm, ⟨57, _⟩ => ⟨S2x16384x10x32, .f32⟩
  | .hbm, ⟨58, _⟩ => ⟨S2x16384x10x32, .f32⟩
  | .hbm, ⟨59, _⟩ => ⟨S2x16384x10x32, .f32⟩
  | .hbm, ⟨60, _⟩ => ⟨S2x16384x10x32, .f32⟩
  | .hbm, ⟨61, _⟩ => ⟨S2x16384x10x32, .f32⟩
  | .hbm, ⟨62, _⟩ => ⟨S2x16384x10x32, .f32⟩
  | .hbm, ⟨63, _⟩ => ⟨S2x16384x10x32, .f32⟩
  | .hbm, ⟨64, _⟩ => ⟨S2x16384x10x32, .f32⟩
  | .hbm, ⟨65, _⟩ => ⟨S2x16384x10x32, .f32⟩
  | .hbm, ⟨66, _⟩ => ⟨S2x16384x10x32, .f32⟩
  | .hbm, ⟨67, _⟩ => ⟨S2x16384x10x32, .f32⟩
  | .hbm, ⟨68, _⟩ => ⟨S2x16384x10x32, .f32⟩
  | .hbm, ⟨69, _⟩ => ⟨S2x16384x10x64, .f32⟩
  | .hbm, ⟨70, _⟩ => ⟨S2x16384x10x64, .f32⟩
  | .hbm, ⟨71, _⟩ => ⟨S16384, .f32⟩
  | .hbm, ⟨72, _⟩ => ⟨S16384x1, .f32⟩
  | .hbm, ⟨73, _⟩ => ⟨S1x32, .f32⟩
  | .hbm, ⟨74, _⟩ => ⟨S16384x32, .f32⟩
  | .hbm, ⟨75, _⟩ => ⟨S16384x32, .f32⟩
  | .hbm, ⟨76, _⟩ => ⟨S16384x32, .f32⟩
  | .hbm, ⟨77, _⟩ => ⟨S16384x32, .f32⟩
  | .hbm, ⟨78, _⟩ => ⟨S1x16384x1x32, .f32⟩
  | .hbm, ⟨79, _⟩ => ⟨S16384x32, .f32⟩
  | .hbm, ⟨80, _⟩ => ⟨S1x16384x1x32, .f32⟩
  | .hbm, ⟨81, _⟩ => ⟨S2x16384x10x32, .f32⟩
  | .hbm, ⟨82, _⟩ => ⟨S2x16384x10x32, .f32⟩
  | .hbm, ⟨83, _⟩ => ⟨S2x16384x10x32, .f32⟩
  | .hbm, ⟨84, _⟩ => ⟨S2x16384x10x32, .f32⟩
  | .hbm, ⟨85, _⟩ => ⟨S2x16384x10x32, .f32⟩
  | .hbm, ⟨86, _⟩ => ⟨S2x16384x10x32, .f32⟩
  | .hbm, ⟨87, _⟩ => ⟨S2x16384x10x32, .f32⟩
  | .hbm, ⟨88, _⟩ => ⟨S2x16384x10x32, .f32⟩
  | .hbm, ⟨89, _⟩ => ⟨S2x16384x10x32, .f32⟩
  | .hbm, ⟨90, _⟩ => ⟨S2x16384x10x32, .f32⟩
  | .hbm, ⟨91, _⟩ => ⟨S2x16384x10x32, .f32⟩
  | .hbm, ⟨92, _⟩ => ⟨S2x16384x10x32, .f32⟩
  | .hbm, ⟨93, _⟩ => ⟨S2x16384x10x64, .f32⟩
  | .hbm, ⟨94, _⟩ => ⟨S2x16384x10x128, .f32⟩
  | .hbm, ⟨95, _⟩ => ⟨S2x16384x1280, .f32⟩
  | .hbm, ⟨96, _⟩ => ⟨S2x16384x5376, .f32⟩
  | .hbm, ⟨97, _⟩ => ⟨S2x16384x6656, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩

abbrev nD : Nat := 1
abbrev τ : Topo := Topo.v7x

variable {F : FTy → Type} [FloatOps F]
-- ==== Proof.Attn.Finite.lean ====
/- What the precondition says of the entries: the sinks, the queries and the keys are real numbers. -/
module

public import proofs.«01_k».proof.Pre_finite_scores
public import Idealize.ShloMosaic.Lib.Pointwise

@[expose] public section
set_option maxRecDepth 16384
noncomputable section
namespace Cert.Pre_finite_scores.Attn
open Idealize.ShloMosaic Idealize.ShloMosaic.TcCoe Idealize.SL.Sem
open Cert.Pre_finite_scores

/-- The side conditions of the precondition's operations. -/
instance facts : Cert.Pre_finite_scores.Facts where
  bcast_S_S1x8 := by decide
  slices_S2x16384x6656_S2x16384x1280_0_0_0 := by decide
  bcast_S_S2x16384x1280 := by decide
  slices_S2x256x6656_S2x256x256_0_0_1024 := by decide
  bcast_S_S2x256x256 := by decide

theorem ofBits_inf : Ideal.ofBits .f32 0x7F800000#32 = (⊤ : EReal) := by
  simp [Ideal.ofBits, Ideal.ieee]

/-- An entry that passes the test is a real number. -/
theorem real_of_test {x : EReal} (h : Ideal.cmp .olt (max x (-x)) ⊤ = 1#1) : ((x.toReal : ℝ) : EReal) = x := by
  have hlt : max x (-x) < ⊤ := by
    by_contra hn
    rw [Ideal.cmp] at h
    simp [hn] at h
  refine EReal.coe_toReal ?_ ?_
  · rintro rfl; simp at hlt
  · rintro rfl; simp at hlt

variable (s : FVec Ideal S1x8 .f32) (p : FVec Ideal S2x16384x6656 .f32) (pc : FVec Ideal S2x256x6656 .f32)

theorem sink_real (h : (fn (F := Ideal) s p pc).1 = fun _ => 1#1) (i : Fin 8) : (((s (ix2 0 i)).toReal : ℝ) : EReal) = s (ix2 0 i) := by
  apply real_of_test
  rw [← ofBits_inf]
  refine Eq.trans ?_ (congrFun h (ix2 0 i))
  symm
  pointwise [fn]
  rfl

theorem lat_real (h : (fn (F := Ideal) s p pc).2.1 = fun _ => 1#1) (b : Fin 2) (t : Fin 16384) (d : Fin 6656) (hd : d.val < 1280) :
    (((p (ix3 b t d)).toReal : ℝ) : EReal) = p (ix3 b t d) := by
  apply real_of_test
  rw [← ofBits_inf]
  refine Eq.trans ?_ (congrFun h (ix3 b t ⟨d.val, hd⟩))
  symm
  pointwise [fn]
  rfl

theorem ctx_real (h : (fn (F := Ideal) s p pc).2.2 = fun _ => 1#1) (b : Fin 2) (t : Fin 256) (d : Fin 256) :
    (((pc (ix3 b t ⟨1024 + d.val, by omega⟩)).toReal : ℝ) : EReal) = pc (ix3 b t ⟨1024 + d.val, by omega⟩) := by
  apply real_of_test
  rw [← ofBits_inf]
  refine Eq.trans ?_ (congrFun h (ix3 b t d))
  symm
  pointwise [fn]
  rfl

end Cert.Pre_finite_scores.Attn
-- ==== Proof.Attn.Head.lean ====
/- What one head of the window attention's body computes from its scores: the row of scores against the band of
   latent keys, the row against the context keys and the sink, all in base two, to one entry of the output; and the
   integer masks and selectors of the body, read at an index. -/
module

public import proofs.«01_k».proof.Proof.Gen.KernelIdeal.Skeleton
public import Idealize.ShloMosaic.Lib.Pointwise

@[expose] public section
set_option maxRecDepth 16384
noncomputable section
namespace Cert.KernelIdeal.Attn
open Idealize.ShloMosaic Idealize.ShloMosaic.TcCoe Idealize.SL.Sem
open Cert.KernelIdeal Cert.KernelIdeal.Gen

/-- A proposition as a one-bit word. -/
def bit (p : Prop) [Decidable p] : BitVec 1 := if p then 1#1 else 0#1

theorem select_bit {α : Type} (p : Prop) [Decidable p] (a b : α) : Scalar.select (bit p) a b = if p then a else b := by
  by_cases h : p <;> simp [bit, h, Scalar.select]

/-- One entry of a head's output, from the sink's score `z`, the scores `w` over the band and `c` over the context,
    and the entries `vw`, `vc` of the values: the weights are powers of two below the largest score, and the weighted
    sum is divided by the sum of the weights at the end. -/
def headOut (z : EReal) (w : Fin 384 → EReal) (c : Fin 256 → EReal) (vw : Fin 384 → EReal) (vc : Fin 256 → EReal) : EReal :=
  let mx := max (max z (Finset.univ.fold max ⊥ w)) (Finset.univ.fold max ⊥ c)
  Ideal.div ((∑ t, Ideal.exp2 (w t - mx) * vw t) + ∑ t, Ideal.exp2 (c t - mx) * vc t)
    ((Ideal.exp2 (z - mx) + ∑ t, Ideal.exp2 (w t - mx)) + ∑ t, Ideal.exp2 (c t - mx))

theorem ofBits_neg_inf : Ideal.ofBits .f32 0xFF800000#32 = (⊥ : EReal) := by
  simp [Ideal.ofBits, Ideal.ieee]

/-- The factor of the scores, `(√128)⁻¹ (log 2)⁻¹`, as the kernel names it. -/
abbrev sc2 : EReal := (Named.named κ "scale2" 0x3E0293EE#32 : Ideal .f32)
/-- The factor of the sinks, `(log 2)⁻¹`, as the kernel names it. -/
abbrev l2e : EReal := (Named.named κ "log2e" 0x3FB8AA3B#32 : Ideal .f32)

theorem pay15_at (v64 : FVec Ideal S512x384 .f32) (v71 : FVec Ideal S512x256 .f32) (v73 : FVec Ideal S384x128 .bf16)
    (v77 : FVec Ideal S256x128 .bf16) (v119 : FVec Ideal S512x1 .f32) (i : Fin 512) (d : Fin 128) :
    Gen.k0_pay15 v64 v71 v73 v77 v119 (ix2 i d)
      = headOut (v119 (ix2 i 0) * l2e) (fun t => v64 (ix2 i t)) (fun t => v71 (ix2 i t)) (fun t => v73 (ix2 t d))
          (fun t => v77 (ix2 t d)) := by
  unfold headOut
  pointwise! [Gen.k0_pay15, ofBits_neg_inf]

theorem pay33_at (v181 : FVec Ideal S512x384 .f32) (v188 : FVec Ideal S512x256 .f32) (v190 : FVec Ideal S384x128 .bf16)
    (v194 : FVec Ideal S256x128 .bf16) (v195 : IVec S512x1 32) (w : BitVec 32) (v197 v200 : IVec S512x1 32)
    (v202 : IVec S512x1 1) (a b c e : Ideal .f32) (i : Fin 512) (d : Fin 128) :
    Gen.k0_pay33 v188 v190 v194 (k0_pay30 v181 v188 v195 w v197 v200 v202 a b c e)
        (k0_pay31 v181 v188 v195 w v197 v200 v202 a b c e) (k0_pay32 v181 v188 v195 w v197 v200 v202 a b c e) (ix2 i d)
      = headOut (k0_pay29 (F := Ideal) v195 w v197 v200 v202 a b c e (ix2 i 0)) (fun t => v181 (ix2 i t)) (fun t => v188 (ix2 i t))
          (fun t => v190 (ix2 t d)) (fun t => v194 (ix2 t d)) := by
  unfold headOut
  pointwise! [Gen.k0_pay33, Gen.k0_pay30, Gen.k0_pay31, Gen.k0_pay32, ofBits_neg_inf]

/-! ## The mask of the band -/

/-- The body's remainder of a row by the window's length, a word. -/
def remWord (i : BitVec 32) : BitVec 32 :=
  Scalar.select
    (IntOp.andi
      (IntOp.xori
        (IntOp.cmpi CmpIPredicate.slt
          (IntOp.remsi ArithUnit.vector i (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
      (IntOp.cmpi CmpIPredicate.ne
        (IntOp.remsi ArithUnit.vector i (Scalar.select (Scalar.cmpi CmpIPredicate.eq 128#32 0#32) 1#32 128#32)) 0#32))
    (IntOp.addi
      (IntOp.remsi ArithUnit.vector i (Scalar.select (Scalar.cmpi CmpIPredicate.eq 128#32 0#32) 1#32 128#32))
      (Scalar.select (Scalar.cmpi CmpIPredicate.eq 128#32 0#32) 1#32 128#32))
    (IntOp.remsi ArithUnit.vector i (Scalar.select (Scalar.cmpi CmpIPredicate.eq 128#32 0#32) 1#32 128#32))

theorem remWord_row : ∀ (g : Fin 4) (r : Fin 128), remWord (BitVec.ofNat 32 (g.val * 128 + r.val)) = BitVec.ofNat 32 r.val := by
  decide +kernel

theorem near_word_shift : ∀ e : Fin 512, IntOp.cmpi CmpIPredicate.sle (IntOp.absi (BitVec.ofNat 32 e.val - 256#32)) 128#32
    = bit (128 ≤ e.val ∧ e.val ≤ 384) := by
  decide +kernel

theorem near_word (r : Fin 128) (t : Fin 384) :
    IntOp.cmpi CmpIPredicate.sle (IntOp.absi (IntOp.subi (IntOp.subi (BitVec.ofNat 32 t.val) 128#32) (BitVec.ofNat 32 r.val))) 128#32
      = bit (r.val ≤ t.val ∧ t.val ≤ r.val + 256) := by
  have hr := r.isLt
  have ht := t.isLt
  have e : IntOp.subi (IntOp.subi (BitVec.ofNat 32 t.val) 128#32) (BitVec.ofNat 32 r.val)
      = BitVec.ofNat 32 (t.val + 128 - r.val) - 256#32 := by
    show BitVec.ofNat 32 t.val - 128#32 - BitVec.ofNat 32 r.val = _
    apply BitVec.eq_of_toNat_eq
    simp only [BitVec.toNat_sub, BitVec.toNat_ofNat]
    omega
  rw [e, near_word_shift ⟨t.val + 128 - r.val, by omega⟩]
  unfold bit
  refine if_congr ?_ rfl rfl
  show 128 ≤ t.val + 128 - r.val ∧ t.val + 128 - r.val ≤ 384 ↔ _
  omega

theorem first_word : ∀ t : Fin 384, IntOp.cmpi CmpIPredicate.sge (BitVec.ofNat 32 t.val) 128#32 = bit (128 ≤ t.val) := by
  decide +kernel
theorem last_word : ∀ t : Fin 384, IntOp.cmpi CmpIPredicate.slt (BitVec.ofNat 32 t.val) 256#32 = bit (t.val < 256) := by
  decide +kernel
theorem not_first_word : ∀ n : Fin 128, Scalar.cmpi CmpIPredicate.sgt (BitVec.ofNat 32 n.val) 0#32 = bit (0 < n.val) := by
  decide +kernel
theorem not_last_word : ∀ n : Fin 128, Scalar.cmpi CmpIPredicate.slt (BitVec.ofNat 32 n.val) 127#32 = bit (n.val < 127) := by
  decide +kernel

theorem and_bit (p q : Prop) [Decidable p] [Decidable q] : IntOp.andi (bit p) (bit q) = bit (p ∧ q) := by
  by_cases hp : p <;> by_cases hq : q <;> simp [bit, hp, hq, IntOp.andi]
theorem or_bit (p q : Prop) [Decidable p] [Decidable q] : IntOp.ori (bit p) (bit q) = bit (p ∨ q) := by
  by_cases hp : p <;> by_cases hq : q <;> simp [bit, hp, hq, IntOp.ori]

/-- Which keys of the band of block `n` its row `r` attends to: those at most the window's length away, of a block
    that exists. -/
abbrev seen (n : ℕ) (r : ℕ) (t : ℕ) : Prop :=
  ((r ≤ t ∧ t ≤ r + 256) ∧ (128 ≤ t ∨ 0 < n)) ∧ (t < 256 ∨ n < 127)

theorem pay8_at (n : Fin 128) (g : Fin 4) (r : Fin 128) (t : Fin 384) :
    Gen.k0_pay8 (BitVec.ofNat 32 n.val) k0_pay5 k0_pay6 k0_pay7 (ix2 ⟨g.val * 128 + r.val, by omega⟩ t)
      = bit (seen n.val r.val t.val) := by
  pointwise [Gen.k0_pay8, k0_pay5, k0_pay6, k0_pay7]
  have h := remWord_row g r
  unfold remWord at h
  rw [h, near_word, first_word, last_word, not_first_word, not_last_word, or_bit, or_bit, and_bit, and_bit]

/-! ## The sink of a row -/

/-- The body's quotient of a row by the window's length, rounded down, a word. -/
def divWord (i : BitVec 32) : BitVec 32 :=
  Scalar.select
    (IntOp.andi
      (IntOp.cmpi CmpIPredicate.ne
        (IntOp.subi (BitVec.setWidth 32 (IntOp.cmpi CmpIPredicate.sgt i 0#32))
          (BitVec.setWidth 32 (IntOp.cmpi CmpIPredicate.slt i 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector i 128#32) 0#32))
    (IntOp.subi (IntOp.divsi ArithUnit.vector i 128#32) 1#32)
    (IntOp.divsi ArithUnit.vector i 128#32)

theorem divWord_row : ∀ (g : Fin 4) (r : Fin 128), divWord (BitVec.ofNat 32 (g.val * 128 + r.val)) = BitVec.ofNat 32 g.val := by
  decide +kernel

theorem pay14_at (a b c e : Ideal .f32) (g : Fin 4) (r : Fin 128) :
    Gen.k0_pay14 (F := Ideal) a b c e (ix2 ⟨g.val * 128 + r.val, by omega⟩ 0) = ![b, c, e, a] g := by
  pointwise [Gen.k0_pay14]
  have h := divWord_row g r
  unfold divWord at h
  simp only [h]
  fin_cases g <;> rfl

theorem pay29_at (a b c e : Ideal .f32) (g : Fin 4) (r : Fin 128) :
    Gen.k0_pay29 (F := Ideal) (iota .tc S512x1 32 [0] iota_S512x1_d0_w32) 128#32 k0_pay26 k0_pay27 k0_pay28 a b c e
      (ix2 ⟨g.val * 128 + r.val, by omega⟩ 0) = ![b, c, e, a] g * l2e := by
  pointwise [Gen.k0_pay29, k0_pay26, k0_pay27, k0_pay28]
  have h := divWord_row g r
  unfold divWord at h
  simp only [h]
  fin_cases g <;> rfl

/-! ## The queries of a head, stacked by rows, and the keys and values of its group -/

theorem pay9_at (v1 : FVec Ideal S128x1024 .f32) (g : Fin 4) (r : Fin 128) (d : Fin 128) :
    Gen.k0_pay9 v1 (ix2 ⟨g.val * 128 + r.val, by omega⟩ d) = v1 (ix2 r ⟨g.val * 128 + d.val, by omega⟩) := by
  pointwise [Gen.k0_pay9]
  split_ifs <;>
    first
      | (exfalso; omega)
      | exact congrArg v1 ((ix2_inj ..).2 ⟨Fin.ext (by dsimp only; omega), Fin.ext (by dsimp only; omega)⟩)

theorem pay21_at (v1 : FVec Ideal S128x1024 .f32) (g : Fin 4) (r : Fin 128) (d : Fin 128) :
    Gen.k0_pay21 v1 (ix2 ⟨g.val * 128 + r.val, by omega⟩ d) = v1 (ix2 r ⟨512 + g.val * 128 + d.val, by omega⟩) := by
  pointwise [Gen.k0_pay21]
  split_ifs <;>
    first
      | (exfalso; omega)
      | exact congrArg v1 ((ix2_inj ..).2 ⟨Fin.ext (by dsimp only; omega), Fin.ext (by dsimp only; omega)⟩)

/-- Row `t` of three stacked blocks of rows. -/
def band (a b c : FVec Ideal S1x128x256 .f32) (t : Fin 384) (d : Fin 256) : EReal :=
  if h : t.val < 128 then a (ix3 0 ⟨t.val, h⟩ d)
  else if h' : t.val - 128 < 128 then b (ix3 0 ⟨t.val - 128, h'⟩ d) else c (ix3 0 ⟨t.val - 128 - 128, by omega⟩ d)

theorem pay3_at (a b c : FVec Ideal S1x128x256 .f32) (t : Fin 384) (d : Fin 256) :
    Gen.k0_pay3 (F := Ideal) a b c (ix2 t d) = band a b c t d := by
  unfold band
  pointwise! [Gen.k0_pay3]

theorem pay4_at (a b c : FVec Ideal S1x128x256 .f32) (t : Fin 384) (d : Fin 256) :
    Gen.k0_pay4 (F := Ideal) a b c (ix2 t d) = band a b c t d := by
  unfold band
  pointwise! [Gen.k0_pay4]

/-! ## One head of one block -/

/-- The row `r`, head `h`, entry `d` of what the body computes at block `n` from the sinks `x0`, the queries `x1`, the
    keys `ka kb kc` and values `va vb vc` of the three latent blocks and the keys `x8` and values `x9` of the context. -/
def blockOut (n : ℕ) (x0 : FVec Ideal S8 .f32) (x1 : FVec Ideal S1x128x1024 .f32) (ka kb kc va vb vc : FVec Ideal S1x128x256 .f32)
    (x8 x9 : FVec Ideal S1x256x256 .f32) (h : Fin 8) (r : Fin 128) (d : Fin 128) : EReal :=
  headOut (x0 (ix1 h) * l2e)
    (fun t => if seen n r.val t.val then
      (∑ x : Fin 128, x1 (ix3 0 r ⟨h.val * 128 + x.val, by omega⟩) * band ka kb kc t ⟨h.val / 4 * 128 + x.val, by omega⟩) * sc2 else ⊥)
    (fun t => (∑ x : Fin 128, x1 (ix3 0 r ⟨h.val * 128 + x.val, by omega⟩) * x8 (ix3 0 t ⟨h.val / 4 * 128 + x.val, by omega⟩)) * sc2)
    (fun t => band va vb vc t ⟨h.val / 4 * 128 + d.val, by omega⟩)
    (fun t => x9 (ix3 0 t ⟨h.val / 4 * 128 + d.val, by omega⟩))

theorem head0_at (n : Fin 128) (x0 : FVec Ideal S8 .f32) (x1 : FVec Ideal S1x128x1024 .f32)
    (ka kb kc va vb vc : FVec Ideal S1x128x256 .f32) (x8 x9 : FVec Ideal S1x256x256 .f32) (g : Fin 4) (r : Fin 128) (d : Fin 128) :
    Gen.k0_pay15 (F := Ideal) (k0_pay10 (BitVec.ofNat 32 n.val) (k0_pay2 x1) (k0_pay3 ka kb kc) k0_pay5 k0_pay6 k0_pay7)
        (k0_pay11 (k0_pay2 x1) x8) (k0_pay12 (k0_pay4 va vb vc)) (k0_pay13 x9)
        (k0_pay14 (x0 (ix1 3)) (x0 (ix1 0)) (x0 (ix1 1)) (x0 (ix1 2))) (ix2 ⟨g.val * 128 + r.val, by omega⟩ d)
      = blockOut n.val x0 x1 ka kb kc va vb vc x8 x9 ⟨g.val, by omega⟩ r d := by
  rw [pay15_at, pay14_at]
  unfold blockOut
  have hg : g.val / 4 = 0 := by omega
  congr 1
  · fin_cases g <;> rfl
  · funext t
    pointwise [Gen.k0_pay10, pay8_at, pay3_at, pay9_at, Gen.k0_pay2, ofBits_neg_inf, select_bit, hg]
  · funext t
    pointwise [Gen.k0_pay11, pay9_at, Gen.k0_pay2, hg]
  · funext t
    pointwise [Gen.k0_pay12, pay4_at, hg]
  · funext t
    pointwise [Gen.k0_pay13, hg]

theorem head1_at (n : Fin 128) (x0 : FVec Ideal S8 .f32) (x1 : FVec Ideal S1x128x1024 .f32)
    (ka kb kc va vb vc : FVec Ideal S1x128x256 .f32) (x8 x9 : FVec Ideal S1x256x256 .f32) (g : Fin 4) (r : Fin 128) (d : Fin 128) :
    Gen.k0_pay33 (F := Ideal) (k0_pay23 (k0_pay2 x1) x8) (k0_pay24 (k0_pay4 va vb vc)) (k0_pay25 x9)
        (k0_pay30 (k0_pay22 (k0_pay2 x1) (k0_pay3 ka kb kc) (k0_pay8 (BitVec.ofNat 32 n.val) k0_pay5 k0_pay6 k0_pay7))
          (k0_pay23 (k0_pay2 x1) x8) (iota .tc S512x1 32 [0] iota_S512x1_d0_w32) 128#32 k0_pay26 k0_pay27 k0_pay28
          (x0 (ix1 7)) (x0 (ix1 4)) (x0 (ix1 5)) (x0 (ix1 6)))
        (k0_pay31 (k0_pay22 (k0_pay2 x1) (k0_pay3 ka kb kc) (k0_pay8 (BitVec.ofNat 32 n.val) k0_pay5 k0_pay6 k0_pay7))
          (k0_pay23 (k0_pay2 x1) x8) (iota .tc S512x1 32 [0] iota_S512x1_d0_w32) 128#32 k0_pay26 k0_pay27 k0_pay28
          (x0 (ix1 7)) (x0 (ix1 4)) (x0 (ix1 5)) (x0 (ix1 6)))
        (k0_pay32 (k0_pay22 (k0_pay2 x1) (k0_pay3 ka kb kc) (k0_pay8 (BitVec.ofNat 32 n.val) k0_pay5 k0_pay6 k0_pay7))
          (k0_pay23 (k0_pay2 x1) x8) (iota .tc S512x1 32 [0] iota_S512x1_d0_w32) 128#32 k0_pay26 k0_pay27 k0_pay28
          (x0 (ix1 7)) (x0 (ix1 4)) (x0 (ix1 5)) (x0 (ix1 6))) (ix2 ⟨g.val * 128 + r.val, by omega⟩ d)
      = blockOut n.val x0 x1 ka kb kc va vb vc x8 x9 ⟨4 + g.val, by omega⟩ r d := by
  rw [pay33_at, pay29_at]
  unfold blockOut
  have hg : (4 + g.val) / 4 = 1 := by omega
  have hx (x : Fin 128) : (4 + g.val) * 128 + x.val = 512 + g.val * 128 + x.val := by omega
  congr 1
  · fin_cases g <;> rfl
  · funext t
    pointwise [Gen.k0_pay22, pay8_at, pay3_at, pay21_at, Gen.k0_pay2, ofBits_neg_inf, select_bit, hg, hx]
  · funext t
    pointwise [Gen.k0_pay23, pay21_at, Gen.k0_pay2, hg, hx]
  · funext t
    pointwise [Gen.k0_pay24, pay4_at, hg]
  · funext t
    pointwise [Gen.k0_pay25, hg]

end Cert.KernelIdeal.Attn
-- ==== Proof.Attn.Block.lean ====
/- What the window attention's pipelined run leaves in the output block of a grid point: `blockOut` of the point's
   blocks. -/
module

public import proofs.«01_k».proof.Proof.Gen.KernelIdeal.Value
public import Idealize.ShloMosaic.Lib.Pipeline.ValueKit
public import proofs.«01_k».proof.Proof.Attn.Head

@[expose] public section
set_option maxRecDepth 16384
noncomputable section
namespace Cert.KernelIdeal.Attn
open Idealize.ShloMosaic Idealize.ShloMosaic.TcCoe Idealize.SL.Sem
open Cert.KernelIdeal Cert.KernelIdeal.Gen

variable (m : (ℓ : Loc nD τ sig) → Buf (Elt Ideal) ℓ)

/-- A whole load reads the contents. -/
theorem load_whole {s : Shape} {e : EltTy} {sp : Space} (M : Memref sig .tc sp s e) (hM : M.IsWhole) (X : s.Idx → Elt Ideal e)
    (off : Fin s.rank → ℕ) (h0 : ∀ a, off a = 0) (inb : ∀ a, off a + s.size a ≤ s.size a) :
    View.readAt (Elt Ideal) M.view (Rect.unit off s.size inb).toLoadRect (hM.unread X) = X := by
  rw [View.readAt_eq_ld, hM.read_unread]
  funext y
  show X _ = X y
  congr 1
  funext a
  apply Fin.ext
  simp [Rect.unit, h0]

/-- A load of one entry of the eight sinks. -/
theorem load_sink (M : Memref sig .tc .smem S8 .f32) (hM : M.IsWhole) (X : S8.Idx → Elt Ideal .f32) (o : ℕ) (k : Fin 8) (ho : k.val = o)
    (inb : ∀ a, (![o] : Fin 1 → ℕ) a + S1.size a ≤ S8.size a) (h : 0 < S1.numel) :
    View.readAt (Elt Ideal) M.view (Rect.unit (s := S8) ![o] S1.size inb).toLoadRect (hM.unread X) (Shape.Idx.first h) = X (ix1 k) := by
  rw [View.readAt_eq_ld, hM.read_unread]
  show X _ = X _
  congr 1
  funext a
  fin_cases a
  apply Fin.ext
  simp [Rect.unit, ho]

/-- The tile of head 0: rows 0 to 127 of its group of four heads. -/
theorem tile0_at (a : FVec Ideal S512x384 .f32) (b : FVec Ideal S512x256 .f32) (v : FVec Ideal S384x128 .bf16) (w : FVec Ideal S256x128 .bf16) (s : FVec Ideal S512x1 .f32)
    (y : S1x128x128.Idx) (r d : Fin 128) (hr : (y 1).val = r.val) (hd : (y 2).val = d.val) :
    (k0_pay16 a b v w s : FVec Ideal S1x128x128 .bf16) y = k0_pay15 a b v w s (ix2 ⟨0 * 128 + r.val, by omega⟩ d) := by
  obtain rfl : y = ix3 0 r d := by
    idx_ext
  pointwise [k0_pay16]

/-- The tile of head 1: rows 128 to 255 of its group of four heads. -/
theorem tile1_at (a : FVec Ideal S512x384 .f32) (b : FVec Ideal S512x256 .f32) (v : FVec Ideal S384x128 .bf16) (w : FVec Ideal S256x128 .bf16) (s : FVec Ideal S512x1 .f32)
    (y : S1x128x128.Idx) (r d : Fin 128) (hr : (y 1).val = r.val) (hd : (y 2).val = d.val) :
    (k0_pay17 a b v w s : FVec Ideal S1x128x128 .bf16) y = k0_pay15 a b v w s (ix2 ⟨1 * 128 + r.val, by omega⟩ d) := by
  obtain rfl : y = ix3 0 r d := by
    idx_ext
  pointwise [k0_pay17]

/-- The tile of head 2: rows 256 to 383 of its group of four heads. -/
theorem tile2_at (a : FVec Ideal S512x384 .f32) (b : FVec Ideal S512x256 .f32) (v : FVec Ideal S384x128 .bf16) (w : FVec Ideal S256x128 .bf16) (s : FVec Ideal S512x1 .f32)
    (y : S1x128x128.Idx) (r d : Fin 128) (hr : (y 1).val = r.val) (hd : (y 2).val = d.val) :
    (k0_pay19 (k0_pay18 a b v w s) : FVec Ideal S1x128x128 .bf16) y = k0_pay15 a b v w s (ix2 ⟨2 * 128 + r.val, by omega⟩ d) := by
  obtain rfl : y = ix3 0 r d := by
    idx_ext
  pointwise [k0_pay19, k0_pay18]

/-- The tile of head 3: rows 384 to 511 of its group of four heads. -/
theorem tile3_at (a : FVec Ideal S512x384 .f32) (b : FVec Ideal S512x256 .f32) (v : FVec Ideal S384x128 .bf16) (w : FVec Ideal S256x128 .bf16) (s : FVec Ideal S512x1 .f32)
    (y : S1x128x128.Idx) (r d : Fin 128) (hr : (y 1).val = r.val) (hd : (y 2).val = d.val) :
    (k0_pay20 (k0_pay15 a b v w s) : FVec Ideal S1x128x128 .bf16) y = k0_pay15 a b v w s (ix2 ⟨3 * 128 + r.val, by omega⟩ d) := by
  obtain rfl : y = ix3 0 r d := by
    idx_ext
  pointwise [k0_pay20]

/-- The tile of head 4: rows 0 to 127 of its group of four heads. -/
theorem tile4_at (b : FVec Ideal S512x256 .f32) (v : FVec Ideal S384x128 .bf16) (w : FVec Ideal S256x128 .bf16) (s u : FVec Ideal S512x1 .f32) (z : FVec Ideal S512x384 .f32)
    (y : S1x128x128.Idx) (r d : Fin 128) (hr : (y 1).val = r.val) (hd : (y 2).val = d.val) :
    (k0_pay34 b v w s u z : FVec Ideal S1x128x128 .bf16) y = k0_pay33 b v w s u z (ix2 ⟨0 * 128 + r.val, by omega⟩ d) := by
  obtain rfl : y = ix3 0 r d := by
    idx_ext
  pointwise [k0_pay34]

/-- The tile of head 5: rows 128 to 255 of its group of four heads. -/
theorem tile5_at (b : FVec Ideal S512x256 .f32) (v : FVec Ideal S384x128 .bf16) (w : FVec Ideal S256x128 .bf16) (s u : FVec Ideal S512x1 .f32) (z : FVec Ideal S512x384 .f32)
    (y : S1x128x128.Idx) (r d : Fin 128) (hr : (y 1).val = r.val) (hd : (y 2).val = d.val) :
    (k0_pay35 b v w s u z : FVec Ideal S1x128x128 .bf16) y = k0_pay33 b v w s u z (ix2 ⟨1 * 128 + r.val, by omega⟩ d) := by
  obtain rfl : y = ix3 0 r d := by
    idx_ext
  pointwise [k0_pay35]

/-- The tile of head 6: rows 256 to 383 of its group of four heads. -/
theorem tile6_at (b : FVec Ideal S512x256 .f32) (v : FVec Ideal S384x128 .bf16) (w : FVec Ideal S256x128 .bf16) (s u : FVec Ideal S512x1 .f32) (z : FVec Ideal S512x384 .f32)
    (y : S1x128x128.Idx) (r d : Fin 128) (hr : (y 1).val = r.val) (hd : (y 2).val = d.val) :
    (k0_pay36 b v w s u z : FVec Ideal S1x128x128 .bf16) y = k0_pay33 b v w s u z (ix2 ⟨2 * 128 + r.val, by omega⟩ d) := by
  obtain rfl : y = ix3 0 r d := by
    idx_ext
  pointwise [k0_pay36]

/-- The tile of head 7: rows 384 to 511 of its group of four heads. -/
theorem tile7_at (b : FVec Ideal S512x256 .f32) (v : FVec Ideal S384x128 .bf16) (w : FVec Ideal S256x128 .bf16) (s u : FVec Ideal S512x1 .f32) (z : FVec Ideal S512x384 .f32)
    (y : S1x128x128.Idx) (r d : Fin 128) (hr : (y 1).val = r.val) (hd : (y 2).val = d.val) :
    (k0_pay1 (k0_pay37 b v w s u z) : FVec Ideal S1x128x128 .bf16) y = k0_pay33 b v w s u z (ix2 ⟨3 * 128 + r.val, by omega⟩ d) := by
  obtain rfl : y = ix3 0 r d := by
    idx_ext
  pointwise [k0_pay1, k0_pay37]

theorem out_at (c : Dev nD) (t : Fin cfg0.N) (x : S1x128x1024.Idx) (h : Fin 8) (r d : Fin 128)
    (hr : (x 1).val = r.val) (hd : (x 2).val = h.val * 128 + d.val) :
    outsAt0 m c t x = blockOut (grid0.coords t 1) (iblk m c 0 t) (X0_1 m c t) (iblk m c 2 t) (iblk m c 3 t) (iblk m c 4 t)
      (iblk m c 5 t) (iblk m c 6 t) (iblk m c 7 t) (iblk m c 8 t) (iblk m c 9 t) h r d := by
  have e1 := load_whole (ms0_1 t) (hs0_1 t) (X0_1 m c t) ![0, 0, 0] (by decide) (by decide)
  have e2 := load_whole (ms0_2 t) (hs0_2 t) (iblk m c 2 t) ![0, 0, 0] (by decide) (by decide)
  have e3 := load_whole (ms0_3 t) (hs0_3 t) (iblk m c 3 t) ![0, 0, 0] (by decide) (by decide)
  have e4 := load_whole (ms0_4 t) (hs0_4 t) (iblk m c 4 t) ![0, 0, 0] (by decide) (by decide)
  have e5 := load_whole (ms0_5 t) (hs0_5 t) (iblk m c 5 t) ![0, 0, 0] (by decide) (by decide)
  have e6 := load_whole (ms0_6 t) (hs0_6 t) (iblk m c 6 t) ![0, 0, 0] (by decide) (by decide)
  have e7 := load_whole (ms0_7 t) (hs0_7 t) (iblk m c 7 t) ![0, 0, 0] (by decide) (by decide)
  have e8 := load_whole (ms0_8 t) (hs0_8 t) (iblk m c 8 t) ![0, 0, 0] (by decide) (by decide)
  have e9 := load_whole (ms0_9 t) (hs0_9 t) (iblk m c 9 t) ![0, 0, 0] (by decide) (by decide)
  have s0 := load_sink (ms0_0 t) (hs0_0 t) (iblk m c 0 t) 0 0 rfl (by decide) (by decide)
  have s1 := load_sink (ms0_0 t) (hs0_0 t) (iblk m c 0 t) 1 1 rfl (by decide) (by decide)
  have s2 := load_sink (ms0_0 t) (hs0_0 t) (iblk m c 0 t) 2 2 rfl (by decide) (by decide)
  have s3 := load_sink (ms0_0 t) (hs0_0 t) (iblk m c 0 t) 3 3 rfl (by decide) (by decide)
  have s4 := load_sink (ms0_0 t) (hs0_0 t) (iblk m c 0 t) 4 4 rfl (by decide) (by decide)
  have s5 := load_sink (ms0_0 t) (hs0_0 t) (iblk m c 0 t) 5 5 rfl (by decide) (by decide)
  have s6 := load_sink (ms0_0 t) (hs0_0 t) (iblk m c 0 t) 6 6 rfl (by decide) (by decide)
  have s7 := load_sink (ms0_0 t) (hs0_0 t) (iblk m c 0 t) 7 7 rfl (by decide) (by decide)
  unfold Gen.outsAt0
  frame_open
  rw [e1, e2, e3, e4, e5, e6, e7, e8, e9, s0, s1, s2, s3, s4, s5, s6, s7]
  clear e1 e2 e3 e4 e5 e6 e7 e8 e9 s0 s1 s2 s3 s4 s5 s6 s7
  generalize iblk m c 0 t = x0
  generalize X0_1 m c t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize (grid0.coords t 1) = n
  rw [View.read_writes_junk_eq_canon]
  canon_tiles y hy
  case piece0 =>
    obtain rfl : h = 7 := Fin.ext (show h.val = 7 by omega)
    refine (tile7_at _ _ _ _ _ _ y r d (by omega) (by simp at hd; omega)).trans ?_
    exact head1_at n x0 x1 x2 x3 x4 x5 x6 x7 x8 x9 3 r d
  case piece1 =>
    obtain rfl : h = 6 := Fin.ext (show h.val = 6 by omega)
    refine (tile6_at _ _ _ _ _ _ y r d (by omega) (by simp at hd; omega)).trans ?_
    exact head1_at n x0 x1 x2 x3 x4 x5 x6 x7 x8 x9 2 r d
  case piece2 =>
    obtain rfl : h = 5 := Fin.ext (show h.val = 5 by omega)
    refine (tile5_at _ _ _ _ _ _ y r d (by omega) (by simp at hd; omega)).trans ?_
    exact head1_at n x0 x1 x2 x3 x4 x5 x6 x7 x8 x9 1 r d
  case piece3 =>
    obtain rfl : h = 4 := Fin.ext (show h.val = 4 by omega)
    refine (tile4_at _ _ _ _ _ _ y r d (by omega) (by simp at hd; omega)).trans ?_
    exact head1_at n x0 x1 x2 x3 x4 x5 x6 x7 x8 x9 0 r d
  case piece4 =>
    obtain rfl : h = 3 := Fin.ext (show h.val = 3 by omega)
    refine (tile3_at _ _ _ _ _ y r d (by omega) (by simp at hd; omega)).trans ?_
    exact head0_at n x0 x1 x2 x3 x4 x5 x6 x7 x8 x9 3 r d
  case piece5 =>
    obtain rfl : h = 2 := Fin.ext (show h.val = 2 by omega)
    refine (tile2_at _ _ _ _ _ y r d (by omega) (by simp at hd; omega)).trans ?_
    exact head0_at n x0 x1 x2 x3 x4 x5 x6 x7 x8 x9 2 r d
  case piece6 =>
    obtain rfl : h = 1 := Fin.ext (show h.val = 1 by omega)
    refine (tile1_at _ _ _ _ _ y r d (by omega) (by simp at hd; omega)).trans ?_
    exact head0_at n x0 x1 x2 x3 x4 x5 x6 x7 x8 x9 1 r d
  case piece7 =>
    obtain rfl : h = 0 := Fin.ext (show h.val = 0 by omega)
    refine (tile0_at _ _ _ _ _ y r d (by omega) (by simp at hd; omega)).trans ?_
    exact head0_at n x0 x1 x2 x3 x4 x5 x6 x7 x8 x9 0 r d

end Cert.KernelIdeal.Attn
-- ==== Proof.Attn.Array.lean ====
/- What the window attention leaves in its result array: each entry in terms of the entries of the argument arrays. -/
module

public import proofs.«01_k».proof.Proof.Gen.KernelIdeal.Value
public import Idealize.ShloMosaic.Lib.Pipeline.ValueKit
public import Idealize.ShloMosaic.Lib.Claim
public import proofs.«01_k».proof.Proof.Attn.Block

@[expose] public section
set_option maxRecDepth 16384
noncomputable section
namespace Cert.KernelIdeal.Attn
open Idealize.ShloMosaic Idealize.ShloMosaic.TcCoe Idealize.SL.Sem
open Cert.KernelIdeal Cert.KernelIdeal.Gen

/-- The position in the sequence of key `t` of the band of block `n`: the block before, the block, the block after, the
    ends of the sequence repeated. -/
def keyAt (n t : ℕ) : ℕ :=
  if t < 128 then (n - 1) * 128 + t
  else if t - 128 < 128 then n * 128 + (t - 128) else min (n + 1) 127 * 128 + (t - 128 - 128)

theorem keyAt_lt {n t : ℕ} (hn : n < 128) (ht : t < 384) : keyAt n t < 16384 := by
  unfold keyAt
  split_ifs <;> omega

/-- One entry of the kernel's result, from the sinks, the latent projection and the context's. -/
def kernelOut (s : S1x8.Idx → EReal) (p : S2x16384x6656.Idx → EReal) (pc : S2x256x6656.Idx → EReal)
    (b : Fin 2) (n : Fin 128) (r : Fin 128) (h : Fin 8) (d : Fin 128) : EReal :=
  headOut (s (ix2 0 h) * l2e)
    (fun t => if seen n.val r.val t.val then
      (∑ x : Fin 128, p (ix3 b ⟨n.val * 128 + r.val, by omega⟩ ⟨h.val * 128 + x.val, by omega⟩)
        * p (ix3 b ⟨keyAt n.val t.val, keyAt_lt n.isLt t.isLt⟩ ⟨1024 + (h.val / 4 * 128 + x.val), by omega⟩)) * sc2 else ⊥)
    (fun t => (∑ x : Fin 128, p (ix3 b ⟨n.val * 128 + r.val, by omega⟩ ⟨h.val * 128 + x.val, by omega⟩)
        * pc (ix3 b t ⟨1024 + (h.val / 4 * 128 + x.val), by omega⟩)) * sc2)
    (fun t => p (ix3 b ⟨keyAt n.val t.val, keyAt_lt n.isLt t.isLt⟩ ⟨1280 + (h.val / 4 * 128 + d.val), by omega⟩))
    (fun t => pc (ix3 b t ⟨1280 + (h.val / 4 * 128 + d.val), by omega⟩))

variable (m : (ℓ : Loc nD τ sig) → Buf (Elt Ideal) ℓ)

theorem idx : ∀ t : Fin cfg0.N, win0_0.index t = ![0] ∧ win0_1.index t = ![t.val / 128, t.val % 128, 0]
    ∧ win0_2.index t = ![t.val / 128, t.val % 128 - 1, 4] ∧ win0_3.index t = ![t.val / 128, t.val % 128, 4]
    ∧ win0_4.index t = ![t.val / 128, min (t.val % 128 + 1) 127, 4]
    ∧ win0_5.index t = ![t.val / 128, t.val % 128 - 1, 5] ∧ win0_6.index t = ![t.val / 128, t.val % 128, 5]
    ∧ win0_7.index t = ![t.val / 128, min (t.val % 128 + 1) 127, 5]
    ∧ win0_8.index t = ![t.val / 128, 0, 4] ∧ win0_9.index t = ![t.val / 128, 0, 5]
    ∧ win0_10.index t = ![t.val / 128, t.val % 128, 0] ∧ (grid0.coords t 1).val = t.val % 128 :=
  (by decide +kernel : ∀ t : Fin grid0.N, _)

section Blocks
variable (c : Dev nD) (t : Fin cfg0.N) (b : Fin 2) (n : Fin 128) (hb : t.val / 128 = b.val) (hn : t.val % 128 = n.val)
include hb hn

theorem blk2 (r : Fin 128) (d : Fin 256) : (iblk m c 2 t : FVec Ideal S1x128x256 .f32) (ix3 0 r d)
    = m ((c : Thread nD τ).loc main_arg1) (ix3 b ⟨(n.val - 1) * 128 + r.val, by omega⟩ ⟨1024 + d.val, by omega⟩) := by
  have e := idx t
  rw [hb, hn] at e
  blk_ext [iblk, V, e]

theorem blk3 (r : Fin 128) (d : Fin 256) : (iblk m c 3 t : FVec Ideal S1x128x256 .f32) (ix3 0 r d)
    = m ((c : Thread nD τ).loc main_arg1) (ix3 b ⟨n.val * 128 + r.val, by omega⟩ ⟨1024 + d.val, by omega⟩) := by
  have e := idx t
  rw [hb, hn] at e
  blk_ext [iblk, V, e]

theorem blk4 (r : Fin 128) (d : Fin 256) : (iblk m c 4 t : FVec Ideal S1x128x256 .f32) (ix3 0 r d)
    = m ((c : Thread nD τ).loc main_arg1) (ix3 b ⟨min (n.val + 1) 127 * 128 + r.val, by omega⟩ ⟨1024 + d.val, by omega⟩) := by
  have e := idx t
  rw [hb, hn] at e
  blk_ext [iblk, V, e]

theorem blk5 (r : Fin 128) (d : Fin 256) : (iblk m c 5 t : FVec Ideal S1x128x256 .f32) (ix3 0 r d)
    = m ((c : Thread nD τ).loc main_arg1) (ix3 b ⟨(n.val - 1) * 128 + r.val, by omega⟩ ⟨1280 + d.val, by omega⟩) := by
  have e := idx t
  rw [hb, hn] at e
  blk_ext [iblk, V, e]

theorem blk6 (r : Fin 128) (d : Fin 256) : (iblk m c 6 t : FVec Ideal S1x128x256 .f32) (ix3 0 r d)
    = m ((c : Thread nD τ).loc main_arg1) (ix3 b ⟨n.val * 128 + r.val, by omega⟩ ⟨1280 + d.val, by omega⟩) := by
  have e := idx t
  rw [hb, hn] at e
  blk_ext [iblk, V, e]

theorem blk7 (r : Fin 128) (d : Fin 256) : (iblk m c 7 t : FVec Ideal S1x128x256 .f32) (ix3 0 r d)
    = m ((c : Thread nD τ).loc main_arg1) (ix3 b ⟨min (n.val + 1) 127 * 128 + r.val, by omega⟩ ⟨1280 + d.val, by omega⟩) := by
  have e := idx t
  rw [hb, hn] at e
  blk_ext [iblk, V, e]

omit hn in
theorem blk8 (r : Fin 256) (d : Fin 256) : (iblk m c 8 t : FVec Ideal S1x256x256 .f32) (ix3 0 r d)
    = m ((c : Thread nD τ).loc main_arg2) (ix3 b r ⟨1024 + d.val, by omega⟩) := by
  have e := idx t
  rw [hb] at e
  blk_ext [iblk, V, e]

omit hn in
theorem blk9 (r : Fin 256) (d : Fin 256) : (iblk m c 9 t : FVec Ideal S1x256x256 .f32) (ix3 0 r d)
    = m ((c : Thread nD τ).loc main_arg2) (ix3 b r ⟨1280 + d.val, by omega⟩) := by
  have e := idx t
  rw [hb] at e
  blk_ext [iblk, V, e]

theorem blk1 (r : Fin 128) (d : Fin 1024) : (X0_1 m c t : FVec Ideal S1x128x1024 .f32) (ix3 0 r d)
    = m ((c : Thread nD τ).loc main_arg1) (ix3 b ⟨n.val * 128 + r.val, by omega⟩ ⟨d.val, by omega⟩) := by
  have e := idx t
  rw [hb, hn] at e
  unfold X0_1
  rw [Pipeline.Window.fill, dif_pos (moved0_1 t _)]
  blk_ext [iblk, V, e]

omit hb hn in
theorem blk0 (h : Fin 8) : (iblk m c 0 t : FVec Ideal S8 .f32) (ix1 h) = m ((c : Thread nD τ).loc main_arg0) (ix2 0 h) := by
  have e := idx t
  have hv : V m c main_v0 = shapeCast _ (m ((c : Thread nD τ).loc main_arg0)) shapeCasts_S1x8_S8 := by
    entry_read
    rfl
  have hk : (iblk m c 0 t : FVec Ideal S8 .f32) (ix1 h) = V m c main_v0 (ix1 h) := by
    blk_ext [iblk, e]
  rw [hk, hv]
  pointwise

theorem keys_at (t' : Fin 384) (d : Fin 256) : band (iblk m c 2 t) (iblk m c 3 t) (iblk m c 4 t) t' d
    = m ((c : Thread nD τ).loc main_arg1) (ix3 b ⟨keyAt n.val t'.val, keyAt_lt n.isLt t'.isLt⟩ ⟨1024 + d.val, by omega⟩) := by
  unfold band
  split_ifs with h1 h2
  · exact (blk2 m c t b n hb hn ⟨t'.val, h1⟩ d).trans (by congr 2; exact Fin.ext (by simp [keyAt, h1]))
  · exact (blk3 m c t b n hb hn ⟨t'.val - 128, h2⟩ d).trans (by congr 2; exact Fin.ext (by simp [keyAt, h1, h2]))
  · exact (blk4 m c t b n hb hn ⟨t'.val - 128 - 128, by omega⟩ d).trans (by congr 2; exact Fin.ext (by simp [keyAt, h1, h2]))

theorem values_at (t' : Fin 384) (d : Fin 256) : band (iblk m c 5 t) (iblk m c 6 t) (iblk m c 7 t) t' d
    = m ((c : Thread nD τ).loc main_arg1) (ix3 b ⟨keyAt n.val t'.val, keyAt_lt n.isLt t'.isLt⟩ ⟨1280 + d.val, by omega⟩) := by
  unfold band
  split_ifs with h1 h2
  · exact (blk5 m c t b n hb hn ⟨t'.val, h1⟩ d).trans (by congr 2; exact Fin.ext (by simp [keyAt, h1]))
  · exact (blk6 m c t b n hb hn ⟨t'.val - 128, h2⟩ d).trans (by congr 2; exact Fin.ext (by simp [keyAt, h1, h2]))
  · exact (blk7 m c t b n hb hn ⟨t'.val - 128 - 128, by omega⟩ d).trans (by congr 2; exact Fin.ext (by simp [keyAt, h1, h2]))

/-- A point's block of the result. -/
theorem block_at (h : Fin 8) (r d : Fin 128) :
    blockOut (grid0.coords t 1) (iblk m c 0 t) (X0_1 m c t) (iblk m c 2 t) (iblk m c 3 t) (iblk m c 4 t)
      (iblk m c 5 t) (iblk m c 6 t) (iblk m c 7 t) (iblk m c 8 t) (iblk m c 9 t) h r d
    = kernelOut (m ((c : Thread nD τ).loc main_arg0)) (m ((c : Thread nD τ).loc main_arg1)) (m ((c : Thread nD τ).loc main_arg2))
        b n r h d := by
  have hc : (grid0.coords t 1).val = n.val := by rw [← hn]; exact (idx t).2.2.2.2.2.2.2.2.2.2.2
  unfold blockOut kernelOut
  simp only [hc, blk0, blk1 m c t b n hb hn, keys_at m c t b n hb hn, values_at m c t b n hb hn, blk8 m c t b n hb, blk9 m c t b n hb]

end Blocks

/-- The result array, at an index cut into block, row, head and entry. -/
theorem final (c : Dev nD) : (dats m 0 c).arrAt 10 cfg0.N = fun i : S2x16384x1024.Idx =>
    kernelOut (m ((c : Thread nD τ).loc main_arg0)) (m ((c : Thread nD τ).loc main_arg1)) (m ((c : Thread nD τ).loc main_arg2))
      (i 0) ⟨(i 1).val / 128, Nat.div_lt_of_lt_mul (i 1).isLt⟩ ⟨(i 1).val % 128, Nat.mod_lt _ (by norm_num)⟩
      ⟨(i 2).val / 128, Nat.div_lt_of_lt_mul (i 2).isLt⟩ ⟨(i 2).val % 128, Nat.mod_lt _ (by norm_num)⟩ := by
  refine (dats m 0 c).arrAt_eq_of_covers 10 _ (by decide +kernel) fun t hf y => ?_
  blk_simp
  rw [after0_10]
  have e := idx t
  have ht : t.val < 256 := lt_of_lt_of_eq t.isLt N_0
  have y0 : (y 0).val < 1 := (y 0).isLt
  have y1 : (y 1).val < 128 := (y 1).isLt
  have y2 : (y 2).val < 1024 := (y 2).isLt
  rw [out_at m c t y ⟨(y 2).val / 128, by omega⟩ ⟨(y 1).val, y1⟩ ⟨(y 2).val % 128, by omega⟩ rfl (by dsimp only; omega),
    block_at m c t ⟨t.val / 128, by omega⟩ ⟨t.val % 128, by omega⟩ rfl rfl]
  congr 1 <;> apply Fin.ext <;> simp [e] <;> try omega

end Cert.KernelIdeal.Attn
-- ==== Proof.Attn.Ref.lean ====
/- The reference's result, read at an index: the scores of a row over the sink, the latent keys and the context keys,
   their weights, and the weighted sum of the values. -/
module

public import proofs.«01_k».proof.Proof.Gen.ReferenceIdeal.Run
public import Idealize.ShloMosaic.Lib.Pointwise

@[expose] public section
set_option maxRecDepth 16384
noncomputable section
namespace Cert.ReferenceIdeal.Attn
open Idealize.ShloMosaic Idealize.ShloMosaic.TcCoe Idealize.SL.Sem
open Cert.ReferenceIdeal Cert.ReferenceIdeal.Gen Cert.ReferenceIdeal.Value

/-- The scores of every row: the sink's, the latent keys', the context keys'. -/
def scores (s : FVec Ideal S1x8 .f32) (p : FVec Ideal S2x16384x6656 .f32) (pc : FVec Ideal S2x256x6656 .f32) :
    FVec Ideal S2x2x4x16384x16641 .f32 :=
  ((concatenate S2x2x4x16384x16641 4 [⟨S2x2x4x16384x1, ((broadcastInDim S2x2x4x16384x1 ![0, 1, 2, 3, 4]
    bcast_S1x2x4x1x1_S2x2x4x16384x1_0_1_2_3_4 (shapeCast _ (shapeCast _ s shapeCasts_S1x8_S8)
    shapeCasts_S8_S1x2x4x1x1)) : (⟨S2x2x4x16384x1, .f32⟩ : BufTy).Contents (Elt Ideal))⟩, ⟨S2x2x4x16384x16384,
    ((select (broadcastInDim S2x2x4x16384x16384 ![3, 4] bcast_S16384x16384_S2x2x4x16384x16384_3_4 (cmpi .sle (absi
    (subi (broadcastInDim S16384x16384 ![0, 1] bcast_S16384x1_S16384x16384_0_1 (broadcastInDim S16384x1 ![0]
    bcast_S16384_S16384x1_0 (iotaInDim S16384 32 0))) (broadcastInDim S16384x16384 ![0, 1]
    bcast_S1x16384_S16384x16384_0_1 (broadcastInDim S1x16384 ![1] bcast_S16384_S1x16384_1 (iotaInDim S16384 32 0)))))
    (broadcastInDim S16384x16384 ![] bcast_S_S16384x16384 (constantI S_ 32 128#32)))) (mulf (transpose
    S2x2x4x16384x16384 [0, 1, 4, 3, 2] (Host.dotGeneral
    dot_S2x16384x2x128_S2x16384x2x4x128_S2x2x16384x16384x4_3_4_1_13_02_02 none (shapeCast _ (extractStridedSlice
    S2x16384x256 ![0, 0, 1024] p slices_S2x16384x6656_S2x16384x256_0_0_1024) shapeCasts_S2x16384x256_S2x16384x2x128)
    (shapeCast _ (extractStridedSlice S2x16384x1024 ![0, 0, 0] p slices_S2x16384x6656_S2x16384x1024_0_0_0)
    shapeCasts_S2x16384x1024_S2x16384x2x4x128)) transposes_S2x2x16384x16384x4_S2x2x4x16384x16384_0_1_4_3_2)
    (broadcastInDim S2x2x4x16384x16384 ![] bcast_S_S2x2x4x16384x16384 (Host.divf (constant S_ .f32 0x3F800000#32)
    (Host.sqrt (constant S_ .f32 0x43000000#32))))) (broadcastInDim S2x2x4x16384x16384 ![] bcast_S_S2x2x4x16384x16384
    (constant (F := Ideal) S_ .f32 0xFF800000#32))) : (⟨S2x2x4x16384x16384, .f32⟩ : BufTy).Contents (Elt Ideal))⟩,
    ⟨S2x2x4x16384x256, ((mulf (transpose S2x2x4x16384x256 [0, 1, 4, 3, 2] (Host.dotGeneral
    dot_S2x256x2x128_S2x16384x2x4x128_S2x2x256x16384x4_3_4_1_13_02_02 none (shapeCast _ (extractStridedSlice
    S2x256x256 ![0, 0, 1024] pc slices_S2x256x6656_S2x256x256_0_0_1024) shapeCasts_S2x256x256_S2x256x2x128) (shapeCast
    _ (extractStridedSlice S2x16384x1024 ![0, 0, 0] p slices_S2x16384x6656_S2x16384x1024_0_0_0)
    shapeCasts_S2x16384x1024_S2x16384x2x4x128)) transposes_S2x2x256x16384x4_S2x2x4x16384x256_0_1_4_3_2)
    (broadcastInDim S2x2x4x16384x256 ![] bcast_S_S2x2x4x16384x256 (Host.divf (constant S_ .f32 0x3F800000#32)
    (Host.sqrt (constant S_ .f32 0x43000000#32))))) : (⟨S2x2x4x16384x256, .f32⟩ : BufTy).Contents (Elt Ideal))⟩]
    concatenates_S2x2x4x16384x1_S2x2x4x16384x16384_S2x2x4x16384x256_S2x2x4x16384x16641_d4 : (⟨S2x2x4x16384x16641,
    .f32⟩ : BufTy).Contents (Elt Ideal)))

/-- The largest score of every row. -/
def largest (z : FVec Ideal S2x2x4x16384x16641 .f32) : FVec Ideal S2x2x4x16384 .f32 :=
  Host.reduce FloatOps.maximumf z (constant S_ .f32 0xFF800000#32) reducesTo_S2x2x4x16384x16641_S2x2x4x16384_d4 h_S_

/-- The exponentials of the scores below their row's largest, `l`. -/
def exps (z : FVec Ideal S2x2x4x16384x16641 .f32) (l : FVec Ideal S2x2x4x16384 .f32) : FVec Ideal S2x2x4x16384x16641 .f32 :=
  (Host.exp (subf z (broadcastInDim S2x2x4x16384x16641 ![0, 1, 2, 3, 4]
    bcast_S2x2x4x16384x1_S2x2x4x16384x16641_0_1_2_3_4 (broadcastInDim S2x2x4x16384x1 ![0, 1, 2, 3]
    bcast_S2x2x4x16384_S2x2x4x16384x1_0_1_2_3 (maximumf (broadcastInDim S2x2x4x16384 ![] bcast_S_S2x2x4x16384
    (constant S_ .f32 0xFF800000#32)) l)))))

/-- The exponentials over their row's sum. -/
def weights (e : FVec Ideal S2x2x4x16384x16641 .f32) : FVec Ideal S2x2x4x16384x16641 .f32 :=
  (Host.divf e (broadcastInDim S2x2x4x16384x16641 ![0, 1, 2, 3, 4] bcast_S2x2x4x16384x1_S2x2x4x16384x16641_0_1_2_3_4
    (broadcastInDim S2x2x4x16384x1 ![0, 1, 2, 3] bcast_S2x2x4x16384_S2x2x4x16384x1_0_1_2_3 (Host.reduceAdd e (constant
    S_ .f32 0x00000000#32) reducesTo_S2x2x4x16384x16641_S2x2x4x16384_d4 h_S_))))

/-- The weighted sums of the values. -/
def sums (w : FVec Ideal S2x2x4x16384x16641 .f32) (p : FVec Ideal S2x16384x6656 .f32) (pc : FVec Ideal S2x256x6656 .f32) :
    FVec Ideal S2x16384x1024 .bf16 :=
  truncf .bf16 (shapeCast _ (addf (transpose S2x16384x2x4x128 [0, 4, 1, 3, 2] (Host.dotGeneral
    dot_S2x16384x2x128_S2x2x4x16384x16384_S2x2x128x4x16384_1_4_3_23_02_01 none (shapeCast _ (extractStridedSlice
    S2x16384x256 ![0, 0, 1280] p slices_S2x16384x6656_S2x16384x256_0_0_1280) shapeCasts_S2x16384x256_S2x16384x2x128)
    (extractStridedSlice S2x2x4x16384x16384 ![0, 0, 0, 0, 1] w
    slices_S2x2x4x16384x16641_S2x2x4x16384x16384_0_0_0_0_1)) transposes_S2x2x128x4x16384_S2x16384x2x4x128_0_4_1_3_2)
    (transpose S2x16384x2x4x128 [0, 4, 1, 3, 2] (Host.dotGeneral
    dot_S2x256x2x128_S2x2x4x16384x256_S2x2x128x4x16384_1_4_3_23_02_01 none (shapeCast _ (extractStridedSlice
    S2x256x256 ![0, 0, 1280] pc slices_S2x256x6656_S2x256x256_0_0_1280) shapeCasts_S2x256x256_S2x256x2x128)
    (extractStridedSlice S2x2x4x16384x256 ![0, 0, 0, 0, 16385] w
    slices_S2x2x4x16384x16641_S2x2x4x16384x256_0_0_0_0_16385))
    transposes_S2x2x128x4x16384_S2x16384x2x4x128_0_4_1_3_2)) shapeCasts_S2x16384x2x4x128_S2x16384x1024)
    bitsLt_bf16_f32

/-- The result from the sinks, the latent projection and the context's. -/
def result (s : FVec Ideal S1x8 .f32) (p : FVec Ideal S2x16384x6656 .f32) (pc : FVec Ideal S2x256x6656 .f32) :
    FVec Ideal S2x16384x1024 .bf16 :=
  sums (weights (exps (scores s p pc) (largest (scores s p pc)))) p pc

theorem res_eq (m : (ℓ : Loc nD τ sig) → Buf (Elt Ideal) ℓ) (c : Dev nD) :
    res_main_v54 m c = result (m ((c.tc : Thread nD τ).loc main_arg0)) (m ((c.tc : Thread nD τ).loc main_arg1))
      (m ((c.tc : Thread nD τ).loc main_arg2)) := by
  unfold res_main_v54 result sums weights exps largest scores
  rfl

end Cert.ReferenceIdeal.Attn
-- ==== Proof.Attn.RefAt.lean ====
/- The steps of the reference's softmax, read at an index. -/
module

public import proofs.«01_k».proof.Proof.Attn.Ref

@[expose] public section
set_option maxRecDepth 16384
noncomputable section
namespace Cert.ReferenceIdeal.Attn
open Idealize.ShloMosaic Idealize.ShloMosaic.TcCoe Idealize.SL.Sem
open Cert.ReferenceIdeal Cert.ReferenceIdeal.Gen Cert.ReferenceIdeal.Value

theorem ofBits_neg_inf : Ideal.ofBits .f32 0xFF800000#32 = (⊥ : EReal) := by
  simp [Ideal.ofBits, Ideal.ieee]

/-- A maximum over the last axis, read at an index, at any extent of that axis. -/
theorem max_last {n : ℕ} (h : (⟨5, ![2, 2, 4, 16384, n]⟩ : Shape).ReducesTo [4] S2x2x4x16384)
    (z : FVec Ideal (⟨5, ![2, 2, 4, 16384, n]⟩ : Shape) .f32) (b : Fin 2) (k : Fin 2) (g : Fin 4) (q : Fin 16384) :
    Host.reduce FloatOps.maximumf z (constant S_ .f32 0xFF800000#32) h h_S_ (ix4 b k g q)
      = Finset.univ.sup fun i : Fin n => (z (ix5 b k g q i) : EReal) := by
  rw [Host.reduce_eq_fold, Shape.ReducesTo.fold_fiber_r5_a4]
  have e : (constant (F := Ideal) S_ .f32 0xFF800000#32 (Shape.Idx.first h_S_)) = (⊥ : EReal) := ofBits_neg_inf
  rw [e]
  rfl

theorem largest_at (z : FVec Ideal S2x2x4x16384x16641 .f32) (b : Fin 2) (k : Fin 2) (g : Fin 4) (q : Fin 16384) :
    largest z (ix4 b k g q) = Finset.univ.sup fun i : Fin 16641 => (z (ix5 b k g q i) : EReal) :=
  max_last _ z b k g q

theorem exps_at (z : FVec Ideal S2x2x4x16384x16641 .f32) (l : FVec Ideal S2x2x4x16384 .f32) (b : Fin 2) (k : Fin 2) (g : Fin 4)
    (q : Fin 16384) (j : Fin 16641) : exps z l (ix5 b k g q j) = Ideal.exp (z (ix5 b k g q j) - l (ix4 b k g q)) := by
  pointwise [exps]
  rw [ofBits_neg_inf, max_bot_left]

theorem weights_at (e : FVec Ideal S2x2x4x16384x16641 .f32) (b : Fin 2) (k : Fin 2) (g : Fin 4) (q : Fin 16384) (j : Fin 16641) :
    weights e (ix5 b k g q j) = Ideal.div (e (ix5 b k g q j)) (∑ i : Fin 16641, e (ix5 b k g q i)) := by
  pointwise [weights]

theorem sums_at (w : FVec Ideal S2x2x4x16384x16641 .f32) (p : FVec Ideal S2x16384x6656 .f32) (pc : FVec Ideal S2x256x6656 .f32)
    (b : Fin 2) (k : Fin 2) (g : Fin 4) (q : Fin 16384) (d : Fin 128) :
    sums w p pc (ix3 b q ⟨k.val * 512 + g.val * 128 + d.val, by omega⟩)
      = (∑ t : Fin 16384, p (ix3 b t ⟨1280 + (k.val * 128 + d.val), by omega⟩) * w (ix5 b k g q ⟨1 + t.val, by omega⟩))
        + ∑ t : Fin 256, pc (ix3 b t ⟨1280 + (k.val * 128 + d.val), by omega⟩) * w (ix5 b k g q ⟨16385 + t.val, by omega⟩) := by
  pointwise [sums]

end Cert.ReferenceIdeal.Attn
-- ==== Proof.Attn.RefScores.lean ====
/- The reference's scores, read at an index. -/
module

public import proofs.«01_k».proof.Proof.Attn.RefAt

@[expose] public section
set_option maxRecDepth 16384
noncomputable section
namespace Cert.ReferenceIdeal.Attn
open Idealize.ShloMosaic Idealize.ShloMosaic.TcCoe Idealize.SL.Sem
open Cert.ReferenceIdeal Cert.ReferenceIdeal.Gen Cert.ReferenceIdeal.Value

/-- The reference's test of a key's distance from its query. -/
theorem near_word {q k : ℕ} (hq : q < 16384) (hk : k < 16384) :
    IntOp.cmpi .sle (IntOp.absi (IntOp.subi (BitVec.ofNat 32 q) (BitVec.ofNat 32 k))) 128#32
      = if q ≤ k + 128 ∧ k ≤ q + 128 then 1#1 else 0#1 := by
  have e : (IntOp.absi (IntOp.subi (BitVec.ofNat 32 q) (BitVec.ofNat 32 k))).toInt = |(q : ℤ) - k| := by
    have hs : (BitVec.ofNat 32 q - BitVec.ofNat 32 k).toInt = (q : ℤ) - k := by
      rw [BitVec.toInt_sub, BitVec.toInt_ofNat', BitVec.toInt_ofNat', Int.bmod_def, Int.bmod_def, Int.bmod_def]
      split_ifs <;> omega
    have hm := BitVec.msb_eq_toInt (x := BitVec.ofNat 32 q - BitVec.ofNat 32 k)
    rw [hs] at hm
    unfold IntOp.absi IntOp.subi
    rw [hm]
    by_cases h : (q : ℤ) - k < 0
    · rw [if_pos (by simpa using h), BitVec.toInt_neg, hs, abs_of_neg h, Int.bmod_def]
      split_ifs <;> omega
    · rw [if_neg (by simpa using h), hs, abs_of_nonneg (by omega)]
  have hw : (128#32).toInt = 128 := by decide
  unfold IntOp.cmpi
  simp only [BitVec.sle, e, hw]
  by_cases h : q ≤ k + 128 ∧ k ≤ q + 128
  · rw [if_pos h, decide_eq_true (abs_le.2 ⟨by omega, by omega⟩)]; rfl
  · rw [if_neg h, decide_eq_false (fun h' => h (by have := abs_le.1 h'; omega))]; rfl

/-- The factor of the scores, `(√128)⁻¹`. -/
abbrev sc : EReal := Ideal.div 1 (Ideal.sqrt (Ideal.ofBits .f32 0x43000000#32))

variable (s : FVec Ideal S1x8 .f32) (p : FVec Ideal S2x16384x6656 .f32) (pc : FVec Ideal S2x256x6656 .f32)
  (b : Fin 2) (k : Fin 2) (g : Fin 4) (q : Fin 16384)

/-- The score of the sink. -/
theorem score_sink : scores s p pc (ix5 b k g q 0) = s (ix2 0 ⟨k.val * 4 + g.val, by omega⟩) := by
  pointwise [scores]

/-- The score of a latent key. -/
theorem score_key (t : Fin 16384) : scores s p pc (ix5 b k g q ⟨1 + t.val, by omega⟩)
    = if q.val ≤ t.val + 128 ∧ t.val ≤ q.val + 128 then
        (∑ x : Fin 128, p (ix3 b t ⟨1024 + (k.val * 128 + x.val), by omega⟩)
          * p (ix3 b q ⟨k.val * 512 + g.val * 128 + x.val, by omega⟩)) * sc
      else ⊥ := by
  pointwise [scores]
  rw [near_word q.isLt t.isLt, ofBits_neg_inf]
  by_cases h : q.val ≤ t.val + 128 ∧ t.val ≤ q.val + 128
  · rw [if_pos h, if_pos h]; rfl
  · rw [if_neg h, if_neg h]; rfl

/-- The score of a context key. -/
theorem score_ctx (t : Fin 256) : scores s p pc (ix5 b k g q ⟨16385 + t.val, by omega⟩)
    = (∑ x : Fin 128, pc (ix3 b t ⟨1024 + (k.val * 128 + x.val), by omega⟩)
          * p (ix3 b q ⟨k.val * 512 + g.val * 128 + x.val, by omega⟩)) * sc := by
  pointwise [scores]
  rw [dif_neg (by omega), dif_neg (by omega)]
  have e : 16385 + t.val - 1 - 16384 = t.val := by omega
  simp only [e]

end Cert.ReferenceIdeal.Attn
-- ==== Proof.Attn.Softmax.lean ====
/- The softmax in powers of two over a band, divided at the end, against the softmax in exponentials over the whole
   sequence, masked: the two agree where the scores that are seen are finite. -/
module

public import Idealize.ShloMosaic.PureOps.Ideal
public import proofs.«01_k».proof.Proof.Attn.Head

@[expose] public section
noncomputable section
namespace Cert.Softmax
open Idealize.ShloMosaic

/-- `(log 2)⁻¹`, by which the kernel scales the scores. -/
def L : ℝ := (Real.log 2)⁻¹

theorem L_pos : 0 < L := inv_pos.2 (Real.log_pos one_lt_two)

theorem exp2_scaled (x μ : ℝ) : Ideal.exp2 ((x : EReal) * L - ((μ : EReal) * L)) = Ideal.exp ((x : EReal) - μ) := by
  have e : (x : EReal) * L - ((μ : EReal) * L) = (((x - μ) * L : ℝ) : EReal) := by
    rw [← EReal.coe_mul, ← EReal.coe_mul, ← EReal.coe_sub, sub_mul]
  rw [e, ← EReal.coe_sub]
  change ((Real.rpow 2 ((x - μ) * L) : ℝ) : EReal) = ((Real.exp (x - μ) : ℝ) : EReal)
  congr 1
  change (2 : ℝ) ^ ((x - μ) * L) = _
  rw [Real.rpow_def_of_pos two_pos]
  congr 1
  have : Real.log 2 ≠ 0 := (Real.log_pos one_lt_two).ne'
  unfold L
  field_simp

/-- The masked scores: a real number where `P` holds, `⊥` elsewhere. -/
def masked {n : ℕ} (P : Fin n → Prop) [DecidablePred P] (x : Fin n → ℝ) (t : Fin n) : EReal := if P t then (x t : EReal) else ⊥

theorem exp2_masked {n : ℕ} (P : Fin n → Prop) [DecidablePred P] (x : Fin n → ℝ) (μ : ℝ) (t : Fin n) :
    Ideal.exp2 (masked P x t * L - ((μ : EReal) * L)) = Ideal.exp (masked P x t - μ) := by
  unfold masked
  split_ifs
  · exact exp2_scaled _ _
  · rw [EReal.bot_mul_of_pos (EReal.coe_pos.2 L_pos), ← EReal.coe_mul, EReal.bot_sub, EReal.bot_sub]
    rfl

theorem mono_scale : Monotone fun x : EReal => x * L :=
  fun _ _ h => mul_le_mul_of_nonneg_right h (EReal.coe_nonneg.2 L_pos.le)

theorem scale_sup {n : ℕ} (x : Fin n → EReal) : (Finset.univ.sup fun t => x t * L) = Finset.univ.sup x * L :=
  (Finset.comp_sup_eq_sup_comp_of_is_total (fun x : EReal => x * L) mono_scale
    (EReal.bot_mul_of_pos (EReal.coe_pos.2 L_pos))).symm

theorem scale_max (x y : EReal) : max (x * L) (y * L) = max x y * L := (mono_scale.map_max).symm

/-- A sum times a real number that is not negative, term by term. -/
theorem sum_mul_real {n : ℕ} (f : Fin n → EReal) {δ : ℝ} (hδ : 0 ≤ δ) : (∑ t, f t) * (δ : EReal) = ∑ t, f t * δ := by
  classical
  induction (Finset.univ : Finset (Fin n)) using Finset.induction_on with
  | empty => simp
  | insert a s ha ih =>
    rw [Finset.sum_insert ha, Finset.sum_insert ha,
      EReal.right_distrib_of_nonneg_of_ne_top (EReal.coe_nonneg.2 hδ) (EReal.coe_ne_top δ), ih]

theorem sum_coe {n : ℕ} (f : Fin n → ℝ) : (∑ t, (f t : EReal)) = ((∑ t, f t : ℝ) : EReal) := by
  classical
  induction (Finset.univ : Finset (Fin n)) using Finset.induction_on with
  | empty => simp
  | insert a s ha ih => rw [Finset.sum_insert ha, Finset.sum_insert ha, ih, EReal.coe_add]

/-- The real number an entry's exponential is. -/
def expR {n : ℕ} (P : Fin n → Prop) [DecidablePred P] (x : Fin n → ℝ) (μ : ℝ) (t : Fin n) : ℝ :=
  if P t then Real.exp (x t - μ) else 0

theorem exp_masked {n : ℕ} (P : Fin n → Prop) [DecidablePred P] (x : Fin n → ℝ) (μ : ℝ) (t : Fin n) :
    Ideal.exp (masked P x t - μ) = (expR P x μ t : EReal) := by
  unfold masked expR
  split_ifs
  · rw [← EReal.coe_sub]; rfl
  · rw [EReal.bot_sub]; rfl

theorem expR_nonneg {n : ℕ} (P : Fin n → Prop) [DecidablePred P] (x : Fin n → ℝ) (μ : ℝ) (t : Fin n) : 0 ≤ expR P x μ t := by
  unfold expR
  split_ifs
  exacts [(Real.exp_pos _).le, le_rfl]

section Band
variable {n N : ℕ} (P : Fin n → Prop) [DecidablePred P] (Q : Fin N → Prop) [DecidablePred Q] (k : Fin n → Fin N)
  (hk : ∀ t, P t → Q (k t)) (inj : ∀ t u, P t → P u → k t = k u → t = u) (surj : ∀ j, Q j → ∃ t, P t ∧ k t = j)
include hk inj surj

/-- A sum over the sequence that vanishes off `Q` is the sum over the band. -/
theorem sum_band (f : Fin N → EReal) (g : Fin n → EReal) (hf : ∀ j, ¬ Q j → f j = 0) (hg : ∀ t, ¬ P t → g t = 0)
    (h : ∀ t, P t → g t = f (k t)) : ∑ j, f j = ∑ t, g t := by
  rw [← Finset.sum_filter_of_ne (s := Finset.univ) (p := Q) (f := f) fun j _ hj => by_contra fun hq => hj (hf j hq),
    ← Finset.sum_filter_of_ne (s := Finset.univ) (p := P) (f := g) fun t _ ht => by_contra fun hp => ht (hg t hp)]
  symm
  refine Finset.sum_nbij k ?_ ?_ ?_ ?_
  · intro t ht; simpa using hk t (by simpa using ht)
  · intro t ht u hu e; exact inj t u (by simpa using ht) (by simpa using hu) e
  · intro j hj
    obtain ⟨t, ht, e⟩ := surj j (by simpa using hj)
    exact ⟨t, by simpa using ht, e⟩
  · intro t ht; exact h t (by simpa using ht)

omit inj in
theorem sup_band (x : Fin n → ℝ) (y : Fin N → ℝ) (hxy : ∀ t, P t → x t = y (k t)) :
    Finset.univ.sup (masked Q y) = Finset.univ.sup (masked P x) := by
  apply le_antisymm
  · refine Finset.sup_le fun j _ => ?_
    by_cases hq : Q j
    · obtain ⟨t, ht, e⟩ := surj j hq
      refine le_trans (le_of_eq ?_) (Finset.le_sup (f := masked P x) (Finset.mem_univ t))
      unfold masked; rw [if_pos hq, if_pos ht, hxy t ht, e]
    · unfold masked; rw [if_neg hq]; exact bot_le
  · refine Finset.sup_le fun t _ => ?_
    by_cases hp : P t
    · refine le_trans (le_of_eq ?_) (Finset.le_sup (f := masked Q y) (Finset.mem_univ (k t)))
      unfold masked; rw [if_pos (hk t hp), if_pos hp, hxy t hp]
    · unfold masked; rw [if_neg hp]; exact bot_le

end Band

theorem sup_lt_top {n : ℕ} (P : Fin n → Prop) [DecidablePred P] (x : Fin n → ℝ) : Finset.univ.sup (masked P x) < ⊤ := by
  rw [Finset.sup_lt_iff bot_lt_top]
  intro t _
  unfold masked
  split_ifs
  exacts [EReal.coe_lt_top _, bot_lt_top]

/-- The largest score is a real number. -/
theorem max_real {n n' : ℕ} (z : ℝ) (P : Fin n → Prop) [DecidablePred P] (x : Fin n → ℝ) (P' : Fin n' → Prop)
    [DecidablePred P'] (x' : Fin n' → ℝ) :
    ∃ μ : ℝ, max (max (z : EReal) (Finset.univ.sup (masked P x))) (Finset.univ.sup (masked P' x')) = μ := by
  refine ⟨_, (EReal.coe_toReal (x := max (max (z : EReal) (Finset.univ.sup (masked P x))) (Finset.univ.sup (masked P' x')))
    ?_ ?_).symm⟩
  · exact (max_lt (max_lt (EReal.coe_lt_top z) (sup_lt_top P x)) (sup_lt_top P' x')).ne
  · exact ((EReal.bot_lt_coe z).trans_le ((le_max_left _ _).trans (le_max_left _ _))).ne'

theorem div_real {D : ℝ} (hD : 0 < D) (x : EReal) : Ideal.div x D = x * ((D⁻¹ : ℝ) : EReal) := by
  unfold Ideal.div
  rw [if_neg (by exact_mod_cast hD.ne'), EReal.coe_inv]

/-- The two softmaxes agree: `z` the sink's score, `x` the band's, `y` the sequence's, `w` the context's. -/
theorem eq {N n' : ℕ} (z : ℝ) (P : Fin 384 → Prop) [DecidablePred P] (Q : Fin N → Prop) [DecidablePred Q]
    (k : Fin 384 → Fin N) (hk : ∀ t, P t → Q (k t)) (inj : ∀ t u, P t → P u → k t = k u → t = u)
    (surj : ∀ j, Q j → ∃ t, P t ∧ k t = j) (x : Fin 384 → ℝ) (y : Fin N → ℝ) (hxy : ∀ t, P t → x t = y (k t))
    (w : Fin 256 → ℝ) (vx : Fin 384 → EReal) (vy : Fin N → EReal) (hv : ∀ t, P t → vx t = vy (k t)) (vw : Fin 256 → EReal)
    (M D : EReal)
    (hM : M = max (max (z : EReal) (Finset.univ.sup (masked Q y))) (Finset.univ.sup fun t => (w t : EReal)))
    (hD : D = (Ideal.exp (z - M) + ∑ j, Ideal.exp (masked Q y j - M)) + ∑ t, Ideal.exp (w t - M)) :
    Cert.KernelIdeal.Attn.headOut ((z : EReal) * L) (fun t => masked P x t * L) (fun t => (w t : EReal) * L) vx vw
      = (∑ j, vy j * Ideal.div (Ideal.exp (masked Q y j - M)) D) + ∑ t, vw t * Ideal.div (Ideal.exp (w t - M)) D := by
  have hw : ∀ t, (w t : EReal) = masked (fun _ => True) w t := fun t => by simp [masked]
  obtain ⟨μ, hμ⟩ := max_real z P x (fun _ => True) w
  have hM' : M = μ := by
    rw [hM, sup_band P Q k hk surj x y hxy, ← hμ]
    simp only [hw]
  have hmx : max (max ((z : EReal) * L) (Finset.univ.fold max ⊥ fun t => masked P x t * L))
      (Finset.univ.fold max ⊥ fun t => (w t : EReal) * L) = (μ : EReal) * L := by
    have e1 : (Finset.univ.fold max ⊥ fun t => masked P x t * (L : EReal)) = Finset.univ.sup (masked P x) * L := scale_sup _
    have e2 : (Finset.univ.fold max ⊥ fun t => (w t : EReal) * L) = Finset.univ.sup (masked (fun _ => True) w) * L := by
      simp only [hw]
      exact scale_sup _
    rw [e1, e2, scale_max, scale_max, hμ]
  subst hM'
  have hsum : ∑ j, Ideal.exp (masked Q y j - μ) = ∑ t, Ideal.exp (masked P x t - μ) := by
    refine sum_band P Q k hk inj surj _ _ ?_ ?_ ?_
    · intro j hj; unfold masked; rw [if_neg hj, EReal.bot_sub]; rfl
    · intro j hj; unfold masked; rw [if_neg hj, EReal.bot_sub]; rfl
    · intro t ht; unfold masked; rw [if_pos ht, if_pos (hk t ht), hxy t ht]
  have hz : Ideal.exp ((z : EReal) - μ) = ((Real.exp (z - μ) : ℝ) : EReal) := by rw [← EReal.coe_sub]; rfl
  have hDr : D = ((Real.exp (z - μ) + (∑ t, expR P x μ t) + ∑ t, expR (fun _ => True) w μ t : ℝ) : EReal) := by
    rw [hD, hsum, hz]
    simp only [hw, exp_masked, sum_coe]
    rw [EReal.coe_add, EReal.coe_add]
  have hpos : 0 < Real.exp (z - μ) + (∑ t, expR P x μ t) + ∑ t, expR (fun _ => True) w μ t :=
    add_pos_of_pos_of_nonneg (add_pos_of_pos_of_nonneg (Real.exp_pos _) (Finset.sum_nonneg fun t _ => expR_nonneg P x μ t))
      (Finset.sum_nonneg fun t _ => expR_nonneg _ w μ t)
  generalize hE : Real.exp (z - μ) + (∑ t, expR P x μ t) + ∑ t, expR (fun _ => True) w μ t = E at hDr hpos
  have hden : (Ideal.exp2 ((z : EReal) * L - (μ : EReal) * L) + ∑ t, Ideal.exp2 (masked P x t * L - (μ : EReal) * L))
      + ∑ t, Ideal.exp2 ((w t : EReal) * L - (μ : EReal) * L) = (E : EReal) := by
    rw [← hDr, hD, hsum]
    simp only [exp2_masked, exp2_scaled]
  unfold Cert.KernelIdeal.Attn.headOut
  simp only [hmx]
  rw [hden, hDr, div_real hpos]
  simp only [div_real hpos, exp2_masked, exp2_scaled]
  have hi : 0 ≤ E⁻¹ := (inv_pos.2 hpos).le
  rw [EReal.right_distrib_of_nonneg_of_ne_top (EReal.coe_nonneg.2 hi) (EReal.coe_ne_top _), sum_mul_real _ hi, sum_mul_real _ hi]
  congr 1
  · symm
    refine sum_band P Q k hk inj surj _ _ ?_ ?_ ?_
    · intro j hj; unfold masked; rw [if_neg hj, EReal.bot_sub]
      change vy j * (0 * _) = 0
      rw [zero_mul, mul_zero]
    · intro j hj; unfold masked; rw [if_neg hj, EReal.bot_sub]
      change 0 * _ * _ = (0 : EReal)
      rw [zero_mul, zero_mul]
    · intro t ht; unfold masked
      rw [if_pos ht, if_pos (hk t ht), hxy t ht, hv t ht, mul_comm (Ideal.exp _) (vy (k t)), mul_assoc]
  · refine Finset.sum_congr rfl fun t _ => ?_
    rw [mul_comm (Ideal.exp _) (vw t), mul_assoc]

end Cert.Softmax
-- ==== Proof.Attn.Eq.lean ====
/- An entry of the kernel's result is the reference's entry, where the sinks, the queries and the keys are real. -/
module

public import proofs.«01_k».proof.Proof.Attn.Array
public import proofs.«01_k».proof.Proof.Attn.RefScores
public import proofs.«01_k».proof.Proof.Attn.Softmax

@[expose] public section
set_option maxRecDepth 16384
noncomputable section
namespace Cert.Attn
open Idealize.ShloMosaic Idealize.ShloMosaic.TcCoe Idealize.SL.Sem
open Cert.KernelIdeal.Attn Cert.ReferenceIdeal.Attn Cert.Softmax

/-- The factor `(√128)⁻¹`. -/
def r : ℝ := (Real.sqrt 128)⁻¹

theorem ofBits_128 : Ideal.ofBits .f32 0x43000000#32 = ((128 : ℝ) : EReal) := by
  simp [Ideal.ofBits, Ideal.ieee, -EReal.coe_mul]; norm_num

theorem sc_eq : sc = (r : EReal) := by
  unfold sc r
  rw [ofBits_128, Ideal.sqrt_coe, if_neg (by norm_num),
    Ideal.div_coe (show Real.sqrt 128 ≠ 0 from (Real.sqrt_pos.mpr (by norm_num)).ne'), one_mul, one_div]

theorem l2e_eq : l2e = (L : EReal) := IdealRules.named_const.ideal_named_scalar _ _ _ _ rfl

theorem sc2_eq : sc2 = (r : EReal) * L := by
  rw [← EReal.coe_mul]
  exact IdealRules.named_const.ideal_named_scalar _ _ _ _ rfl

/-- A product of two rows of reals. -/
theorem dot_real {n : ℕ} (u v : Fin n → EReal) (hu : ∀ x, (((u x).toReal : ℝ) : EReal) = u x)
    (hv : ∀ x, (((v x).toReal : ℝ) : EReal) = v x) :
    ∑ x, u x * v x = ((∑ x, (u x).toReal * (v x).toReal : ℝ) : EReal) := by
  rw [← sum_coe]
  refine Finset.sum_congr rfl fun x _ => ?_
  rw [EReal.coe_mul, hu, hv]

/-- Row `q`'s test of key `j` in the whole sequence. -/
abbrev near (q j : ℕ) : Prop := q ≤ j + 128 ∧ j ≤ q + 128

theorem near_of_seen {n r t : ℕ} (hn : n < 128) (hr : r < 128) (ht : t < 384) (h : seen n r t) :
    near (n * 128 + r) (keyAt n t) ∧ keyAt n t + 128 = n * 128 + t := by
  unfold keyAt
  split_ifs <;> constructor <;> (try constructor) <;> omega

theorem seen_of_near {n r j : ℕ} (hn : n < 128) (hr : r < 128) (hj : j < 16384) (h : near (n * 128 + r) j) :
    seen n r (j + 128 - n * 128) ∧ j + 128 - n * 128 < 384 ∧ keyAt n (j + 128 - n * 128) = j := by
  have h1 : j + 128 - n * 128 < 384 := by omega
  have h2 : seen n r (j + 128 - n * 128) := by refine ⟨⟨?_, ?_⟩, ?_⟩ <;> omega
  refine ⟨h2, h1, ?_⟩
  have := (near_of_seen hn hr h1 h2).2
  omega

variable (s : FVec Ideal Cert.KernelIdeal.S1x8 .f32) (p : FVec Ideal Cert.KernelIdeal.S2x16384x6656 .f32)
  (pc : FVec Ideal Cert.KernelIdeal.S2x256x6656 .f32)

section Row
variable (b : Fin 2) (k : Fin 2) (g : Fin 4) (q : Fin 16384)

/-- The largest score of a row is the largest of the sink's, the latent keys' and the context keys'. -/
theorem largest_split (z : FVec Ideal Cert.ReferenceIdeal.S2x2x4x16384x16641 .f32) :
    largest z (ix4 b k g q) = max (max (z (ix5 b k g q 0)) (Finset.univ.sup fun t : Fin 16384 => z (ix5 b k g q ⟨1 + t.val, by omega⟩)))
      (Finset.univ.sup fun t : Fin 256 => z (ix5 b k g q ⟨16385 + t.val, by omega⟩)) := by
  rw [largest_at]
  generalize hf : (fun i : Fin 16641 => (z (ix5 b k g q i) : EReal)) = f
  have h0 : z (ix5 b k g q 0) = f 0 := by rw [← hf]
  have h1 : (fun t : Fin 16384 => z (ix5 b k g q ⟨1 + t.val, by omega⟩)) = fun t => f ⟨1 + t.val, by omega⟩ := by rw [← hf]
  have h2 : (fun t : Fin 256 => z (ix5 b k g q ⟨16385 + t.val, by omega⟩)) = fun t => f ⟨16385 + t.val, by omega⟩ := by rw [← hf]
  rw [h0, h1, h2]
  apply le_antisymm
  · refine Finset.sup_le fun i _ => ?_
    by_cases c0 : i.val = 0
    · rw [show i = 0 from Fin.ext c0]
      exact (le_max_left _ _).trans (le_max_left _ _)
    by_cases c1 : i.val < 16385
    · refine le_trans (le_trans (le_of_eq (congrArg f (Fin.ext ?_)))
        (Finset.le_sup (f := fun t : Fin 16384 => f ⟨1 + t.val, by omega⟩) (Finset.mem_univ ⟨i.val - 1, by omega⟩)))
        ((le_max_right _ _).trans (le_max_left _ _))
      show i.val = 1 + (i.val - 1)
      omega
    · refine le_trans (le_trans (le_of_eq (congrArg f (Fin.ext ?_)))
        (Finset.le_sup (f := fun t : Fin 256 => f ⟨16385 + t.val, by omega⟩) (Finset.mem_univ ⟨i.val - 16385, by omega⟩)))
        (le_max_right _ _)
      show i.val = 16385 + (i.val - 16385)
      omega
  · refine max_le (max_le (Finset.le_sup (Finset.mem_univ _)) ?_) ?_
    · exact Finset.sup_le fun t _ => Finset.le_sup (f := f) (Finset.mem_univ _)
    · exact Finset.sup_le fun t _ => Finset.le_sup (f := f) (Finset.mem_univ _)

theorem sum_split {N m n : ℕ} (h : N = 1 + m + n) (f : Fin N → EReal) :
    ∑ i, f i = (f ⟨0, by omega⟩ + ∑ t : Fin m, f ⟨1 + t.val, by omega⟩) + ∑ t : Fin n, f ⟨1 + m + t.val, by omega⟩ := by
  subst h
  rw [Fin.sum_univ_add, Fin.sum_univ_add, Fin.sum_univ_one]
  rfl

/-- An entry of the reference's result. -/
theorem result_at (d : Fin 128) (M D : EReal) (hM : M = largest (scores s p pc) (ix4 b k g q))
    (hD : D = (Ideal.exp (scores s p pc (ix5 b k g q 0) - M)
        + ∑ t : Fin 16384, Ideal.exp (scores s p pc (ix5 b k g q ⟨1 + t.val, by omega⟩) - M))
      + ∑ t : Fin 256, Ideal.exp (scores s p pc (ix5 b k g q ⟨16385 + t.val, by omega⟩) - M)) :
    result s p pc (ix3 b q ⟨k.val * 512 + g.val * 128 + d.val, by omega⟩)
      = (∑ t : Fin 16384, p (ix3 b t ⟨1280 + (k.val * 128 + d.val), by omega⟩)
          * Ideal.div (Ideal.exp (scores s p pc (ix5 b k g q ⟨1 + t.val, by omega⟩) - M)) D)
        + ∑ t : Fin 256, pc (ix3 b t ⟨1280 + (k.val * 128 + d.val), by omega⟩)
          * Ideal.div (Ideal.exp (scores s p pc (ix5 b k g q ⟨16385 + t.val, by omega⟩) - M)) D := by
  unfold result
  rw [sums_at]
  have e : ∀ j, weights (exps (scores s p pc) (largest (scores s p pc))) (ix5 b k g q j)
      = Ideal.div (Ideal.exp (scores s p pc (ix5 b k g q j) - M)) D := fun j => by
    rw [weights_at, exps_at, hD, hM]
    refine congrArg (Ideal.div _) ?_
    rw [sum_split (m := 16384) (n := 256) rfl fun i => exps (scores s p pc) (largest (scores s p pc)) (ix5 b k g q i)]
    simp only [exps_at]
    rfl
  simp only [e]

end Row

theorem entry (hs : ∀ i : Fin 8, (((s (ix2 0 i)).toReal : ℝ) : EReal) = s (ix2 0 i))
    (hp : ∀ (b : Fin 2) (t : Fin 16384) (d : Fin 6656), d.val < 1280 → (((p (ix3 b t d)).toReal : ℝ) : EReal) = p (ix3 b t d))
    (hc : ∀ (b : Fin 2) (t : Fin 256) (d : Fin 256),
      (((pc (ix3 b t ⟨1024 + d.val, by omega⟩)).toReal : ℝ) : EReal) = pc (ix3 b t ⟨1024 + d.val, by omega⟩))
    (b : Fin 2) (n : Fin 128) (i : Fin 128) (k : Fin 2) (g : Fin 4) (d : Fin 128) :
    kernelOut s p pc b n i ⟨k.val * 4 + g.val, by omega⟩ d
      = result s p pc (ix3 b ⟨n.val * 128 + i.val, by omega⟩ ⟨k.val * 512 + g.val * 128 + d.val, by omega⟩) := by
  have hkg : (k.val * 4 + g.val) / 4 = k.val := by omega
  have hcol : ∀ x : Fin 128, (k.val * 4 + g.val) * 128 + x.val = k.val * 512 + g.val * 128 + x.val := fun x => by omega
  generalize hq : (⟨n.val * 128 + i.val, by omega⟩ : Fin 16384) = q
  have hqv : q.val = n.val * 128 + i.val := by rw [← hq]
  have dotK : ∀ t : Fin 16384, (∑ x : Fin 128, p (ix3 b t ⟨1024 + (k.val * 128 + x.val), by omega⟩)
      * p (ix3 b q ⟨k.val * 512 + g.val * 128 + x.val, by omega⟩)) = _ := fun t =>
    dot_real _ _ (fun x => hp _ _ _ (by show 1024 + (k.val * 128 + x.val) < 1280; omega))
      (fun x => hp _ _ _ (by show k.val * 512 + g.val * 128 + x.val < 1280; omega))
  have dotC : ∀ t : Fin 256, (∑ x : Fin 128, pc (ix3 b t ⟨1024 + (k.val * 128 + x.val), by omega⟩)
      * p (ix3 b q ⟨k.val * 512 + g.val * 128 + x.val, by omega⟩)) = _ := fun t =>
    dot_real _ _ (fun x => hc b t ⟨k.val * 128 + x.val, by omega⟩)
      (fun x => hp _ _ _ (by show k.val * 512 + g.val * 128 + x.val < 1280; omega))
  generalize hy : (fun t : Fin 16384 => ∑ x : Fin 128, (p (ix3 b t ⟨1024 + (k.val * 128 + x.val), by omega⟩)).toReal
      * (p (ix3 b q ⟨k.val * 512 + g.val * 128 + x.val, by omega⟩)).toReal) = y at *
  generalize hw : (fun t : Fin 256 => ∑ x : Fin 128, (pc (ix3 b t ⟨1024 + (k.val * 128 + x.val), by omega⟩)).toReal
      * (p (ix3 b q ⟨k.val * 512 + g.val * 128 + x.val, by omega⟩)).toReal) = w at *
  have dotK' : ∀ t : Fin 16384, (∑ x : Fin 128, p (ix3 b t ⟨1024 + (k.val * 128 + x.val), by omega⟩)
      * p (ix3 b q ⟨k.val * 512 + g.val * 128 + x.val, by omega⟩)) = (y t : EReal) := fun t => by rw [dotK t, ← hy]
  have dotC' : ∀ t : Fin 256, (∑ x : Fin 128, pc (ix3 b t ⟨1024 + (k.val * 128 + x.val), by omega⟩)
      * p (ix3 b q ⟨k.val * 512 + g.val * 128 + x.val, by omega⟩)) = (w t : EReal) := fun t => by rw [dotC t, ← hw]
  have eK : ∀ t : Fin 16384, scores s p pc (ix5 b k g q ⟨1 + t.val, by omega⟩)
      = masked (fun t : Fin 16384 => near q.val t.val) (fun t => y t * r) t := fun t => by
    rw [score_key, dotK', sc_eq, ← EReal.coe_mul]
    rfl
  have eC : ∀ t : Fin 256, scores s p pc (ix5 b k g q ⟨16385 + t.val, by omega⟩) = ((w t * r : ℝ) : EReal) := fun t => by
    rw [score_ctx, dotC', sc_eq, ← EReal.coe_mul]
  have eS : scores s p pc (ix5 b k g q 0) = (((s (ix2 0 ⟨k.val * 4 + g.val, by omega⟩)).toReal : ℝ) : EReal) := by
    rw [score_sink, hs]
  rw [result_at s p pc b k g q d _ _ rfl rfl]
  simp only [eK, eC, eS]
  have key := Cert.Softmax.eq (n' := 0) (s (ix2 0 ⟨k.val * 4 + g.val, by omega⟩)).toReal
    (fun t : Fin 384 => seen n.val i.val t.val) (fun t : Fin 16384 => near q.val t.val)
    (fun t => ⟨keyAt n.val t.val, keyAt_lt n.isLt t.isLt⟩)
    (fun t ht => by rw [hqv]; exact (near_of_seen n.isLt i.isLt t.isLt ht).1)
    (fun t u ht hu e => by
      have h1 := (near_of_seen n.isLt i.isLt t.isLt ht).2
      have h2 := (near_of_seen n.isLt i.isLt u.isLt hu).2
      have h3 := congrArg Fin.val e
      simp only [] at h3
      exact Fin.ext (by omega))
    (fun j hj => by
      rw [hqv] at hj
      obtain ⟨h1, h2, h3⟩ := seen_of_near n.isLt i.isLt j.isLt hj
      exact ⟨⟨_, h2⟩, h1, Fin.ext h3⟩)
    (fun t => y ⟨keyAt n.val t.val, keyAt_lt n.isLt t.isLt⟩ * r) (fun t => y t * r) (fun _ _ => rfl) (fun t => w t * r)
    (fun t => p (ix3 b ⟨keyAt n.val t.val, keyAt_lt n.isLt t.isLt⟩ ⟨1280 + (k.val * 128 + d.val), by omega⟩))
    (fun t => p (ix3 b t ⟨1280 + (k.val * 128 + d.val), by omega⟩)) (fun _ _ => rfl)
    (fun t => pc (ix3 b t ⟨1280 + (k.val * 128 + d.val), by omega⟩))
    (largest (scores s p pc) (ix4 b k g q)) _ (by
      rw [largest_split]
      simp only [eK, eC, eS]) rfl
  rw [← key]
  unfold kernelOut
  rw [l2e_eq, hs]
  simp only [hkg, hcol, hq, sc2_eq]
  congr 1
  · funext t
    unfold masked
    by_cases h : seen n.val i.val t.val
    · rw [if_pos h, if_pos h, ← mul_assoc, EReal.coe_mul, ← dotK']
      congr 2
      exact Finset.sum_congr rfl fun x _ => mul_comm _ _
    · rw [if_neg h, if_neg h, EReal.bot_mul_of_pos (EReal.coe_pos.2 L_pos)]
  · funext t
    rw [← mul_assoc, EReal.coe_mul, ← dotC']
    congr 2
    exact Finset.sum_congr rfl fun x _ => mul_comm _ _

end Cert.Attn
-- ==== Proof.Mlp.Row.lean ====
/- The arithmetic of one row of the feed-forward layer, on extended reals: the normalisation of a row, its scaling and
   shift, one hidden value, and the row after the last hidden value is added. -/
module

public import Idealize.ShloMosaic.Lib.Pointwise

@[expose] public section
noncomputable section
namespace Mlp
open Idealize.ShloMosaic

/-- The row `x` at `d`, times the inverse root of its mean square plus the small constant. -/
def normRow (x : Fin 2048 → EReal) (d : Fin 2048) : EReal :=
  x d * Ideal.rsqrt (Ideal.div (∑ k, x k * x k) (Ideal.ofBits .f32 0x45000000#32) + Ideal.ofBits .f32 0x358637BD#32)

/-- The normalised row scaled by `g (1 + sc)` and shifted by `sh`, as the kernel computes it. -/
def modRow (x g sc sh : Fin 2048 → EReal) (d : Fin 2048) : EReal :=
  normRow x d * (g d * (Ideal.ofBits .f32 0x3F800000#32 + sc d)) + sh d

/-- One hidden value: the square of the positive part of the product of a row and a column. -/
def act (u w : Fin 2048 → EReal) : EReal := max (∑ d, u d * w d) 0 * max (∑ d, u d * w d) 0

/-- The row `x` plus `gt` times the layer's output `y`. -/
def addRow (x gt y : Fin 2048 → EReal) (d : Fin 2048) : EReal := x d + gt d * y d

/-- The row `x` plus `gt` times the layer's output `y`, normalised and scaled by the last gain. -/
def lastRow (x gt y fn : Fin 2048 → EReal) (d : Fin 2048) : EReal :=
  normRow (fun k => x k + gt k * y k) d * fn d

theorem modRow_congr {x x' g g' sc sc' sh sh' : Fin 2048 → EReal} (hx : ∀ k, x k = x' k) (hg : ∀ k, g k = g' k)
    (hc : ∀ k, sc k = sc' k) (hh : ∀ k, sh k = sh' k) (d : Fin 2048) : modRow x g sc sh d = modRow x' g' sc' sh' d := by
  obtain rfl := funext hx
  obtain rfl := funext hg
  obtain rfl := funext hc
  obtain rfl := funext hh
  rfl

theorem addRow_congr {x x' gt gt' y y' : Fin 2048 → EReal} (hx : ∀ k, x k = x' k) (hg : ∀ k, gt k = gt' k)
    (hy : ∀ k, y k = y' k) (d : Fin 2048) : addRow x gt y d = addRow x' gt' y' d :=
  congrArg₂ (· + ·) (hx d) (congrArg₂ (· * ·) (hg d) (hy d))

theorem lastRow_congr {x x' gt gt' y y' fn fn' : Fin 2048 → EReal} (hx : ∀ k, x k = x' k) (hg : ∀ k, gt k = gt' k)
    (hy : ∀ k, y k = y' k) (hf : ∀ k, fn k = fn' k) (d : Fin 2048) : lastRow x gt y fn d = lastRow x' gt' y' fn' d := by
  obtain rfl := funext hx
  obtain rfl := funext hg
  obtain rfl := funext hy
  obtain rfl := funext hf
  rfl

end Mlp
-- ==== Proof.Mlp.Pay.lean ====
/- What the feed-forward kernel's body computes, read at an index: the modulated rows, the hidden values of a block, the
   four column tiles of the second product, and the rows of the last step. -/
module

public import proofs.«01_k».proof.Proof.Gen.Kernel2Ideal.Skeleton
public import proofs.«01_k».proof.Proof.Mlp.Row

@[expose] public section
set_option maxRecDepth 16384
noncomputable section
namespace Cert.Kernel2Ideal.Mlp
open Idealize.ShloMosaic Idealize.ShloMosaic.TcCoe Idealize.SL.Sem
open Cert.Kernel2Ideal Cert.Kernel2Ideal.Gen
open _root_.Mlp

/-- The modulated rows. -/
theorem pay1_at (g : FVec Ideal S1x2048 .f32) (sc sh : FVec Ideal S1x1x2048 .f32) (x : FVec Ideal S1x16x2048 .f32)
    (r : Fin 16) (d : Fin 2048) :
    k0_pay1 (F := Ideal) g sc sh x (ix2 r d) = modRow (fun k => x (ix3 0 r k)) (fun k => g (ix2 0 k)) (fun k => sc (ix3 0 0 k))
      (fun k => sh (ix3 0 0 k)) d := by
  unfold modRow normRow
  pointwise! [Gen.k0_pay1]

/-- The hidden values of a block of columns. -/
theorem pay2_at (u : FVec Ideal S1024x2048 .bf16) (w : FVec Ideal S2048x512 .bf16) (r : Fin 1024) (k : Fin 512) :
    k0_pay2 (F := Ideal) u w (ix2 r k) = act (fun d => u (ix2 r d)) (fun d => w (ix2 d k)) := by
  unfold act
  pointwise! [Gen.k0_pay2]

section Tiles
variable (u : FVec Ideal S1024x2048 .bf16) (w : FVec Ideal S2048x512 .bf16) (v : FVec Ideal S512x512 .bf16)
  (h : FVec Ideal S1024x512 .bf16) (a : FVec Ideal S1x1024x512 .f32) (r : Fin 1024) (n : Fin 512)

theorem pay3_at : k0_pay3 (F := Ideal) u w v (ix3 0 r n) = ∑ k : Fin 512, k0_pay2 (F := Ideal) u w (ix2 r k) * v (ix2 k n) := by
  pointwise! [Gen.k0_pay3]

theorem pay4_at : k0_pay4 (F := Ideal) u w v (ix3 0 r n) = ∑ k : Fin 512, k0_pay2 (F := Ideal) u w (ix2 r k) * v (ix2 k n) := by
  pointwise! [Gen.k0_pay4]

theorem pay5_at : k0_pay5 (F := Ideal) u w v (ix3 0 r n) = ∑ k : Fin 512, k0_pay2 (F := Ideal) u w (ix2 r k) * v (ix2 k n) := by
  pointwise! [Gen.k0_pay5]

theorem pay6_at : k0_pay6 (F := Ideal) u w v (ix3 0 r n) = ∑ k : Fin 512, k0_pay2 (F := Ideal) u w (ix2 r k) * v (ix2 k n) := by
  pointwise! [Gen.k0_pay6]

theorem pay7_at : k0_pay7 (F := Ideal) u w a v (ix3 0 r n)
    = a (ix3 0 r n) + ∑ k : Fin 512, k0_pay2 (F := Ideal) u w (ix2 r k) * v (ix2 k n) := by
  pointwise! [Gen.k0_pay7]

theorem pay10_at : k0_pay10 (F := Ideal) h a v (ix3 0 r n) = a (ix3 0 r n) + ∑ k : Fin 512, h (ix2 r k) * v (ix2 k n) := by
  pointwise! [Gen.k0_pay10]

theorem pay11_at : k0_pay11 (F := Ideal) h a v (ix3 0 r n) = a (ix3 0 r n) + ∑ k : Fin 512, h (ix2 r k) * v (ix2 k n) := by
  pointwise! [Gen.k0_pay11]

theorem pay12_at : k0_pay12 (F := Ideal) h a v (ix3 0 r n) = a (ix3 0 r n) + ∑ k : Fin 512, h (ix2 r k) * v (ix2 k n) := by
  pointwise! [Gen.k0_pay12]

end Tiles

section Rows
variable (x : FVec Ideal S1x128x2048 .f32) (gt : FVec Ideal S1x1x2048 .f32) (y : FVec Ideal S1x128x2048 .f32)
  (fn : FVec Ideal S1x2048 .f32) (r : Fin 128) (d : Fin 2048)

/-- The last step on 128 rows, read at an index: what each of the eight pieces is. -/
abbrev lastAt : EReal :=
  lastRow (fun k => x (ix3 0 r k)) (fun k => gt (ix3 0 0 k)) (fun k => y (ix3 0 r k)) (fun k => fn (ix2 0 k)) d

theorem pay13_at : k0_pay13 (F := Ideal) x gt y fn (ix3 0 r d) = lastAt x gt y fn r d := by
  unfold lastAt lastRow normRow
  pointwise! [Gen.k0_pay13]

theorem pay17_at : k0_pay17 (F := Ideal) (k0_pay14 (F := Ideal) x) (k0_pay15 (F := Ideal) y) (k0_pay16 (F := Ideal) gt) fn (ix3 0 r d) = lastAt x gt y fn r d := by
  unfold lastAt lastRow normRow
  pointwise! [Gen.k0_pay17, Gen.k0_pay14, Gen.k0_pay15, Gen.k0_pay16]

theorem pay19_at : k0_pay19 (F := Ideal) (k0_pay18 (F := Ideal) x gt y) fn (ix3 0 r d) = lastAt x gt y fn r d := by
  unfold lastAt lastRow normRow
  pointwise! [Gen.k0_pay19, Gen.k0_pay18]

theorem pay20_at : k0_pay20 (F := Ideal) x gt y fn (ix3 0 r d) = lastAt x gt y fn r d := by
  unfold lastAt lastRow normRow
  pointwise! [Gen.k0_pay20]

theorem pay21_at : k0_pay21 (F := Ideal) x gt y fn (ix3 0 r d) = lastAt x gt y fn r d := by
  unfold lastAt lastRow normRow
  pointwise! [Gen.k0_pay21]

theorem pay24_at : k0_pay24 (F := Ideal) (k0_pay22 (F := Ideal) x gt y) (k0_pay23 (F := Ideal) x gt y) fn (ix3 0 r d) = lastAt x gt y fn r d := by
  unfold lastAt lastRow normRow
  pointwise! [Gen.k0_pay24, Gen.k0_pay22, Gen.k0_pay23]

theorem pay8_at : k0_pay8 (F := Ideal) (k0_pay25 (F := Ideal) x gt y) (k0_pay26 (F := Ideal) fn) (ix3 0 r d) = lastAt x gt y fn r d := by
  unfold lastAt lastRow normRow
  pointwise! [Gen.k0_pay8, Gen.k0_pay25, Gen.k0_pay26]

theorem pay9_at : k0_pay9 (F := Ideal) x gt y fn (ix3 0 r d) = lastAt x gt y fn r d := by
  unfold lastAt lastRow normRow
  pointwise! [Gen.k0_pay9]

end Rows

end Cert.Kernel2Ideal.Mlp
-- ==== Proof.Mlp.Scratch.lean ====
/- What the loop of the first step leaves in the scratch: its 64 trips store 16 modulated rows each, so the scratch holds
   every row of the block modulated. -/
module

public import proofs.«01_k».proof.Proof.Gen.Kernel2Ideal.Loops
public import Idealize.ShloMosaic.Lib.Pipeline.ValueKit
public import Idealize.ShloMosaic.Lib.Ring
public import proofs.«01_k».proof.Proof.Mlp.Pay

@[expose] public section
set_option maxRecDepth 16384
noncomputable section
namespace Cert.Kernel2Ideal.Mlp
open Idealize.ShloMosaic Idealize.ShloMosaic.TcCoe Idealize.SL.Sem
open Cert.Kernel2Ideal Cert.Kernel2Ideal.Gen
open _root_.Mlp

/-- Row `z0` of the 16 stored by trip `k`, in the scratch, -/
theorem rows_emb (k : ℕ) (hk : k < 64) (off : Fin 2 → ℕ) (e : off = ![16 * k, 0]) (inb) (z0 : Fin 16) (z1 : Fin 2048) :
    (Rect.unit (s := S1024x2048) off S16x2048.size inb).emb (ix2 z0 z1) = ix2 ⟨16 * k + z0.val, by omega⟩ z1 := by
  subst e
  idx_ext

/-- and in the block. -/
theorem rows_idx (k : ℕ) (hk : k < 64) (off : Fin 3 → ℕ) (e : off = ![0, 16 * k, 0]) (inb) (z0 : Fin 16) (z1 : Fin 2048) :
    (Rect.unit (s := S1x1024x2048) off S1x16x2048.size inb).emb (ix3 0 z0 z1) = ix3 0 ⟨16 * k + z0.val, by omega⟩ z1 := by
  subst e
  idx_ext

section Loop
variable (𝒱 : Variants) (c : Dev nD) (bd : Option 𝒱.V) (i : grid0.Coords) (arg3 : Memref sig .tc .vmem S1x1024x2048 .f32)
  (harg3 : arg3.IsWhole) (arg4 : Memref sig .tc .vmem S1x2048 .f32) (harg4 : arg4.IsWhole)
  (arg5 : Memref sig .tc .vmem S1x1x2048 .f32) (harg5 : arg5.IsWhole) (arg6 : Memref sig .tc .vmem S1x1x2048 .f32)
  (harg6 : arg6.IsWhole) (arg7 : Memref sig .tc .vmem S1x1x2048 .f32) (harg7 : arg7.IsWhole)
  (arg8 : Memref sig .tc .vmem S2048x512 .bf16) (harg8 : arg8.IsWhole) (arg9 : Memref sig .tc .vmem S512x2048 .bf16)
  (harg9 : arg9.IsWhole) (arg10 : Memref sig .tc .vmem S1x2048 .f32) (harg10 : arg10.IsWhole)
  (arg11 : Memref sig .tc .vmem S1x1024x2048 .f32) (harg11 : arg11.IsWhole) (arg12 : Memref sig .tc .vmem S1024x2048 .bf16)
  (harg12 : arg12.IsWhole) (h1 : k0_cond1 i = 1#1) (g : Vec Ideal S1x2048 .f32) (sc sh : Vec Ideal S1x1x2048 .f32)
  (X : BufTy.Contents (Elt Ideal) arg3.view.ty)

/-- The rows of the block, modulated. -/
def modBlock (g : FVec Ideal S1x2048 .f32) (sc sh : FVec Ideal S1x1x2048 .f32) (x : FVec Ideal S1x1024x2048 .f32)
    (y : S1024x2048.Idx) : EReal :=
  modRow (fun k => x (ix3 0 (y 0) k)) (fun k => g (ix2 0 k)) (fun k => sc (ix3 0 0 k)) (fun k => sh (ix3 0 0 k)) (y 1)

theorem modBlock_at (g : FVec Ideal S1x2048 .f32) (sc sh : FVec Ideal S1x1x2048 .f32) (x : FVec Ideal S1x1024x2048 .f32)
    (r : Fin 1024) (d : Fin 2048) : modBlock g sc sh x (ix2 r d)
      = modRow (fun k => x (ix3 0 r k)) (fun k => g (ix2 0 k)) (fun k => sc (ix3 0 0 k)) (fun k => sh (ix3 0 0 k)) d := rfl

/-- One trip stores one piece: 16 modulated rows. -/
theorem trip_piece (k : Fin k0_t1_loop.trips) :
    tripL_k0_t1 (F := Ideal) 𝒱 c bd i arg3 harg3 arg4 harg4 arg5 harg5 arg6 harg6 arg7 harg7 arg8 harg8 arg9 harg9 arg10
      harg10 arg11 harg11 arg12 harg12 h1 g sc sh X k
    = [⟨Rect.unit (s := S1024x2048) (k0_off2 k) S16x2048.size (k0_off2_inb i k h1), k0_pay1 (F := Ideal) g sc sh
        (arg3.view.readAt (Elt Ideal) (Rect.unit (s := S1x1024x2048) (k0_off1 k) S1x16x2048.size (k0_off1_inb i k h1)).toLoadRect X)⟩] := by
  unfold tripL_k0_t1 trip_k0_t1
  rfl

/-- Each piece the trips before `k` store is 16 of the block's modulated rows. -/
theorem pieces_mod (x : FVec Ideal S1x1024x2048 .f32) (hx : arg3.view.read (Elt Ideal) X = x) (k : ℕ) (hk : k ≤ k0_t1_loop.trips) :
    ∀ p ∈ pb_k0_t1 (F := Ideal) 𝒱 c bd i arg3 harg3 arg4 harg4 arg5 harg5 arg6 harg6 arg7 harg7 arg8 harg8 arg9 harg9 arg10
      harg10 arg11 harg11 arg12 harg12 h1 g sc sh X k, ∀ z : p.1.shape.Idx, p.2 z = modBlock g sc sh x (p.1.emb z) := by
  induction k with
  | zero => intro p hp; exact absurd hp List.not_mem_nil
  | succ k ih =>
    intro p hp
    rw [pb_k0_t1_succ 𝒱 c bd i arg3 harg3 arg4 harg4 arg5 harg5 arg6 harg6 arg7 harg7 arg8 harg8 arg9 harg9 arg10 harg10 arg11
      harg11 arg12 harg12 h1 g sc sh X ⟨k, hk⟩, trip_piece, List.singleton_append, List.mem_cons] at hp
    rcases hp with rfl | hp
    · intro z
      rw [View.readAt_eq_ld, hx]
      have e1 := k0_off1_eq ⟨k, hk⟩
      have e2 := k0_off2_eq ⟨k, hk⟩
      idx_vars z
      refine (pay1_at _ _ _ _ z0 z1).trans ?_
      have hk' : k < 64 := Nat.lt_of_lt_of_le hk k0_t1_abs.2.1
      have hy := rows_emb k hk' (k0_off2 ⟨k, hk⟩) e2 (k0_off2_inb i ⟨k, hk⟩ h1) z0 z1
      have hl := fun d => rows_idx k hk' (k0_off1 ⟨k, hk⟩) e1 (k0_off1_inb i ⟨k, hk⟩ h1) z0 d
      refine Eq.trans ?_ (congrArg (modBlock g sc sh x) hy).symm
      rw [modBlock_at]
      exact congrArg (fun f : Fin 2048 → EReal => modRow f (fun k => g (ix2 0 k)) (fun k => sc (ix3 0 0 k))
        (fun k => sh (ix3 0 0 k)) z1) (funext fun d => congrArg x (hl d))
    · exact ih (Nat.le_of_succ_le hk) p hp

/-- The pieces of all the trips cover the scratch. -/
theorem pieces_cover (y : S1024x2048.Idx) :
    ∃ p ∈ pb_k0_t1 (F := Ideal) 𝒱 c bd i arg3 harg3 arg4 harg4 arg5 harg5 arg6 harg6 arg7 harg7 arg8 harg8 arg9 harg9 arg10
      harg10 arg11 harg11 arg12 harg12 h1 g sc sh X (Scf.trips k0_t1_loop.lb k0_t1_loop.ub k0_t1_loop.st), y ∈ p.1.set :=
  View.cover_of_tiledL (pb_k0_t1 (F := Ideal) 𝒱 c bd i arg3 harg3 arg4 harg4 arg5 harg5 arg6 harg6 arg7 harg7 arg8 harg8 arg9
    harg9 arg10 harg10 arg11 harg11 arg12 harg12 h1 g sc sh X (Scf.trips k0_t1_loop.lb k0_t1_loop.ub k0_t1_loop.st)) S16x2048.size (by sl_kernel_rfl) y

/-- What the trips leave in the scratch: the block's rows, modulated. -/
theorem scratch_eq (x : FVec Ideal S1x1024x2048 .f32) (hx : arg3.view.read (Elt Ideal) X = x) :
    View.canon (pb_k0_t1 (F := Ideal) 𝒱 c bd i arg3 harg3 arg4 harg4 arg5 harg5 arg6 harg6 arg7 harg7 arg8 harg8 arg9 harg9
      arg10 harg10 arg11 harg11 arg12 harg12 h1 g sc sh X (Scf.trips k0_t1_loop.lb k0_t1_loop.ub k0_t1_loop.st))
    = modBlock g sc sh x :=
  funext fun y => View.canon_apply_of_pieces _ _
    (pieces_mod 𝒱 c bd i arg3 harg3 arg4 harg4 arg5 harg5 arg6 harg6 arg7 harg7 arg8 harg8 arg9 harg9 arg10 harg10 arg11 harg11
      arg12 harg12 h1 g sc sh X x hx _ le_rfl) y
    (pieces_cover 𝒱 c bd i arg3 harg3 arg4 harg4 arg5 harg5 arg6 harg6 arg7 harg7 arg8 harg8 arg9 harg9 arg10 harg10 arg11
      harg11 arg12 harg12 h1 g sc sh X y)

end Loop

end Cert.Kernel2Ideal.Mlp
-- ==== Proof.Mlp.Tiles.lean ====
/- What one point of the feed-forward kernel stores, as functions of what it loads: four column tiles that make up one
   block of the second product, and at the last point eight pieces of 128 rows. -/
module

public import proofs.«01_k».proof.Proof.Gen.Kernel2Ideal.Skeleton
public import Idealize.ShloMosaic.Lib.Pipeline.ValueKit
public import Idealize.ShloMosaic.Lib.Pipeline.ReadBack
public import Idealize.ShloMosaic.Lib.Ring
public import proofs.«01_k».proof.Proof.Mlp.Pay

@[expose] public section
set_option maxRecDepth 16384
noncomputable section
namespace Cert.Kernel2Ideal.Mlp
open Idealize.ShloMosaic Idealize.ShloMosaic.TcCoe Idealize.SL.Sem
open Cert.Kernel2Ideal Cert.Kernel2Ideal.Gen
open _root_.Mlp

/-- A block of hidden values against a block of the second matrix, at row `r`, column `d`. -/
def tileSum (u : FVec Ideal S1024x2048 .bf16) (wu : FVec Ideal S2048x512 .bf16) (wd : FVec Ideal S512x2048 .bf16)
    (r : Fin 1024) (d : Fin 2048) : EReal :=
  ∑ k : Fin 512, act (fun e => u (ix2 r e)) (fun e => wu (ix2 e k)) * wd (ix2 k d)

/-- The block after the first point. -/
def firstBlock (u : FVec Ideal S1024x2048 .bf16) (wu : FVec Ideal S2048x512 .bf16)
    (wd : FVec Ideal S512x2048 .bf16) (y : S1x1024x2048.Idx) : EReal := tileSum u wu wd (y 1) (y 2)

/-- The block after a later point, from the block `P` before it. -/
def nextBlock (P : FVec Ideal S1x1024x2048 .f32) (u : FVec Ideal S1024x2048 .bf16) (wu : FVec Ideal S2048x512 .bf16)
    (wd : FVec Ideal S512x2048 .bf16) (y : S1x1024x2048.Idx) : EReal := P y + tileSum u wu wd (y 1) (y 2)

/-- The block the last step makes of the accumulated block `A`. -/
def lastBlock (x : FVec Ideal S1x1024x2048 .f32) (gt : FVec Ideal S1x1x2048 .f32) (A : FVec Ideal S1x1024x2048 .f32)
    (fn : FVec Ideal S1x2048 .f32) (y : S1x1024x2048.Idx) : EReal :=
  lastRow (fun k => x (ix3 0 (y 1) k)) (fun k => gt (ix3 0 0 k)) (fun k => A (ix3 0 (y 1) k)) (fun k => fn (ix2 0 k)) (y 2)

theorem emb_cols (o : ℕ) (ho : o + 512 ≤ 2048) (inb) (z1 : Fin 1024) (z2 : Fin 512) :
    (Rect.unit (s := S1x1024x2048) ![0, 0, o] S1x1024x512.size inb).emb (ix3 0 z1 z2) = ix3 0 z1 ⟨o + z2.val, by omega⟩ := by
  idx_ext

theorem emb_wd (o : ℕ) (ho : o + 512 ≤ 2048) (inb) (z1 : Fin 512) (z2 : Fin 512) :
    (Rect.unit (s := S512x2048) ![0, o] S512x512.size inb).emb (ix2 z1 z2) = ix2 z1 ⟨o + z2.val, by omega⟩ := by
  idx_ext

theorem emb_rows (o : ℕ) (ho : o + 128 ≤ 1024) (inb) (z1 : Fin 128) (z2 : Fin 2048) :
    (Rect.unit (s := S1x1024x2048) ![0, o, 0] S1x128x2048.size inb).emb (ix3 0 z1 z2) = ix3 0 ⟨o + z1.val, by omega⟩ z2 := by
  idx_ext

section Pieces
variable (P : FVec Ideal S1x1024x2048 .f32) (u : FVec Ideal S1024x2048 .bf16) (wu : FVec Ideal S2048x512 .bf16)
  (wd : FVec Ideal S512x2048 .bf16) (o : ℕ) (ho : o + 512 ≤ 2048) (inb) (inw)
include ho

/-- A first point's tile at column `o`, whichever payload computes it. -/
theorem first_piece (f : FVec Ideal S512x512 .bf16 → FVec Ideal S1x1024x512 .f32)
    (hf : ∀ v r n, f v (ix3 0 r n) = ∑ k : Fin 512, k0_pay2 (F := Ideal) u wu (ix2 r k) * v (ix2 k n)) (x : S1x1024x512.Idx) :
    f (View.ld (Val := Elt Ideal) (e' := .bf16) wd (Rect.unit (s := S512x2048) ![0, o] S512x512.size inw)) x
      = firstBlock u wu wd ((Rect.unit (s := S1x1024x2048) ![0, 0, o] S1x1024x512.size inb).emb x) := by
  idx_vars x
  obtain rfl : x0 = 0 := Subsingleton.elim _ _
  refine (hf _ x1 x2).trans ?_
  refine Eq.trans ?_ (congrArg (firstBlock u wu wd) (emb_cols o ho inb x1 x2)).symm
  show _ = tileSum u wu wd x1 ⟨o + x2.val, by omega⟩
  unfold tileSum
  refine Finset.sum_congr rfl fun k _ => ?_
  rw [pay2_at]
  exact congrArg (_ * wd ·) (emb_wd o ho inw k x2)

/-- A later point's tile at column `o`, whichever payload computes it. -/
theorem next_piece (f : FVec Ideal S1x1024x512 .f32 → FVec Ideal S512x512 .bf16 → FVec Ideal S1x1024x512 .f32)
    (hf : ∀ a v r n, f a v (ix3 0 r n) = a (ix3 0 r n) + ∑ k : Fin 512, k0_pay2 (F := Ideal) u wu (ix2 r k) * v (ix2 k n))
    (x : S1x1024x512.Idx) :
    f (View.ld (Val := Elt Ideal) (e' := .f32) P (Rect.unit (s := S1x1024x2048) ![0, 0, o] S1x1024x512.size inb))
        (View.ld (Val := Elt Ideal) (e' := .bf16) wd (Rect.unit (s := S512x2048) ![0, o] S512x512.size inw)) x
      = nextBlock P u wu wd ((Rect.unit (s := S1x1024x2048) ![0, 0, o] S1x1024x512.size inb).emb x) := by
  idx_vars x
  obtain rfl : x0 = 0 := Subsingleton.elim _ _
  refine (hf _ _ x1 x2).trans ?_
  refine Eq.trans ?_ (congrArg (nextBlock P u wu wd) (emb_cols o ho inb x1 x2)).symm
  show _ = P _ + tileSum u wu wd x1 ⟨o + x2.val, by omega⟩
  unfold tileSum
  refine congrArg₂ (· + ·) (congrArg P (emb_cols o ho inb x1 x2)) (Finset.sum_congr rfl fun k _ => ?_)
  rw [pay2_at]
  exact congrArg (_ * wd ·) (emb_wd o ho inw k x2)

end Pieces

/-- The four tiles of a first point make up the block. -/
theorem first_tiles (u : FVec Ideal S1024x2048 .bf16) (wu : FVec Ideal S2048x512 .bf16) (wd : FVec Ideal S512x2048 .bf16) :
    View.canon (Val := Elt Ideal) (s := S1x1024x2048) (e := .f32)
      [⟨Rect.unit ![0, 0, 1536] ![1, 1024, 512] inb_S1x1024x2048_S1x1024x512_0_0_1536,
          k0_pay6 (F := Ideal) u wu
            (View.ld (Val := Elt Ideal) (e' := .bf16) wd (Rect.unit ![0, 1536] ![512, 512] inb_S512x2048_S512x512_0_1536))⟩,
        ⟨Rect.unit ![0, 0, 1024] ![1, 1024, 512] inb_S1x1024x2048_S1x1024x512_0_0_1024,
          k0_pay5 (F := Ideal) u wu
            (View.ld (Val := Elt Ideal) (e' := .bf16) wd (Rect.unit ![0, 1024] ![512, 512] inb_S512x2048_S512x512_0_1024))⟩,
        ⟨Rect.unit ![0, 0, 512] ![1, 1024, 512] inb_S1x1024x2048_S1x1024x512_0_0_512,
          k0_pay4 (F := Ideal) u wu
            (View.ld (Val := Elt Ideal) (e' := .bf16) wd (Rect.unit ![0, 512] ![512, 512] inb_S512x2048_S512x512_0_512))⟩,
        ⟨Rect.unit ![0, 0, 0] ![1, 1024, 512] inb_S1x1024x2048_S1x1024x512_0_0_0,
          k0_pay3 (F := Ideal) u wu
            (View.ld (Val := Elt Ideal) (e' := .bf16) wd (Rect.unit ![0, 0] ![512, 512] inb_S512x2048_S512x512_0_0))⟩]
    = firstBlock u wu wd := by
  funext y
  refine View.canon_apply_of_pieces (Val := Elt Ideal) (e := .f32) (firstBlock u wu wd) _ (View.PiecesOf.mem ?_) y ?_
  · exact ⟨first_piece u wu wd 1536 (by omega) inb_S1x1024x2048_S1x1024x512_0_0_1536
        inb_S512x2048_S512x512_0_1536 (fun v => k0_pay6 (F := Ideal) u wu v) fun v r n => pay6_at u wu v r n,
      first_piece u wu wd 1024 (by omega) inb_S1x1024x2048_S1x1024x512_0_0_1024
        inb_S512x2048_S512x512_0_1024 (fun v => k0_pay5 (F := Ideal) u wu v) fun v r n => pay5_at u wu v r n,
      first_piece u wu wd 512 (by omega) inb_S1x1024x2048_S1x1024x512_0_0_512
        inb_S512x2048_S512x512_0_512 (fun v => k0_pay4 (F := Ideal) u wu v) fun v r n => pay4_at u wu v r n,
      first_piece u wu wd 0 (by omega) inb_S1x1024x2048_S1x1024x512_0_0_0
        inb_S512x2048_S512x512_0_0 (fun v => k0_pay3 (F := Ideal) u wu v) fun v r n => pay3_at u wu v r n,
      trivial⟩
  · exact View.cover_of_tiledL (s := S1x1024x2048) _ S1x1024x512.size (by sl_kernel_rfl) y

/-- The four tiles of a later point make up the block. -/
theorem next_tiles (P : FVec Ideal S1x1024x2048 .f32) (u : FVec Ideal S1024x2048 .bf16) (wu : FVec Ideal S2048x512 .bf16)
    (wd : FVec Ideal S512x2048 .bf16) :
    View.canon (Val := Elt Ideal) (s := S1x1024x2048) (e := .f32)
      [⟨Rect.unit ![0, 0, 1536] ![1, 1024, 512] inb_S1x1024x2048_S1x1024x512_0_0_1536,
          k0_pay7 (F := Ideal) u wu (View.ld (Val := Elt Ideal) (e' := .f32) P (Rect.unit ![0, 0, 1536] ![1, 1024, 512] inb_S1x1024x2048_S1x1024x512_0_0_1536))
            (View.ld (Val := Elt Ideal) (e' := .bf16) wd (Rect.unit ![0, 1536] ![512, 512] inb_S512x2048_S512x512_0_1536))⟩,
        ⟨Rect.unit ![0, 0, 1024] ![1, 1024, 512] inb_S1x1024x2048_S1x1024x512_0_0_1024,
          k0_pay12 (F := Ideal) (k0_pay2 u wu) (View.ld (Val := Elt Ideal) (e' := .f32) P (Rect.unit ![0, 0, 1024] ![1, 1024, 512] inb_S1x1024x2048_S1x1024x512_0_0_1024))
            (View.ld (Val := Elt Ideal) (e' := .bf16) wd (Rect.unit ![0, 1024] ![512, 512] inb_S512x2048_S512x512_0_1024))⟩,
        ⟨Rect.unit ![0, 0, 512] ![1, 1024, 512] inb_S1x1024x2048_S1x1024x512_0_0_512,
          k0_pay11 (F := Ideal) (k0_pay2 u wu) (View.ld (Val := Elt Ideal) (e' := .f32) P (Rect.unit ![0, 0, 512] ![1, 1024, 512] inb_S1x1024x2048_S1x1024x512_0_0_512))
            (View.ld (Val := Elt Ideal) (e' := .bf16) wd (Rect.unit ![0, 512] ![512, 512] inb_S512x2048_S512x512_0_512))⟩,
        ⟨Rect.unit ![0, 0, 0] ![1, 1024, 512] inb_S1x1024x2048_S1x1024x512_0_0_0,
          k0_pay10 (F := Ideal) (k0_pay2 u wu) (View.ld (Val := Elt Ideal) (e' := .f32) P (Rect.unit ![0, 0, 0] ![1, 1024, 512] inb_S1x1024x2048_S1x1024x512_0_0_0))
            (View.ld (Val := Elt Ideal) (e' := .bf16) wd (Rect.unit ![0, 0] ![512, 512] inb_S512x2048_S512x512_0_0))⟩]
    = nextBlock P u wu wd := by
  funext y
  refine View.canon_apply_of_pieces (Val := Elt Ideal) (e := .f32) (nextBlock P u wu wd) _ (View.PiecesOf.mem ?_) y ?_
  · exact ⟨next_piece P u wu wd 1536 (by omega) inb_S1x1024x2048_S1x1024x512_0_0_1536
        inb_S512x2048_S512x512_0_1536 (fun a v => k0_pay7 (F := Ideal) u wu a v) fun a v r n => pay7_at u wu v a r n,
      next_piece P u wu wd 1024 (by omega) inb_S1x1024x2048_S1x1024x512_0_0_1024
        inb_S512x2048_S512x512_0_1024 (fun a v => k0_pay12 (F := Ideal) _ a v) fun a v r n => pay12_at v _ a r n,
      next_piece P u wu wd 512 (by omega) inb_S1x1024x2048_S1x1024x512_0_0_512
        inb_S512x2048_S512x512_0_512 (fun a v => k0_pay11 (F := Ideal) _ a v) fun a v r n => pay11_at v _ a r n,
      next_piece P u wu wd 0 (by omega) inb_S1x1024x2048_S1x1024x512_0_0_0
        inb_S512x2048_S512x512_0_0 (fun a v => k0_pay10 (F := Ideal) _ a v) fun a v r n => pay10_at v _ a r n,
      trivial⟩
  · exact View.cover_of_tiledL (s := S1x1024x2048) _ S1x1024x512.size (by sl_kernel_rfl) y

/-- What a load of the four tiles reads. -/
theorem next_load {κ : Kind} {sp : Space} (a : View sig κ sp S1x1024x2048 .f32) (P : FVec Ideal S1x1024x2048 .f32)
    (u : FVec Ideal S1024x2048 .bf16) (wu : FVec Ideal S2048x512 .bf16) (wd : FVec Ideal S512x2048 .bf16)
    (B : Rect S1x1024x2048) :
    a.readCov (Val := Elt Ideal)
      [⟨Rect.unit ![0, 0, 1536] ![1, 1024, 512] inb_S1x1024x2048_S1x1024x512_0_0_1536,
          k0_pay7 (F := Ideal) u wu (View.ld (Val := Elt Ideal) (e' := .f32) P (Rect.unit ![0, 0, 1536] ![1, 1024, 512] inb_S1x1024x2048_S1x1024x512_0_0_1536))
            (View.ld (Val := Elt Ideal) (e' := .bf16) wd (Rect.unit ![0, 1536] ![512, 512] inb_S512x2048_S512x512_0_1536))⟩,
        ⟨Rect.unit ![0, 0, 1024] ![1, 1024, 512] inb_S1x1024x2048_S1x1024x512_0_0_1024,
          k0_pay12 (F := Ideal) (k0_pay2 u wu) (View.ld (Val := Elt Ideal) (e' := .f32) P (Rect.unit ![0, 0, 1024] ![1, 1024, 512] inb_S1x1024x2048_S1x1024x512_0_0_1024))
            (View.ld (Val := Elt Ideal) (e' := .bf16) wd (Rect.unit ![0, 1024] ![512, 512] inb_S512x2048_S512x512_0_1024))⟩,
        ⟨Rect.unit ![0, 0, 512] ![1, 1024, 512] inb_S1x1024x2048_S1x1024x512_0_0_512,
          k0_pay11 (F := Ideal) (k0_pay2 u wu) (View.ld (Val := Elt Ideal) (e' := .f32) P (Rect.unit ![0, 0, 512] ![1, 1024, 512] inb_S1x1024x2048_S1x1024x512_0_0_512))
            (View.ld (Val := Elt Ideal) (e' := .bf16) wd (Rect.unit ![0, 512] ![512, 512] inb_S512x2048_S512x512_0_512))⟩,
        ⟨Rect.unit ![0, 0, 0] ![1, 1024, 512] inb_S1x1024x2048_S1x1024x512_0_0_0,
          k0_pay10 (F := Ideal) (k0_pay2 u wu) (View.ld (Val := Elt Ideal) (e' := .f32) P (Rect.unit ![0, 0, 0] ![1, 1024, 512] inb_S1x1024x2048_S1x1024x512_0_0_0))
            (View.ld (Val := Elt Ideal) (e' := .bf16) wd (Rect.unit ![0, 0] ![512, 512] inb_S512x2048_S512x512_0_0))⟩] B.toLoadRect
    = View.ld (Val := Elt Ideal) (e' := .f32) (nextBlock P u wu wd) B := by
  rw [View.readCov_eq_canon', next_tiles]

/-- A piece of the last step at row `o`, whichever payload computes it. -/
theorem last_piece (X : FVec Ideal S1x1024x2048 .f32) (gt : FVec Ideal S1x1x2048 .f32) (A : FVec Ideal S1x1024x2048 .f32)
    (fn : FVec Ideal S1x2048 .f32) (o : ℕ) (ho : o + 128 ≤ 1024) (inb)
    (f : FVec Ideal S1x128x2048 .f32 → FVec Ideal S1x128x2048 .f32 → FVec Ideal S1x128x2048 .f32)
    (hf : ∀ a v r n, f a v (ix3 0 r n) = lastAt a gt v fn r n) (x : S1x128x2048.Idx) :
    f (View.ld (Val := Elt Ideal) (e' := .f32) X (Rect.unit (s := S1x1024x2048) ![0, o, 0] S1x128x2048.size inb))
        (View.ld (Val := Elt Ideal) (e' := .f32) A (Rect.unit (s := S1x1024x2048) ![0, o, 0] S1x128x2048.size inb)) x
      = lastBlock X gt A fn ((Rect.unit (s := S1x1024x2048) ![0, o, 0] S1x128x2048.size inb).emb x) := by
  idx_vars x
  obtain rfl : x0 = 0 := Subsingleton.elim _ _
  refine (hf _ _ x1 x2).trans ?_
  refine Eq.trans ?_ (congrArg (lastBlock X gt A fn) (emb_rows o ho inb x1 x2)).symm
  exact congrArg₂ (fun f g : Fin 2048 → EReal => lastRow f (fun k => gt (ix3 0 0 k)) g (fun k => fn (ix2 0 k)) x2)
    (funext fun k => congrArg X (emb_rows o ho inb x1 k)) (funext fun k => congrArg A (emb_rows o ho inb x1 k))

end Cert.Kernel2Ideal.Mlp
-- ==== Proof.Mlp.Points.lean ====
/- What each point of the feed-forward kernel's grid leaves in the output block and in the scratch: the first point of a
   block of rows, a middle one, the last one. -/
module

public import proofs.«01_k».proof.Proof.Gen.Kernel2Ideal.Value
public import Idealize.ShloMosaic.Lib.Pipeline.ValueKit
public import proofs.«01_k».proof.Proof.Mlp.Scratch
public import proofs.«01_k».proof.Proof.Mlp.Tiles

@[expose] public section
set_option maxRecDepth 16384
noncomputable section
namespace Cert.Kernel2Ideal.Mlp
open Idealize.ShloMosaic Idealize.ShloMosaic.TcCoe Idealize.SL.Sem
open Cert.Kernel2Ideal Cert.Kernel2Ideal.Gen
open _root_.Mlp

variable (m : (ℓ : Loc nD τ sig) → Buf (Elt Ideal) ℓ) (c : Dev nD) (t : Fin cfg0.N)

/-- What the point before `t` left. -/
abbrev before : Vec Ideal S1x1024x2048 .f32 × Vec Ideal S1024x2048 .bf16 :=
  outsAt0 m c (t.val - 1) (Nat.lt_of_le_of_lt (Nat.sub_le _ _) t.isLt)

theorem ld_u (u : FVec Ideal S1024x2048 .bf16) (inb) :
    View.ld (Val := Elt Ideal) (e' := .bf16) u (Rect.unit (s := S1024x2048) ![0, 0] S1024x2048.size inb) = u :=
  View.ld_unit_zero (Val := Elt Ideal) (e := .bf16) (by decide) inb u

theorem ld_wu (u : FVec Ideal S2048x512 .bf16) (inb) :
    View.ld (Val := Elt Ideal) (e' := .bf16) u (Rect.unit (s := S2048x512) ![0, 0] S2048x512.size inb) = u :=
  View.ld_unit_zero (Val := Elt Ideal) (e := .bf16) (by decide) inb u

theorem ld_row (u : FVec Ideal S1x2048 .f32) (inb) :
    View.ld (Val := Elt Ideal) (e' := .f32) u (Rect.unit (s := S1x2048) ![0, 0] S1x2048.size inb) = u :=
  View.ld_unit_zero (Val := Elt Ideal) (e := .f32) (by decide) inb u

theorem ld_vec (u : FVec Ideal S1x1x2048 .f32) (inb) :
    View.ld (Val := Elt Ideal) (e' := .f32) u (Rect.unit (s := S1x1x2048) ![0, 0, 0] S1x1x2048.size inb) = u :=
  View.ld_unit_zero (Val := Elt Ideal) (e := .f32) (by decide) inb u

theorem middle_scratch (h0 : ¬t.val % 16 = 0) (h2 : 1 ≤ t.val % 16) (h3 : ¬t.val % 16 = 15) :
    (outsAt0 m c t.val t.isLt).2 = (before m c t).2 := by
  rw [outsAt0_B m c t h0 h0 h2 h3]
  rfl

theorem last_scratch (h0 : ¬t.val % 16 = 0) (h2 : 1 ≤ t.val % 16) (h3 : t.val % 16 = 15) :
    (outsAt0 m c t.val t.isLt).2 = (before m c t).2 := by
  rw [outsAt0_C m c t h0 h0 h2 h3]
  rfl

theorem middle_block (h0 : ¬t.val % 16 = 0) (h2 : 1 ≤ t.val % 16) (h3 : ¬t.val % 16 = 15) :
    (outsAt0 m c t.val t.isLt).1 = nextBlock (before m c t).1 (before m c t).2 (iblk m c 5 t) (iblk m c 6 t) := by
  unfold before
  rw [outsAt0_B m c t h0 h0 h2 h3]
  frame_open
  rw [View.read_writes_junk_eq_canon]
  simp only [View.readAt_eq_ld, (hs0_5 t).read_unread, (hs0_6 t).read_unread, (hs0_8 t).read_unread,
    (Memref.isWhole_whole _).read_unread]
  generalize outsAt0 m c (t.val - 1) (Nat.lt_of_le_of_lt (Nat.sub_le _ _) t.isLt) = p
  refine (next_tiles p.1 _ _ _).trans ?_
  exact congrArg₂ (fun a b => nextBlock p.1 a b (iblk m c 6 t)) (ld_u p.2 _) (ld_wu (iblk m c 5 t) _)

end Cert.Kernel2Ideal.Mlp
-- ==== Proof.Mlp.First.lean ====
/- What the first point of a block of rows leaves: the modulated rows in the scratch, and the block's first part. -/
module

public import proofs.«01_k».proof.Proof.Mlp.Points

@[expose] public section
set_option maxRecDepth 16384
noncomputable section
namespace Cert.Kernel2Ideal.Mlp
open Idealize.ShloMosaic Idealize.ShloMosaic.TcCoe Idealize.SL.Sem
open Cert.Kernel2Ideal Cert.Kernel2Ideal.Gen
open _root_.Mlp

variable (m : (ℓ : Loc nD τ sig) → Buf (Elt Ideal) ℓ) (c : Dev nD) (t : Fin cfg0.N)

theorem mod_congr {g g' : FVec Ideal S1x2048 .f32} {sc sc' sh sh' : FVec Ideal S1x1x2048 .f32}
    (x : FVec Ideal S1x1024x2048 .f32) (hg : g = g') (hc : sc = sc') (hh : sh = sh') :
    modBlock g sc sh x = modBlock g' sc' sh' x := by
  subst hg hc hh
  rfl

theorem first_scratch (h0 : t.val % 16 = 0) (h2 : ¬1 ≤ t.val % 16) (h3 : ¬t.val % 16 = 15) :
    (outsAt0 m c t.val t.isLt).2 = modBlock (iblk m c 1 t) (iblk m c 2 t) (iblk m c 3 t) (iblk m c 0 t) := by
  rw [outsAt0_A m c t h0 h0 h2 h3]
  dsimp only
  unfold sout0_A_0
  rw [View.read_writes_junk_eq_canon]
  unfold kernelRun0_A
  dsimp only
  simp only [View.readAt_eq_ld, (hs0_1 t).read_unread, (hs0_2 t).read_unread, (hs0_3 t).read_unread]
  refine (scratch_eq Variants.none c none (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t) scM0_0
    (Memref.isWhole_whole _) _ _ _ _ _ (iblk m c 0 t) ((hs0_0 t).read_unread _)).trans ?_
  exact mod_congr (iblk m c 0 t) (ld_row (iblk m c 1 t) _) (ld_vec (iblk m c 2 t) _) (ld_vec (iblk m c 3 t) _)

theorem first_block (h0 : t.val % 16 = 0) (h2 : ¬1 ≤ t.val % 16) (h3 : ¬t.val % 16 = 15) :
    (outsAt0 m c t.val t.isLt).1
      = firstBlock (modBlock (iblk m c 1 t) (iblk m c 2 t) (iblk m c 3 t) (iblk m c 0 t)) (iblk m c 5 t) (iblk m c 6 t) := by
  rw [outsAt0_A m c t h0 h0 h2 h3]
  frame_open
  rw [View.read_writes_junk_eq_canon]
  simp only [View.readAt_eq_ld, (hs0_1 t).read_unread, (hs0_2 t).read_unread, (hs0_3 t).read_unread,
    (hs0_5 t).read_unread, (hs0_6 t).read_unread]
  refine (first_tiles _ _ (iblk m c 6 t)).trans ?_
  refine congrArg₂ (fun a b => firstBlock a b (iblk m c 6 t)) ?_ (ld_wu (iblk m c 5 t) _)
  rw [View.readCov_eq_canon']
  refine Eq.trans ?_ (ld_u (modBlock (iblk m c 1 t) (iblk m c 2 t) (iblk m c 3 t) (iblk m c 0 t)) inb_S1024x2048_S1024x2048_0_0)
  funext j
  refine (congrFun (scratch_eq Variants.none c none (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) (ms0_8 t) (hs0_8 t) scM0_0
    (Memref.isWhole_whole _) _ _ _ _ _ (iblk m c 0 t) ((hs0_0 t).read_unread _)) _).trans ?_
  exact congrFun (mod_congr (iblk m c 0 t) (ld_row (iblk m c 1 t) _) (ld_vec (iblk m c 2 t) _) (ld_vec (iblk m c 3 t) _)) _

end Cert.Kernel2Ideal.Mlp
-- ==== Proof.Mlp.Last.lean ====
/- What the last point of a block of rows leaves: the finished rows. -/
module

public import proofs.«01_k».proof.Proof.Mlp.Points

@[expose] public section
set_option maxRecDepth 16384
noncomputable section
namespace Cert.Kernel2Ideal.Mlp
open Idealize.ShloMosaic Idealize.ShloMosaic.TcCoe Idealize.SL.Sem
open Cert.Kernel2Ideal Cert.Kernel2Ideal.Gen
open _root_.Mlp

/-- The eight pieces of the last step, each 128 rows. -/
abbrev rowPieces (X : FVec Ideal S1x1024x2048 .f32) (gt : FVec Ideal S1x1x2048 .f32) (A : FVec Ideal S1x1024x2048 .f32)
    (fn : FVec Ideal S1x2048 .f32) : List (View.Piece (Elt Ideal) S1x1024x2048 .f32) :=
  [⟨Rect.unit ![0, 896, 0] ![1, 128, 2048] inb_S1x1024x2048_S1x128x2048_0_896_0,
        k0_pay9 (F := Ideal) (View.ld (Val := Elt Ideal) (e' := .f32) X (Rect.unit ![0, 896, 0] ![1, 128, 2048] inb_S1x1024x2048_S1x128x2048_0_896_0)) gt (View.ld (Val := Elt Ideal) (e' := .f32) A (Rect.unit ![0, 896, 0] ![1, 128, 2048] inb_S1x1024x2048_S1x128x2048_0_896_0)) fn⟩,
      ⟨Rect.unit ![0, 768, 0] ![1, 128, 2048] inb_S1x1024x2048_S1x128x2048_0_768_0,
        k0_pay8 (F := Ideal) (k0_pay25 (View.ld (Val := Elt Ideal) (e' := .f32) X (Rect.unit ![0, 768, 0] ![1, 128, 2048] inb_S1x1024x2048_S1x128x2048_0_768_0)) gt (View.ld (Val := Elt Ideal) (e' := .f32) A (Rect.unit ![0, 768, 0] ![1, 128, 2048] inb_S1x1024x2048_S1x128x2048_0_768_0))) (k0_pay26 fn)⟩,
      ⟨Rect.unit ![0, 640, 0] ![1, 128, 2048] inb_S1x1024x2048_S1x128x2048_0_640_0,
        k0_pay24 (F := Ideal) (k0_pay22 (View.ld (Val := Elt Ideal) (e' := .f32) X (Rect.unit ![0, 640, 0] ![1, 128, 2048] inb_S1x1024x2048_S1x128x2048_0_640_0)) gt (View.ld (Val := Elt Ideal) (e' := .f32) A (Rect.unit ![0, 640, 0] ![1, 128, 2048] inb_S1x1024x2048_S1x128x2048_0_640_0))) (k0_pay23 (View.ld (Val := Elt Ideal) (e' := .f32) X (Rect.unit ![0, 640, 0] ![1, 128, 2048] inb_S1x1024x2048_S1x128x2048_0_640_0)) gt (View.ld (Val := Elt Ideal) (e' := .f32) A (Rect.unit ![0, 640, 0] ![1, 128, 2048] inb_S1x1024x2048_S1x128x2048_0_640_0))) fn⟩,
      ⟨Rect.unit ![0, 512, 0] ![1, 128, 2048] inb_S1x1024x2048_S1x128x2048_0_512_0,
        k0_pay21 (F := Ideal) (View.ld (Val := Elt Ideal) (e' := .f32) X (Rect.unit ![0, 512, 0] ![1, 128, 2048] inb_S1x1024x2048_S1x128x2048_0_512_0)) gt (View.ld (Val := Elt Ideal) (e' := .f32) A (Rect.unit ![0, 512, 0] ![1, 128, 2048] inb_S1x1024x2048_S1x128x2048_0_512_0)) fn⟩,
      ⟨Rect.unit ![0, 384, 0] ![1, 128, 2048] inb_S1x1024x2048_S1x128x2048_0_384_0,
        k0_pay20 (F := Ideal) (View.ld (Val := Elt Ideal) (e' := .f32) X (Rect.unit ![0, 384, 0] ![1, 128, 2048] inb_S1x1024x2048_S1x128x2048_0_384_0)) gt (View.ld (Val := Elt Ideal) (e' := .f32) A (Rect.unit ![0, 384, 0] ![1, 128, 2048] inb_S1x1024x2048_S1x128x2048_0_384_0)) fn⟩,
      ⟨Rect.unit ![0, 256, 0] ![1, 128, 2048] inb_S1x1024x2048_S1x128x2048_0_256_0,
        k0_pay19 (F := Ideal) (k0_pay18 (View.ld (Val := Elt Ideal) (e' := .f32) X (Rect.unit ![0, 256, 0] ![1, 128, 2048] inb_S1x1024x2048_S1x128x2048_0_256_0)) gt (View.ld (Val := Elt Ideal) (e' := .f32) A (Rect.unit ![0, 256, 0] ![1, 128, 2048] inb_S1x1024x2048_S1x128x2048_0_256_0))) fn⟩,
      ⟨Rect.unit ![0, 128, 0] ![1, 128, 2048] inb_S1x1024x2048_S1x128x2048_0_128_0,
        k0_pay17 (F := Ideal) (k0_pay14 (View.ld (Val := Elt Ideal) (e' := .f32) X (Rect.unit ![0, 128, 0] ![1, 128, 2048] inb_S1x1024x2048_S1x128x2048_0_128_0))) (k0_pay15 (View.ld (Val := Elt Ideal) (e' := .f32) A (Rect.unit ![0, 128, 0] ![1, 128, 2048] inb_S1x1024x2048_S1x128x2048_0_128_0))) (k0_pay16 gt) fn⟩,
      ⟨Rect.unit ![0, 0, 0] ![1, 128, 2048] inb_S1x1024x2048_S1x128x2048_0_0_0,
        k0_pay13 (F := Ideal) (View.ld (Val := Elt Ideal) (e' := .f32) X (Rect.unit ![0, 0, 0] ![1, 128, 2048] inb_S1x1024x2048_S1x128x2048_0_0_0)) gt (View.ld (Val := Elt Ideal) (e' := .f32) A (Rect.unit ![0, 0, 0] ![1, 128, 2048] inb_S1x1024x2048_S1x128x2048_0_0_0)) fn⟩]

/-- They make up the block, whatever was stored before them. -/
theorem last_tiles (X : FVec Ideal S1x1024x2048 .f32) (gt : FVec Ideal S1x1x2048 .f32) (A : FVec Ideal S1x1024x2048 .f32)
    (fn : FVec Ideal S1x2048 .f32) (L : List (View.Piece (Elt Ideal) S1x1024x2048 .f32)) :
    View.canon (rowPieces X gt A fn ++ L) = lastBlock X gt A fn := by
  funext y
  refine View.canon_append_of_piecesOf (Val := Elt Ideal) (e := .f32) (lastBlock X gt A fn) L (rowPieces X gt A fn) ?_ y ?_
  · exact ⟨last_piece X gt A fn 896 (by omega) inb_S1x1024x2048_S1x128x2048_0_896_0
      (fun a v => k0_pay9 (F := Ideal) a gt v fn) fun a v r n => pay9_at a gt v fn r n,
    last_piece X gt A fn 768 (by omega) inb_S1x1024x2048_S1x128x2048_0_768_0
      (fun a v => k0_pay8 (F := Ideal) (k0_pay25 a gt v) (k0_pay26 fn)) fun a v r n => pay8_at a gt v fn r n,
    last_piece X gt A fn 640 (by omega) inb_S1x1024x2048_S1x128x2048_0_640_0
      (fun a v => k0_pay24 (F := Ideal) (k0_pay22 a gt v) (k0_pay23 a gt v) fn) fun a v r n => pay24_at a gt v fn r n,
    last_piece X gt A fn 512 (by omega) inb_S1x1024x2048_S1x128x2048_0_512_0
      (fun a v => k0_pay21 (F := Ideal) a gt v fn) fun a v r n => pay21_at a gt v fn r n,
    last_piece X gt A fn 384 (by omega) inb_S1x1024x2048_S1x128x2048_0_384_0
      (fun a v => k0_pay20 (F := Ideal) a gt v fn) fun a v r n => pay20_at a gt v fn r n,
    last_piece X gt A fn 256 (by omega) inb_S1x1024x2048_S1x128x2048_0_256_0
      (fun a v => k0_pay19 (F := Ideal) (k0_pay18 a gt v) fn) fun a v r n => pay19_at a gt v fn r n,
    last_piece X gt A fn 128 (by omega) inb_S1x1024x2048_S1x128x2048_0_128_0
      (fun a v => k0_pay17 (F := Ideal) (k0_pay14 a) (k0_pay15 v) (k0_pay16 gt) fn) fun a v r n => pay17_at a gt v fn r n,
    last_piece X gt A fn 0 (by omega) inb_S1x1024x2048_S1x128x2048_0_0_0
      (fun a v => k0_pay13 (F := Ideal) a gt v fn) fun a v r n => pay13_at a gt v fn r n, trivial⟩
  · exact View.cover_of_tiledL (s := S1x1024x2048) (rowPieces X gt A fn) S1x128x2048.size (by sl_kernel_rfl) y

variable (m : (ℓ : Loc nD τ sig) → Buf (Elt Ideal) ℓ) (c : Dev nD) (t : Fin cfg0.N)

theorem last_block (h0 : ¬t.val % 16 = 0) (h2 : 1 ≤ t.val % 16) (h3 : t.val % 16 = 15) :
    (outsAt0 m c t.val t.isLt).1 = lastBlock (iblk m c 0 t) (iblk m c 4 t)
      (nextBlock (before m c t).1 (before m c t).2 (iblk m c 5 t) (iblk m c 6 t)) (iblk m c 7 t) := by
  unfold before
  rw [outsAt0_C m c t h0 h0 h2 h3]
  frame_open
  rw [View.read_writes_junk_eq_canon]
  simp only [View.readAt_eq_ld, (hs0_0 t).read_unread, (hs0_4 t).read_unread, (hs0_5 t).read_unread, (hs0_6 t).read_unread,
    (hs0_7 t).read_unread, (hs0_8 t).read_unread, (Memref.isWhole_whole _).read_unread]
  generalize outsAt0 m c (t.val - 1) (Nat.lt_of_le_of_lt (Nat.sub_le _ _) t.isLt) = p
  simp (disch := decide) only [↓View.readCov_skip]
  simp only [next_load]
  refine (last_tiles (iblk m c 0 t) _ _ _ _).trans ?_
  exact congr (congrArg₂ (lastBlock (iblk m c 0 t)) (ld_vec (iblk m c 4 t) _)
    (congrArg₂ (fun a b => nextBlock p.1 a b (iblk m c 6 t)) (ld_u p.2 _) (ld_wu (iblk m c 5 t) _)))
    (ld_row (iblk m c 7 t) _)

end Cert.Kernel2Ideal.Mlp
-- ==== Proof.Mlp.Reads.lean ====
/- What the feed-forward kernel's windows read at a point of its grid, in terms of the argument arrays. -/
module

public import proofs.«01_k».proof.Proof.Gen.Kernel2Ideal.Value
public import Idealize.ShloMosaic.Lib.Pipeline.ValueKit
public import Idealize.ShloMosaic.Lib.Claim

@[expose] public section
set_option maxRecDepth 16384
noncomputable section
namespace Cert.Kernel2Ideal.Mlp
open Idealize.ShloMosaic Idealize.ShloMosaic.TcCoe Idealize.SL.Sem
open Cert.Kernel2Ideal Cert.Kernel2Ideal.Gen

variable (m : (ℓ : Loc nD τ sig) → Buf (Elt Ideal) ℓ)

theorem idx : ∀ t : Fin cfg0.N, win0_0.index t = ![t.val / 256, t.val / 16 % 16, 0] ∧ win0_1.index t = ![0, 0]
    ∧ win0_2.index t = ![t.val / 256, 0, 0] ∧ win0_3.index t = ![t.val / 256, 0, 0]
    ∧ win0_4.index t = ![t.val / 256, 0, 0] ∧ win0_5.index t = ![0, t.val % 16] ∧ win0_6.index t = ![t.val % 16, 0]
    ∧ win0_7.index t = ![0, 0] ∧ win0_8.index t = ![t.val / 256, t.val / 16 % 16, 0] :=
  (by decide +kernel : ∀ t : Fin grid0.N, _)

section Blocks
variable (c : Dev nD) (t : Fin cfg0.N)

theorem blk0 (b : Fin 2) (i : Fin 16) (hb : t.val / 256 = b.val) (hi : t.val / 16 % 16 = i.val) (r : Fin 1024) (d : Fin 2048) :
    (iblk m c 0 t : FVec Ideal S1x1024x2048 .f32) (ix3 0 r d)
    = m ((c : Thread nD τ).loc main_arg0) (ix3 b ⟨i.val * 1024 + r.val, by omega⟩ d) := by
  have e := idx t
  rw [hb, hi] at e
  blk_ext [iblk, V, e]

theorem blk1 (d : Fin 2048) :
    (iblk m c 1 t : FVec Ideal S1x2048 .f32) (ix2 0 d) = m ((c : Thread nD τ).loc main_arg1) (ix1 d) := by
  have e : V m c main_v0 = shapeCast _ (m ((c : Thread nD τ).loc main_arg1)) shapeCasts_S2048_S1x2048 := by
    entry_read
    rfl
  have e' := idx t
  refine Eq.trans (b := (V m c main_v0 : FVec Ideal S1x2048 .f32) (ix2 0 d)) ?_ ?_
  · blk_ext [iblk, e']
  · rw [e]
    pointwise

theorem blk2 (b : Fin 2) (hb : t.val / 256 = b.val) (d : Fin 2048) :
    (iblk m c 2 t : FVec Ideal S1x1x2048 .f32) (ix3 0 0 d) = m ((c : Thread nD τ).loc main_arg2) (ix3 b 0 d) := by
  have e := idx t
  rw [hb] at e
  blk_ext [iblk, V, e]

theorem blk3 (b : Fin 2) (hb : t.val / 256 = b.val) (d : Fin 2048) :
    (iblk m c 3 t : FVec Ideal S1x1x2048 .f32) (ix3 0 0 d) = m ((c : Thread nD τ).loc main_arg3) (ix3 b 0 d) := by
  have e := idx t
  rw [hb] at e
  blk_ext [iblk, V, e]

theorem blk4 (b : Fin 2) (hb : t.val / 256 = b.val) (d : Fin 2048) :
    (iblk m c 4 t : FVec Ideal S1x1x2048 .f32) (ix3 0 0 d) = m ((c : Thread nD τ).loc main_arg4) (ix3 b 0 d) := by
  have e := idx t
  rw [hb] at e
  blk_ext [iblk, V, e]

theorem blk5 (j : Fin 16) (hj : t.val % 16 = j.val) (d : Fin 2048) (k : Fin 512) :
    (iblk m c 5 t : FVec Ideal S2048x512 .bf16) (ix2 d k)
    = m ((c : Thread nD τ).loc main_arg5) (ix2 d ⟨j.val * 512 + k.val, by omega⟩) := by
  have e : V m c main_v1 = truncf (F := Ideal) .bf16 (m ((c : Thread nD τ).loc main_arg5)) bitsLt_bf16_f32 := by
    entry_read
    rfl
  have e' := idx t
  rw [hj] at e'
  refine Eq.trans (b := (V m c main_v1 : FVec Ideal S2048x8192 .bf16) (ix2 d ⟨j.val * 512 + k.val, by omega⟩)) ?_ ?_
  · blk_ext [iblk, e']
  · rw [e]
    pointwise

theorem blk6 (j : Fin 16) (hj : t.val % 16 = j.val) (k : Fin 512) (d : Fin 2048) :
    (iblk m c 6 t : FVec Ideal S512x2048 .bf16) (ix2 k d)
    = m ((c : Thread nD τ).loc main_arg6) (ix2 ⟨j.val * 512 + k.val, by omega⟩ d) := by
  have e : V m c main_v2 = truncf (F := Ideal) .bf16 (m ((c : Thread nD τ).loc main_arg6)) bitsLt_bf16_f32 := by
    entry_read
    rfl
  have e' := idx t
  rw [hj] at e'
  refine Eq.trans (b := (V m c main_v2 : FVec Ideal S8192x2048 .bf16) (ix2 ⟨j.val * 512 + k.val, by omega⟩ d)) ?_ ?_
  · blk_ext [iblk, e']
  · rw [e]
    pointwise

theorem blk7 (d : Fin 2048) :
    (iblk m c 7 t : FVec Ideal S1x2048 .f32) (ix2 0 d) = m ((c : Thread nD τ).loc main_arg7) (ix1 d) := by
  have e : V m c main_v3 = shapeCast _ (m ((c : Thread nD τ).loc main_arg7)) shapeCasts_S2048_S1x2048 := by
    entry_read
    rfl
  have e' := idx t
  refine Eq.trans (b := (V m c main_v3 : FVec Ideal S1x2048 .f32) (ix2 0 d)) ?_ ?_
  · blk_ext [iblk, e']
  · rw [e]
    pointwise

end Blocks

end Cert.Kernel2Ideal.Mlp
-- ==== Proof.Mlp.Sweep.lean ====
/- The 16 points that share a block of rows: the modulated rows stay in the scratch, the output block gathers the 16 parts
   of the second product, and the last point finishes the rows. -/
module

public import proofs.«01_k».proof.Proof.Mlp.First
public import proofs.«01_k».proof.Proof.Mlp.Last
public import proofs.«01_k».proof.Proof.Mlp.Reads

@[expose] public section
set_option maxRecDepth 16384
noncomputable section
namespace Cert.Kernel2Ideal.Mlp
open Idealize.ShloMosaic Idealize.ShloMosaic.TcCoe Idealize.SL.Sem
open Cert.Kernel2Ideal Cert.Kernel2Ideal.Gen
open _root_.Mlp

variable (m : (ℓ : Loc nD τ sig) → Buf (Elt Ideal) ℓ) (c : Dev nD)

/-- The modulated rows of the block that point `t` works on. -/
def rows (t : Fin cfg0.N) : FVec Ideal S1024x2048 .bf16 :=
  modBlock (iblk m c 1 t) (iblk m c 2 t) (iblk m c 3 t) (iblk m c 0 t)

theorem rows_at (t : Fin cfg0.N) (b : Fin 2) (i : Fin 16) (hb : t.val / 256 = b.val) (hi : t.val / 16 % 16 = i.val)
    (r : Fin 1024) (d : Fin 2048) : rows m c t (ix2 r d)
      = modRow (fun k => m ((c : Thread nD τ).loc main_arg0) (ix3 b ⟨i.val * 1024 + r.val, by omega⟩ k))
        (fun k => m ((c : Thread nD τ).loc main_arg1) (ix1 k)) (fun k => m ((c : Thread nD τ).loc main_arg2) (ix3 b 0 k))
        (fun k => m ((c : Thread nD τ).loc main_arg3) (ix3 b 0 k)) d := by
  unfold rows
  rw [modBlock_at]
  exact modRow_congr (blk0 m c t b i hb hi r) (blk1 m c t) (blk2 m c t b hb) (blk3 m c t b hb) d

/-- Points that share a block of rows have the same modulated rows. -/
theorem rows_same (s t : Fin cfg0.N) (h : s.val / 16 = t.val / 16) : rows m c s = rows m c t := by
  have hN : t.val < 512 := lt_of_lt_of_eq t.isLt N_0
  funext y
  idx_vars y
  rw [rows_at m c s ⟨t.val / 256, by omega⟩ ⟨t.val / 16 % 16, by omega⟩ (by show _ = t.val / 256; omega) (by show _ = t.val / 16 % 16; omega),
    rows_at m c t ⟨t.val / 256, by omega⟩ ⟨t.val / 16 % 16, by omega⟩ rfl rfl]

theorem scratch_at (n : ℕ) (h : n < cfg0.N) : (outsAt0 m c n h).2 = rows m c ⟨n, h⟩ := by
  induction n with
  | zero => exact first_scratch m c ⟨0, h⟩ rfl (by show ¬1 ≤ 0 % 16; omega) (by show ¬0 % 16 = 15; omega)
  | succ n ih =>
    by_cases h0 : (n + 1) % 16 = 0
    · exact first_scratch m c ⟨n + 1, h⟩ h0 (by show ¬1 ≤ (n + 1) % 16; omega) (by show ¬(n + 1) % 16 = 15; omega)
    · have e := (ih (Nat.lt_of_succ_lt h)).trans (rows_same m c ⟨n, Nat.lt_of_succ_lt h⟩ ⟨n + 1, h⟩ (by show n / 16 = (n + 1) / 16; omega))
      by_cases h3 : (n + 1) % 16 = 15
      · exact (last_scratch m c ⟨n + 1, h⟩ h0 (by show 1 ≤ (n + 1) % 16; omega) h3).trans e
      · exact (middle_scratch m c ⟨n + 1, h⟩ h0 (by show 1 ≤ (n + 1) % 16; omega) h3).trans e

/-- The part of the second product that point `t` adds. -/
def part (t : Fin cfg0.N) (y : S1x1024x2048.Idx) : EReal :=
  tileSum (rows m c t) (iblk m c 5 t) (iblk m c 6 t) (y 1) (y 2)

/-- The output block after point `n`'s part is added: at a last point, before the rows are finished. -/
def gathered (n : ℕ) (h : n < cfg0.N) (y : S1x1024x2048.Idx) : EReal :=
  if n % 16 = 15 then
    nextBlock (before m c ⟨n, h⟩).1 (before m c ⟨n, h⟩).2 (iblk m c 5 ⟨n, h⟩) (iblk m c 6 ⟨n, h⟩) y
  else (outsAt0 m c n h).1 y

theorem gathered_first (t : Fin cfg0.N) (h0 : t.val % 16 = 0) (y : S1x1024x2048.Idx) :
    gathered m c t.val t.isLt y = 0 + part m c t y := by
  unfold gathered
  rw [if_neg (by omega), zero_add]
  exact congrFun (first_block m c t h0 (by omega) (by omega)) y

theorem gathered_next (t : Fin cfg0.N) (h0 : ¬t.val % 16 = 0) (y : S1x1024x2048.Idx) :
    gathered m c t.val t.isLt y
      = gathered m c (t.val - 1) (Nat.lt_of_le_of_lt (Nat.sub_le _ _) t.isLt) y + part m c t y := by
  have e : gathered m c t.val t.isLt y
      = nextBlock (before m c t).1 (before m c t).2 (iblk m c 5 t) (iblk m c 6 t) y := by
    unfold gathered
    by_cases h3 : t.val % 16 = 15
    · rw [if_pos h3]
    · rw [if_neg h3]
      exact congrFun (middle_block m c t h0 (by omega) h3) y
  rw [e]
  refine congrArg₂ (· + ·) ?_ ?_
  · unfold gathered before
    rw [if_neg (by omega)]
  · refine congrArg (fun u => tileSum u (iblk m c 5 t) (iblk m c 6 t) (y 1) (y 2)) ?_
    exact (scratch_at m c _ _).trans (rows_same m c _ _ (by show (t.val - 1) / 16 = _; omega))

/-- At the last point the block has gathered all 16 parts. -/
theorem gathered_last (t : Fin cfg0.N) (h3 : t.val % 16 = 15) (y : S1x1024x2048.Idx) :
    gathered m c t.val t.isLt y
      = ∑ s : Fin 16, part m c ⟨16 * (t.val / 16) + s.val, Pipeline.run_point_lt_of_flush t (J := 16) h3 s⟩ y := by
  rw [Pipeline.eq_sum_fin_of_reset_step_apply_of_flush (fun n h => gathered m c n h) 16 (fun _ => 0) (part m c)
    (gathered_first m c) (gathered_next m c) t h3 y, zero_add]

theorem block_last (t : Fin cfg0.N) (h3 : t.val % 16 = 15) :
    (outsAt0 m c t.val t.isLt).1 = lastBlock (iblk m c 0 t) (iblk m c 4 t)
      (fun y => ∑ s : Fin 16, part m c ⟨16 * (t.val / 16) + s.val, Pipeline.run_point_lt_of_flush t (J := 16) h3 s⟩ y)
      (iblk m c 7 t) := by
  rw [last_block m c t (by omega) (by omega) h3]
  refine congrArg (fun A => lastBlock (iblk m c 0 t) (iblk m c 4 t) A (iblk m c 7 t)) (funext fun y => ?_)
  rw [← gathered_last m c t h3 y]
  unfold gathered
  rw [if_pos h3]

end Cert.Kernel2Ideal.Mlp
-- ==== Proof.Mlp.Array.lean ====
/- What the feed-forward kernel leaves in its result array: each entry in terms of the entries of the argument arrays. -/
module

public import proofs.«01_k».proof.Proof.Mlp.Sweep

@[expose] public section
set_option maxRecDepth 16384
noncomputable section
namespace Cert.Kernel2Ideal.Mlp
open Idealize.ShloMosaic Idealize.ShloMosaic.TcCoe Idealize.SL.Sem
open Cert.Kernel2Ideal Cert.Kernel2Ideal.Gen
open _root_.Mlp

variable (m : (ℓ : Loc nD τ sig) → Buf (Elt Ideal) ℓ) (c : Dev nD)

/-- The 16 parts at row `r` of block `i`, column `d`, are the second product's whole sum. -/
theorem parts_sum (t : Fin cfg0.N) (h3 : t.val % 16 = 15) (b : Fin 2) (i : Fin 16) (hb : t.val / 256 = b.val)
    (hi : t.val / 16 % 16 = i.val) (r : Fin 1024) (d : Fin 2048) :
    ∑ s : Fin 16, part m c ⟨16 * (t.val / 16) + s.val, Pipeline.run_point_lt_of_flush t (J := 16) h3 s⟩ (ix3 0 r d)
      = ∑ k : Fin 8192, act
          (modRow (fun k => m ((c : Thread nD τ).loc main_arg0) (ix3 b ⟨i.val * 1024 + r.val, by omega⟩ k))
            (fun k => m ((c : Thread nD τ).loc main_arg1) (ix1 k)) (fun k => m ((c : Thread nD τ).loc main_arg2) (ix3 b 0 k))
            (fun k => m ((c : Thread nD τ).loc main_arg3) (ix3 b 0 k)))
          (fun e => m ((c : Thread nD τ).loc main_arg5) (ix2 e k)) * m ((c : Thread nD τ).loc main_arg6) (ix2 k d) := by
  have hp : ∀ s : Fin 16, ∀ y, part m c ⟨16 * (t.val / 16) + s.val, Pipeline.run_point_lt_of_flush t (J := 16) h3 s⟩ y
      = ∑ k : Fin 512, act (fun e => rows m c ⟨16 * (t.val / 16) + s.val, Pipeline.run_point_lt_of_flush t (J := 16) h3 s⟩ (ix2 (y 1) e))
        (fun e => (iblk m c 5 ⟨16 * (t.val / 16) + s.val, Pipeline.run_point_lt_of_flush t (J := 16) h3 s⟩ : FVec Ideal S2048x512 .bf16) (ix2 e k))
        * (iblk m c 6 ⟨16 * (t.val / 16) + s.val, Pipeline.run_point_lt_of_flush t (J := 16) h3 s⟩ : FVec Ideal S512x2048 .bf16) (ix2 k (y 2)) :=
    fun s y => rfl
  refine (Finset.sum_congr rfl fun s _ => hp s _).trans ?_
  refine Fin.sum_mul_add_congr fun s k hl => ?_
  have hN : t.val < 512 := lt_of_lt_of_eq t.isLt N_0
  refine congrArg₂ (· * ·) (congrArg₂ act (funext fun e => ?_) (funext fun e => ?_)) ?_
  · exact rows_at m c _ b i (by show (16 * (t.val / 16) + s.val) / 256 = _; omega)
      (by show (16 * (t.val / 16) + s.val) / 16 % 16 = _; omega) r e
  · exact blk5 m c _ s (by show (16 * (t.val / 16) + s.val) % 16 = _; omega) e k
  · exact blk6 m c _ s (by show (16 * (t.val / 16) + s.val) % 16 = _; omega) k d

/-- One entry of the kernel's result. -/
def kernelOut (x : S2x16384x2048.Idx → EReal) (g : S2048.Idx → EReal) (sc sh gt : S2x1x2048.Idx → EReal)
    (wu : S2048x8192.Idx → EReal) (wd : S8192x2048.Idx → EReal) (fn : S2048.Idx → EReal) (y : S2x16384x2048.Idx) : EReal :=
  lastRow (fun k => x (ix3 (y 0) (y 1) k)) (fun k => gt (ix3 (y 0) 0 k))
    (fun n => ∑ k : Fin 8192, act (modRow (fun k => x (ix3 (y 0) (y 1) k)) (fun k => g (ix1 k)) (fun k => sc (ix3 (y 0) 0 k))
      (fun k => sh (ix3 (y 0) 0 k))) (fun e => wu (ix2 e k)) * wd (ix2 k n))
    (fun k => fn (ix1 k)) (y 2)

/-- What a last point writes back, at an index of its block. -/
theorem written (t : Fin cfg0.N) (h3 : t.val % 16 = 15) (b : Fin 2) (i : Fin 16) (hb : t.val / 256 = b.val)
    (hi : t.val / 16 % 16 = i.val) (r : Fin 1024) (d : Fin 2048) :
    (outsAt0 m c t.val t.isLt).1 (ix3 0 r d)
      = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (ix3 b ⟨i.val * 1024 + r.val, by omega⟩ d) := by
  rw [block_last m c t h3]
  exact lastRow_congr (blk0 m c t b i hb hi r) (blk4 m c t b hb) (parts_sum m c t h3 b i hb hi r) (blk7 m c t) d

theorem final : (dats m 0 c).arrAt 8 cfg0.N
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  have h3 := (flush0_8 t).mp hf
  have hN : t.val < 512 := lt_of_lt_of_eq t.isLt N_0
  have e := idx t
  have hw : ∀ (r : Fin 1024) (d : Fin 2048), _ := written m c t h3 ⟨t.val / 256, by omega⟩ ⟨t.val / 16 % 16, by omega⟩ rfl rfl
  blk_simp
  rw [after0_8]
  idx_vars y
  obtain rfl : y0 = 0 := Subsingleton.elim _ _
  refine (hw y1 y2).trans ?_
  generalize kernelOut _ _ _ _ _ _ _ _ = K
  blk_ext [e]

end Cert.Kernel2Ideal.Mlp
-- ==== Proof.Mlp.Ref.lean ====
/- The plain feed-forward layer's result, read at an index: a normalised row, its scaling and shift, the hidden values,
   the row they are added to. -/
module

public import proofs.«01_k».proof.Proof.Gen.Reference2Ideal.Run
public import Idealize.ShloMosaic.Lib.Pointwise
public import proofs.«01_k».proof.Proof.Mlp.Row

@[expose] public section
set_option maxRecDepth 16384
noncomputable section
namespace Cert.Reference2Ideal.Mlp
open Idealize.ShloMosaic Idealize.ShloMosaic.TcCoe Idealize.SL.Sem
open Cert.Reference2Ideal Cert.Reference2Ideal.Gen Cert.Reference2Ideal.Value
open _root_.Mlp

/-- Every row normalised and scaled by the gain. -/
def normed (x : FVec Ideal S2x16384x2048 .f32) (g : FVec Ideal S2048 .f32) : FVec Ideal S2x16384x2048 .f32 :=
  mulf (mulf x (broadcastInDim S2x16384x2048 ![0, 1, 2] bcast_S2x16384x1_S2x16384x2048_0_1_2 (Host.rsqrt (addf (Host.divf
    (broadcastInDim S2x16384x1 ![0, 1] bcast_S2x16384_S2x16384x1_0_1 (Host.reduceAdd (mulf x x) (constant S_ .f32 0x00000000#32)
    reducesTo_S2x16384x2048_S2x16384_d2 h_S_)) (broadcastInDim S2x16384x1 ![] bcast_S_S2x16384x1 (constant S_ .f32 0x45000000#32)))
    (broadcastInDim S2x16384x1 ![] bcast_S_S2x16384x1 (constant S_ .f32 0x358637BD#32))))))
    (broadcastInDim S2x16384x2048 ![0, 1, 2] bcast_S1x1x2048_S2x16384x2048_0_1_2 (broadcastInDim S1x1x2048 ![2] bcast_S2048_S1x1x2048_2 g))

/-- The normalised rows `z` scaled by `1 + sc` and shifted by `sh`. -/
def modulated (z : FVec Ideal S2x16384x2048 .f32) (sc sh : FVec Ideal S2x1x2048 .f32) : FVec Ideal S2x16384x2048 .f32 :=
  addf (mulf z (broadcastInDim S2x16384x2048 ![0, 1, 2] bcast_S2x1x2048_S2x16384x2048_0_1_2
    (addf (broadcastInDim S2x1x2048 ![] bcast_S_S2x1x2048 (constant S_ .f32 0x3F800000#32)) sc)))
    (broadcastInDim S2x16384x2048 ![0, 1, 2] bcast_S2x1x2048_S2x16384x2048_0_1_2 sh)

/-- The hidden values before the positive part is taken. -/
def raised (u : FVec Ideal S2x16384x2048 .f32) (wu : FVec Ideal S2048x8192 .f32) : FVec Ideal S2x16384x8192 .f32 :=
  Host.dotGeneral dot_S2x16384x2048_S2048x8192_S2x16384x8192_2_0_01_1_n_n none u wu

/-- The hidden values. -/
def hidden (h : FVec Ideal S2x16384x8192 .f32) : FVec Ideal S2x16384x8192 .f32 :=
  mulf (maximumf h (broadcastInDim S2x16384x8192 ![] bcast_S_S2x16384x8192 (constant S_ .f32 0x00000000#32)))
    (maximumf h (broadcastInDim S2x16384x8192 ![] bcast_S_S2x16384x8192 (constant S_ .f32 0x00000000#32)))

/-- The rows with the layer's output added. -/
def added (x : FVec Ideal S2x16384x2048 .f32) (gt : FVec Ideal S2x1x2048 .f32) (h : FVec Ideal S2x16384x8192 .f32)
    (wd : FVec Ideal S8192x2048 .f32) : FVec Ideal S2x16384x2048 .f32 :=
  addf x (mulf (broadcastInDim S2x16384x2048 ![0, 1, 2] bcast_S2x1x2048_S2x16384x2048_0_1_2 gt)
    (Host.dotGeneral dot_S2x16384x8192_S8192x2048_S2x16384x2048_2_0_01_1_n_n none h wd))

theorem normed_at (x : FVec Ideal S2x16384x2048 .f32) (g : FVec Ideal S2048 .f32) (b : Fin 2) (r : Fin 16384) (d : Fin 2048) :
    normed x g (ix3 b r d) = normRow (fun k => x (ix3 b r k)) d * g (ix1 d) := by
  unfold normRow
  pointwise! [normed]

theorem modulated_at (z : FVec Ideal S2x16384x2048 .f32) (sc sh : FVec Ideal S2x1x2048 .f32) (b : Fin 2) (r : Fin 16384)
    (d : Fin 2048) : modulated z sc sh (ix3 b r d)
      = z (ix3 b r d) * (Ideal.ofBits .f32 0x3F800000#32 + sc (ix3 b 0 d)) + sh (ix3 b 0 d) := by
  pointwise! [modulated]

theorem raised_at (u : FVec Ideal S2x16384x2048 .f32) (wu : FVec Ideal S2048x8192 .f32) (b : Fin 2) (r : Fin 16384)
    (k : Fin 8192) : raised u wu (ix3 b r k) = ∑ e : Fin 2048, u (ix3 b r e) * wu (ix2 e k) := by
  pointwise [raised]

theorem hidden_at (h : FVec Ideal S2x16384x8192 .f32) (b : Fin 2) (r : Fin 16384) (k : Fin 8192) :
    hidden h (ix3 b r k) = max (h (ix3 b r k)) 0 * max (h (ix3 b r k)) 0 := by
  pointwise! [hidden]

theorem added_at (x : FVec Ideal S2x16384x2048 .f32) (gt : FVec Ideal S2x1x2048 .f32) (h : FVec Ideal S2x16384x8192 .f32)
    (wd : FVec Ideal S8192x2048 .f32) (b : Fin 2) (r : Fin 16384) (d : Fin 2048) :
    added x gt h wd (ix3 b r d) = x (ix3 b r d) + gt (ix3 b 0 d) * ∑ k : Fin 8192, h (ix3 b r k) * wd (ix2 k d) := by
  pointwise [added]

/-- The result in these steps. -/
theorem result_eq (m : (ℓ : Loc nD τ sig) → Buf (Elt Ideal) ℓ) (c : Dev nD) :
    res_out0 m c = normed (added (m ((c : Thread nD τ).loc main_arg0)) (m ((c : Thread nD τ).loc main_arg4))
      (hidden (raised (modulated (normed (m ((c : Thread nD τ).loc main_arg0)) (m ((c : Thread nD τ).loc main_arg1)))
        (m ((c : Thread nD τ).loc main_arg2)) (m ((c : Thread nD τ).loc main_arg3))) (m ((c : Thread nD τ).loc main_arg5))))
      (m ((c : Thread nD τ).loc main_arg6))) (m ((c : Thread nD τ).loc main_arg7)) := rfl

end Cert.Reference2Ideal.Mlp
-- ==== Proof.Mlp.Eq.lean ====
/- An entry of the feed-forward kernel's result is the plain layer's entry. -/
module

public import proofs.«01_k».proof.Proof.Mlp.Array
public import proofs.«01_k».proof.Proof.Mlp.Ref

@[expose] public section
set_option maxRecDepth 16384
noncomputable section
namespace Cert.Mlp
open Idealize.ShloMosaic Idealize.ShloMosaic.TcCoe Idealize.SL.Sem
open Cert.Kernel2Ideal.Mlp Cert.Reference2Ideal.Mlp
open _root_.Mlp

variable (x : FVec Ideal Cert.Kernel2Ideal.S2x16384x2048 .f32) (g : FVec Ideal Cert.Kernel2Ideal.S2048 .f32)
  (sc sh gt : FVec Ideal Cert.Kernel2Ideal.S2x1x2048 .f32) (wu : FVec Ideal Cert.Kernel2Ideal.S2048x8192 .f32)
  (wd : FVec Ideal Cert.Kernel2Ideal.S8192x2048 .f32) (fn : FVec Ideal Cert.Kernel2Ideal.S2048 .f32)
  (b : Fin 2) (r : Fin 16384)

/-- The modulated row: the gain goes with the scale in the kernel, with the row in the reference. -/
theorem mod_eq (d : Fin 2048) : modulated (normed x g) sc sh (ix3 b r d)
    = modRow (fun k => x (ix3 b r k)) (fun k => g (ix1 k)) (fun k => sc (ix3 b 0 k)) (fun k => sh (ix3 b 0 k)) d := by
  rw [modulated_at, normed_at]
  unfold modRow
  rw [mul_assoc]

theorem hidden_eq (k : Fin 8192) : hidden (raised (modulated (normed x g) sc sh) wu) (ix3 b r k)
    = act (modRow (fun k => x (ix3 b r k)) (fun k => g (ix1 k)) (fun k => sc (ix3 b 0 k)) (fun k => sh (ix3 b 0 k)))
      (fun e => wu (ix2 e k)) := by
  rw [hidden_at, raised_at]
  unfold act
  simp only [mod_eq]

theorem entry (d : Fin 2048) : normed (added x gt (hidden (raised (modulated (normed x g) sc sh) wu)) wd) fn (ix3 b r d)
    = kernelOut x g sc sh gt wu wd fn (ix3 b r d) := by
  rw [normed_at]
  refine congrArg (fun h : Fin 2048 → EReal => normRow h d * fn (ix1 d)) (funext fun k => ?_)
  rw [added_at]
  refine congrArg (fun z : EReal => x (ix3 b r k) + gt (ix3 b 0 k) * z) (Finset.sum_congr rfl fun j _ => ?_)
  exact congrArg (· * wd (ix2 j k)) (hidden_eq x g sc sh wu b r j)

end Cert.Mlp
-- ==== Proof.Mid.Pay.lean ====
/- What the body of the first layer's feed-forward kernel computes, read at an index: the modulated rows, the hidden values of a block, the
   four column tiles of the second product, and the rows of the last step. -/
module

public import proofs.«01_k».proof.Proof.Gen.Kernel3Ideal.Skeleton
public import proofs.«01_k».proof.Proof.Mlp.Row

@[expose] public section
set_option maxRecDepth 16384
noncomputable section
namespace Cert.Kernel3Ideal.Mlp
open Idealize.ShloMosaic Idealize.ShloMosaic.TcCoe Idealize.SL.Sem
open Cert.Kernel3Ideal Cert.Kernel3Ideal.Gen
open _root_.Mlp

/-- The modulated rows. -/
theorem pay1_at (g : FVec Ideal S1x2048 .f32) (sc sh : FVec Ideal S1x1x2048 .f32) (x : FVec Ideal S1x16x2048 .f32)
    (r : Fin 16) (d : Fin 2048) :
    k0_pay1 (F := Ideal) g sc sh x (ix2 r d) = modRow (fun k => x (ix3 0 r k)) (fun k => g (ix2 0 k)) (fun k => sc (ix3 0 0 k))
      (fun k => sh (ix3 0 0 k)) d := by
  unfold modRow normRow
  pointwise! [Gen.k0_pay1]

/-- The hidden values of a block of columns. -/
theorem pay2_at (u : FVec Ideal S1024x2048 .bf16) (w : FVec Ideal S2048x512 .bf16) (r : Fin 1024) (k : Fin 512) :
    k0_pay2 (F := Ideal) u w (ix2 r k) = act (fun d => u (ix2 r d)) (fun d => w (ix2 d k)) := by
  unfold act
  pointwise! [Gen.k0_pay2]

section Tiles
variable (u : FVec Ideal S1024x2048 .bf16) (w : FVec Ideal S2048x512 .bf16) (v : FVec Ideal S512x512 .bf16)
  (h : FVec Ideal S1024x512 .bf16) (a : FVec Ideal S1x1024x512 .f32) (r : Fin 1024) (n : Fin 512)

theorem pay3_at : k0_pay3 (F := Ideal) u w v (ix3 0 r n) = ∑ k : Fin 512, k0_pay2 (F := Ideal) u w (ix2 r k) * v (ix2 k n) := by
  pointwise! [Gen.k0_pay3]

theorem pay4_at : k0_pay4 (F := Ideal) u w v (ix3 0 r n) = ∑ k : Fin 512, k0_pay2 (F := Ideal) u w (ix2 r k) * v (ix2 k n) := by
  pointwise! [Gen.k0_pay4]

theorem pay5_at : k0_pay5 (F := Ideal) u w v (ix3 0 r n) = ∑ k : Fin 512, k0_pay2 (F := Ideal) u w (ix2 r k) * v (ix2 k n) := by
  pointwise! [Gen.k0_pay5]

theorem pay6_at : k0_pay6 (F := Ideal) u w v (ix3 0 r n) = ∑ k : Fin 512, k0_pay2 (F := Ideal) u w (ix2 r k) * v (ix2 k n) := by
  pointwise! [Gen.k0_pay6]

theorem pay7_at : k0_pay7 (F := Ideal) u w a v (ix3 0 r n)
    = a (ix3 0 r n) + ∑ k : Fin 512, k0_pay2 (F := Ideal) u w (ix2 r k) * v (ix2 k n) := by
  pointwise! [Gen.k0_pay7]

theorem pay9_at : k0_pay9 (F := Ideal) h a v (ix3 0 r n) = a (ix3 0 r n) + ∑ k : Fin 512, h (ix2 r k) * v (ix2 k n) := by
  pointwise! [Gen.k0_pay9]

theorem pay10_at : k0_pay10 (F := Ideal) h a v (ix3 0 r n) = a (ix3 0 r n) + ∑ k : Fin 512, h (ix2 r k) * v (ix2 k n) := by
  pointwise! [Gen.k0_pay10]

theorem pay11_at : k0_pay11 (F := Ideal) h a v (ix3 0 r n) = a (ix3 0 r n) + ∑ k : Fin 512, h (ix2 r k) * v (ix2 k n) := by
  pointwise! [Gen.k0_pay11]

end Tiles

section Rows
variable (x : FVec Ideal S1x128x2048 .f32) (gt : FVec Ideal S1x1x2048 .f32) (y : FVec Ideal S1x128x2048 .f32)
  (r : Fin 128) (d : Fin 2048)

/-- The last step on 128 rows, read at an index: what each of the eight pieces is. -/
abbrev lastAt : EReal := addRow (fun k => x (ix3 0 r k)) (fun k => gt (ix3 0 0 k)) (fun k => y (ix3 0 r k)) d

theorem pay12_at : k0_pay12 (F := Ideal) x gt y (ix3 0 r d) = lastAt x gt y r d := by
  unfold lastAt addRow
  pointwise! [Gen.k0_pay12]

theorem pay13_at : k0_pay13 (F := Ideal) x gt y (ix3 0 r d) = lastAt x gt y r d := by
  unfold lastAt addRow
  pointwise! [Gen.k0_pay13]

theorem pay16_at : k0_pay16 (F := Ideal) (k0_pay14 (F := Ideal) x) (k0_pay15 (F := Ideal) gt) y (ix3 0 r d) = lastAt x gt y r d := by
  unfold lastAt addRow
  pointwise! [Gen.k0_pay16, Gen.k0_pay14, Gen.k0_pay15]

theorem pay17_at : k0_pay17 (F := Ideal) x gt y (ix3 0 r d) = lastAt x gt y r d := by
  unfold lastAt addRow
  pointwise! [Gen.k0_pay17]

theorem pay19_at : k0_pay19 (F := Ideal) (k0_pay18 (F := Ideal) x gt y) (ix3 0 r d) = lastAt x gt y r d := by
  unfold lastAt addRow
  pointwise! [Gen.k0_pay19, Gen.k0_pay18]

theorem pay20_at : k0_pay20 (F := Ideal) x gt y (ix3 0 r d) = lastAt x gt y r d := by
  unfold lastAt addRow
  pointwise! [Gen.k0_pay20]

theorem pay21_at : k0_pay21 (F := Ideal) x gt y (ix3 0 r d) = lastAt x gt y r d := by
  unfold lastAt addRow
  pointwise! [Gen.k0_pay21]

theorem pay8_at : k0_pay8 (F := Ideal) (k0_pay22 (F := Ideal) x) gt y (ix3 0 r d) = lastAt x gt y r d := by
  unfold lastAt addRow
  pointwise! [Gen.k0_pay8, Gen.k0_pay22]

end Rows

end Cert.Kernel3Ideal.Mlp
-- ==== Proof.Mid.Scratch.lean ====
/- What the loop of the first step leaves in the scratch: its 64 trips store 16 modulated rows each, so the scratch holds
   every row of the block modulated. -/
module

public import proofs.«01_k».proof.Proof.Gen.Kernel3Ideal.Loops
public import Idealize.ShloMosaic.Lib.Pipeline.ValueKit
public import Idealize.ShloMosaic.Lib.Ring
public import proofs.«01_k».proof.Proof.Mid.Pay

@[expose] public section
set_option maxRecDepth 16384
noncomputable section
namespace Cert.Kernel3Ideal.Mlp
open Idealize.ShloMosaic Idealize.ShloMosaic.TcCoe Idealize.SL.Sem
open Cert.Kernel3Ideal Cert.Kernel3Ideal.Gen
open _root_.Mlp

/-- Row `z0` of the 16 stored by trip `k`, in the scratch, -/
theorem rows_emb (k : ℕ) (hk : k < 64) (off : Fin 2 → ℕ) (e : off = ![16 * k, 0]) (inb) (z0 : Fin 16) (z1 : Fin 2048) :
    (Rect.unit (s := S1024x2048) off S16x2048.size inb).emb (ix2 z0 z1) = ix2 ⟨16 * k + z0.val, by omega⟩ z1 := by
  subst e
  idx_ext

/-- and in the block. -/
theorem rows_idx (k : ℕ) (hk : k < 64) (off : Fin 3 → ℕ) (e : off = ![0, 16 * k, 0]) (inb) (z0 : Fin 16) (z1 : Fin 2048) :
    (Rect.unit (s := S1x1024x2048) off S1x16x2048.size inb).emb (ix3 0 z0 z1) = ix3 0 ⟨16 * k + z0.val, by omega⟩ z1 := by
  subst e
  idx_ext

section Loop
variable (𝒱 : Variants) (c : Dev nD) (bd : Option 𝒱.V) (i : grid0.Coords) (arg3 : Memref sig .tc .vmem S1x1024x2048 .f32)
  (harg3 : arg3.IsWhole) (arg4 : Memref sig .tc .vmem S1x2048 .f32) (harg4 : arg4.IsWhole)
  (arg5 : Memref sig .tc .vmem S1x1x2048 .f32) (harg5 : arg5.IsWhole) (arg6 : Memref sig .tc .vmem S1x1x2048 .f32)
  (harg6 : arg6.IsWhole) (arg7 : Memref sig .tc .vmem S1x1x2048 .f32) (harg7 : arg7.IsWhole)
  (arg8 : Memref sig .tc .vmem S2048x512 .bf16) (harg8 : arg8.IsWhole) (arg9 : Memref sig .tc .vmem S512x2048 .bf16)
  (harg9 : arg9.IsWhole) (arg10 : Memref sig .tc .vmem S1x1024x2048 .f32)
  (harg10 : arg10.IsWhole) (arg11 : Memref sig .tc .vmem S1024x2048 .bf16) (harg11 : arg11.IsWhole) (h1 : k0_cond1 i = 1#1) (g : Vec Ideal S1x2048 .f32) (sc sh : Vec Ideal S1x1x2048 .f32)
  (X : BufTy.Contents (Elt Ideal) arg3.view.ty)

/-- The rows of the block, modulated. -/
def modBlock (g : FVec Ideal S1x2048 .f32) (sc sh : FVec Ideal S1x1x2048 .f32) (x : FVec Ideal S1x1024x2048 .f32)
    (y : S1024x2048.Idx) : EReal :=
  modRow (fun k => x (ix3 0 (y 0) k)) (fun k => g (ix2 0 k)) (fun k => sc (ix3 0 0 k)) (fun k => sh (ix3 0 0 k)) (y 1)

theorem modBlock_at (g : FVec Ideal S1x2048 .f32) (sc sh : FVec Ideal S1x1x2048 .f32) (x : FVec Ideal S1x1024x2048 .f32)
    (r : Fin 1024) (d : Fin 2048) : modBlock g sc sh x (ix2 r d)
      = modRow (fun k => x (ix3 0 r k)) (fun k => g (ix2 0 k)) (fun k => sc (ix3 0 0 k)) (fun k => sh (ix3 0 0 k)) d := rfl

/-- One trip stores one piece: 16 modulated rows. -/
theorem trip_piece (k : Fin k0_t1_loop.trips) :
    tripL_k0_t1 (F := Ideal) 𝒱 c bd i arg3 harg3 arg4 harg4 arg5 harg5 arg6 harg6 arg7 harg7 arg8 harg8 arg9 harg9 arg10
      harg10 arg11 harg11 h1 g sc sh X k
    = [⟨Rect.unit (s := S1024x2048) (k0_off2 k) S16x2048.size (k0_off2_inb i k h1), k0_pay1 (F := Ideal) g sc sh
        (arg3.view.readAt (Elt Ideal) (Rect.unit (s := S1x1024x2048) (k0_off1 k) S1x16x2048.size (k0_off1_inb i k h1)).toLoadRect X)⟩] := by
  unfold tripL_k0_t1 trip_k0_t1
  rfl

/-- Each piece the trips before `k` store is 16 of the block's modulated rows. -/
theorem pieces_mod (x : FVec Ideal S1x1024x2048 .f32) (hx : arg3.view.read (Elt Ideal) X = x) (k : ℕ) (hk : k ≤ k0_t1_loop.trips) :
    ∀ p ∈ pb_k0_t1 (F := Ideal) 𝒱 c bd i arg3 harg3 arg4 harg4 arg5 harg5 arg6 harg6 arg7 harg7 arg8 harg8 arg9 harg9 arg10
      harg10 arg11 harg11 h1 g sc sh X k, ∀ z : p.1.shape.Idx, p.2 z = modBlock g sc sh x (p.1.emb z) := by
  induction k with
  | zero => intro p hp; exact absurd hp List.not_mem_nil
  | succ k ih =>
    intro p hp
    rw [pb_k0_t1_succ 𝒱 c bd i arg3 harg3 arg4 harg4 arg5 harg5 arg6 harg6 arg7 harg7 arg8 harg8 arg9 harg9 arg10 harg10 arg11
      harg11 h1 g sc sh X ⟨k, hk⟩, trip_piece, List.singleton_append, List.mem_cons] at hp
    rcases hp with rfl | hp
    · intro z
      rw [View.readAt_eq_ld, hx]
      have e1 := k0_off1_eq ⟨k, hk⟩
      have e2 := k0_off2_eq ⟨k, hk⟩
      idx_vars z
      refine (pay1_at _ _ _ _ z0 z1).trans ?_
      have hk' : k < 64 := Nat.lt_of_lt_of_le hk k0_t1_abs.2.1
      have hy := rows_emb k hk' (k0_off2 ⟨k, hk⟩) e2 (k0_off2_inb i ⟨k, hk⟩ h1) z0 z1
      have hl := fun d => rows_idx k hk' (k0_off1 ⟨k, hk⟩) e1 (k0_off1_inb i ⟨k, hk⟩ h1) z0 d
      refine Eq.trans ?_ (congrArg (modBlock g sc sh x) hy).symm
      rw [modBlock_at]
      exact congrArg (fun f : Fin 2048 → EReal => modRow f (fun k => g (ix2 0 k)) (fun k => sc (ix3 0 0 k))
        (fun k => sh (ix3 0 0 k)) z1) (funext fun d => congrArg x (hl d))
    · exact ih (Nat.le_of_succ_le hk) p hp

/-- The pieces of all the trips cover the scratch. -/
theorem pieces_cover (y : S1024x2048.Idx) :
    ∃ p ∈ pb_k0_t1 (F := Ideal) 𝒱 c bd i arg3 harg3 arg4 harg4 arg5 harg5 arg6 harg6 arg7 harg7 arg8 harg8 arg9 harg9 arg10
      harg10 arg11 harg11 h1 g sc sh X (Scf.trips k0_t1_loop.lb k0_t1_loop.ub k0_t1_loop.st), y ∈ p.1.set :=
  View.cover_of_tiledL (pb_k0_t1 (F := Ideal) 𝒱 c bd i arg3 harg3 arg4 harg4 arg5 harg5 arg6 harg6 arg7 harg7 arg8 harg8 arg9
    harg9 arg10 harg10 arg11 harg11 h1 g sc sh X (Scf.trips k0_t1_loop.lb k0_t1_loop.ub k0_t1_loop.st)) S16x2048.size (by sl_kernel_rfl) y

/-- What the trips leave in the scratch: the block's rows, modulated. -/
theorem scratch_eq (x : FVec Ideal S1x1024x2048 .f32) (hx : arg3.view.read (Elt Ideal) X = x) :
    View.canon (pb_k0_t1 (F := Ideal) 𝒱 c bd i arg3 harg3 arg4 harg4 arg5 harg5 arg6 harg6 arg7 harg7 arg8 harg8 arg9 harg9
      arg10 harg10 arg11 harg11 h1 g sc sh X (Scf.trips k0_t1_loop.lb k0_t1_loop.ub k0_t1_loop.st))
    = modBlock g sc sh x :=
  funext fun y => View.canon_apply_of_pieces _ _
    (pieces_mod 𝒱 c bd i arg3 harg3 arg4 harg4 arg5 harg5 arg6 harg6 arg7 harg7 arg8 harg8 arg9 harg9 arg10 harg10 arg11 harg11 h1 g sc sh X x hx _ le_rfl) y
    (pieces_cover 𝒱 c bd i arg3 harg3 arg4 harg4 arg5 harg5 arg6 harg6 arg7 harg7 arg8 harg8 arg9 harg9 arg10 harg10 arg11
      harg11 h1 g sc sh X y)

end Loop

end Cert.Kernel3Ideal.Mlp
-- ==== Proof.Mid.Tiles.lean ====
/- What one point of the feed-forward kernel stores, as functions of what it loads: four column tiles that make up one
   block of the second product, and at the last point eight pieces of 128 rows. -/
module

public import proofs.«01_k».proof.Proof.Gen.Kernel3Ideal.Skeleton
public import Idealize.ShloMosaic.Lib.Pipeline.ValueKit
public import Idealize.ShloMosaic.Lib.Pipeline.ReadBack
public import Idealize.ShloMosaic.Lib.Ring
public import proofs.«01_k».proof.Proof.Mid.Pay

@[expose] public section
set_option maxRecDepth 16384
noncomputable section
namespace Cert.Kernel3Ideal.Mlp
open Idealize.ShloMosaic Idealize.ShloMosaic.TcCoe Idealize.SL.Sem
open Cert.Kernel3Ideal Cert.Kernel3Ideal.Gen
open _root_.Mlp

/-- A block of hidden values against a block of the second matrix, at row `r`, column `d`. -/
def tileSum (u : FVec Ideal S1024x2048 .bf16) (wu : FVec Ideal S2048x512 .bf16) (wd : FVec Ideal S512x2048 .bf16)
    (r : Fin 1024) (d : Fin 2048) : EReal :=
  ∑ k : Fin 512, act (fun e => u (ix2 r e)) (fun e => wu (ix2 e k)) * wd (ix2 k d)

/-- The block after the first point. -/
def firstBlock (u : FVec Ideal S1024x2048 .bf16) (wu : FVec Ideal S2048x512 .bf16)
    (wd : FVec Ideal S512x2048 .bf16) (y : S1x1024x2048.Idx) : EReal := tileSum u wu wd (y 1) (y 2)

/-- The block after a later point, from the block `P` before it. -/
def nextBlock (P : FVec Ideal S1x1024x2048 .f32) (u : FVec Ideal S1024x2048 .bf16) (wu : FVec Ideal S2048x512 .bf16)
    (wd : FVec Ideal S512x2048 .bf16) (y : S1x1024x2048.Idx) : EReal := P y + tileSum u wu wd (y 1) (y 2)

/-- The block the last step makes of the accumulated block `A`. -/
def lastBlock (x : FVec Ideal S1x1024x2048 .f32) (gt : FVec Ideal S1x1x2048 .f32) (A : FVec Ideal S1x1024x2048 .f32)
    (y : S1x1024x2048.Idx) : EReal :=
  addRow (fun k => x (ix3 0 (y 1) k)) (fun k => gt (ix3 0 0 k)) (fun k => A (ix3 0 (y 1) k)) (y 2)

theorem emb_cols (o : ℕ) (ho : o + 512 ≤ 2048) (inb) (z1 : Fin 1024) (z2 : Fin 512) :
    (Rect.unit (s := S1x1024x2048) ![0, 0, o] S1x1024x512.size inb).emb (ix3 0 z1 z2) = ix3 0 z1 ⟨o + z2.val, by omega⟩ := by
  idx_ext

theorem emb_wd (o : ℕ) (ho : o + 512 ≤ 2048) (inb) (z1 : Fin 512) (z2 : Fin 512) :
    (Rect.unit (s := S512x2048) ![0, o] S512x512.size inb).emb (ix2 z1 z2) = ix2 z1 ⟨o + z2.val, by omega⟩ := by
  idx_ext

theorem emb_rows (o : ℕ) (ho : o + 128 ≤ 1024) (inb) (z1 : Fin 128) (z2 : Fin 2048) :
    (Rect.unit (s := S1x1024x2048) ![0, o, 0] S1x128x2048.size inb).emb (ix3 0 z1 z2) = ix3 0 ⟨o + z1.val, by omega⟩ z2 := by
  idx_ext

section Pieces
variable (P : FVec Ideal S1x1024x2048 .f32) (u : FVec Ideal S1024x2048 .bf16) (wu : FVec Ideal S2048x512 .bf16)
  (wd : FVec Ideal S512x2048 .bf16) (o : ℕ) (ho : o + 512 ≤ 2048) (inb) (inw)
include ho

/-- A first point's tile at column `o`, whichever payload computes it. -/
theorem first_piece (f : FVec Ideal S512x512 .bf16 → FVec Ideal S1x1024x512 .f32)
    (hf : ∀ v r n, f v (ix3 0 r n) = ∑ k : Fin 512, k0_pay2 (F := Ideal) u wu (ix2 r k) * v (ix2 k n)) (x : S1x1024x512.Idx) :
    f (View.ld (Val := Elt Ideal) (e' := .bf16) wd (Rect.unit (s := S512x2048) ![0, o] S512x512.size inw)) x
      = firstBlock u wu wd ((Rect.unit (s := S1x1024x2048) ![0, 0, o] S1x1024x512.size inb).emb x) := by
  idx_vars x
  obtain rfl : x0 = 0 := Subsingleton.elim _ _
  refine (hf _ x1 x2).trans ?_
  refine Eq.trans ?_ (congrArg (firstBlock u wu wd) (emb_cols o ho inb x1 x2)).symm
  show _ = tileSum u wu wd x1 ⟨o + x2.val, by omega⟩
  unfold tileSum
  refine Finset.sum_congr rfl fun k _ => ?_
  rw [pay2_at]
  exact congrArg (_ * wd ·) (emb_wd o ho inw k x2)

/-- A later point's tile at column `o`, whichever payload computes it. -/
theorem next_piece (f : FVec Ideal S1x1024x512 .f32 → FVec Ideal S512x512 .bf16 → FVec Ideal S1x1024x512 .f32)
    (hf : ∀ a v r n, f a v (ix3 0 r n) = a (ix3 0 r n) + ∑ k : Fin 512, k0_pay2 (F := Ideal) u wu (ix2 r k) * v (ix2 k n))
    (x : S1x1024x512.Idx) :
    f (View.ld (Val := Elt Ideal) (e' := .f32) P (Rect.unit (s := S1x1024x2048) ![0, 0, o] S1x1024x512.size inb))
        (View.ld (Val := Elt Ideal) (e' := .bf16) wd (Rect.unit (s := S512x2048) ![0, o] S512x512.size inw)) x
      = nextBlock P u wu wd ((Rect.unit (s := S1x1024x2048) ![0, 0, o] S1x1024x512.size inb).emb x) := by
  idx_vars x
  obtain rfl : x0 = 0 := Subsingleton.elim _ _
  refine (hf _ _ x1 x2).trans ?_
  refine Eq.trans ?_ (congrArg (nextBlock P u wu wd) (emb_cols o ho inb x1 x2)).symm
  show _ = P _ + tileSum u wu wd x1 ⟨o + x2.val, by omega⟩
  unfold tileSum
  refine congrArg₂ (· + ·) (congrArg P (emb_cols o ho inb x1 x2)) (Finset.sum_congr rfl fun k _ => ?_)
  rw [pay2_at]
  exact congrArg (_ * wd ·) (emb_wd o ho inw k x2)

end Pieces

/-- The four tiles of a first point make up the block. -/
theorem first_tiles (u : FVec Ideal S1024x2048 .bf16) (wu : FVec Ideal S2048x512 .bf16) (wd : FVec Ideal S512x2048 .bf16) :
    View.canon (Val := Elt Ideal) (s := S1x1024x2048) (e := .f32)
      [⟨Rect.unit ![0, 0, 1536] ![1, 1024, 512] inb_S1x1024x2048_S1x1024x512_0_0_1536,
          k0_pay6 (F := Ideal) u wu
            (View.ld (Val := Elt Ideal) (e' := .bf16) wd (Rect.unit ![0, 1536] ![512, 512] inb_S512x2048_S512x512_0_1536))⟩,
        ⟨Rect.unit ![0, 0, 1024] ![1, 1024, 512] inb_S1x1024x2048_S1x1024x512_0_0_1024,
          k0_pay5 (F := Ideal) u wu
            (View.ld (Val := Elt Ideal) (e' := .bf16) wd (Rect.unit ![0, 1024] ![512, 512] inb_S512x2048_S512x512_0_1024))⟩,
        ⟨Rect.unit ![0, 0, 512] ![1, 1024, 512] inb_S1x1024x2048_S1x1024x512_0_0_512,
          k0_pay4 (F := Ideal) u wu
            (View.ld (Val := Elt Ideal) (e' := .bf16) wd (Rect.unit ![0, 512] ![512, 512] inb_S512x2048_S512x512_0_512))⟩,
        ⟨Rect.unit ![0, 0, 0] ![1, 1024, 512] inb_S1x1024x2048_S1x1024x512_0_0_0,
          k0_pay3 (F := Ideal) u wu
            (View.ld (Val := Elt Ideal) (e' := .bf16) wd (Rect.unit ![0, 0] ![512, 512] inb_S512x2048_S512x512_0_0))⟩]
    = firstBlock u wu wd := by
  funext y
  refine View.canon_apply_of_pieces (Val := Elt Ideal) (e := .f32) (firstBlock u wu wd) _ (View.PiecesOf.mem ?_) y ?_
  · exact ⟨first_piece u wu wd 1536 (by omega) inb_S1x1024x2048_S1x1024x512_0_0_1536
        inb_S512x2048_S512x512_0_1536 (fun v => k0_pay6 (F := Ideal) u wu v) fun v r n => pay6_at u wu v r n,
      first_piece u wu wd 1024 (by omega) inb_S1x1024x2048_S1x1024x512_0_0_1024
        inb_S512x2048_S512x512_0_1024 (fun v => k0_pay5 (F := Ideal) u wu v) fun v r n => pay5_at u wu v r n,
      first_piece u wu wd 512 (by omega) inb_S1x1024x2048_S1x1024x512_0_0_512
        inb_S512x2048_S512x512_0_512 (fun v => k0_pay4 (F := Ideal) u wu v) fun v r n => pay4_at u wu v r n,
      first_piece u wu wd 0 (by omega) inb_S1x1024x2048_S1x1024x512_0_0_0
        inb_S512x2048_S512x512_0_0 (fun v => k0_pay3 (F := Ideal) u wu v) fun v r n => pay3_at u wu v r n,
      trivial⟩
  · exact View.cover_of_tiledL (s := S1x1024x2048) _ S1x1024x512.size (by sl_kernel_rfl) y

/-- The four tiles of a later point make up the block. -/
theorem next_tiles (P : FVec Ideal S1x1024x2048 .f32) (u : FVec Ideal S1024x2048 .bf16) (wu : FVec Ideal S2048x512 .bf16)
    (wd : FVec Ideal S512x2048 .bf16) :
    View.canon (Val := Elt Ideal) (s := S1x1024x2048) (e := .f32)
      [⟨Rect.unit ![0, 0, 1536] ![1, 1024, 512] inb_S1x1024x2048_S1x1024x512_0_0_1536,
          k0_pay7 (F := Ideal) u wu (View.ld (Val := Elt Ideal) (e' := .f32) P (Rect.unit ![0, 0, 1536] ![1, 1024, 512] inb_S1x1024x2048_S1x1024x512_0_0_1536))
            (View.ld (Val := Elt Ideal) (e' := .bf16) wd (Rect.unit ![0, 1536] ![512, 512] inb_S512x2048_S512x512_0_1536))⟩,
        ⟨Rect.unit ![0, 0, 1024] ![1, 1024, 512] inb_S1x1024x2048_S1x1024x512_0_0_1024,
          k0_pay11 (F := Ideal) (k0_pay2 u wu) (View.ld (Val := Elt Ideal) (e' := .f32) P (Rect.unit ![0, 0, 1024] ![1, 1024, 512] inb_S1x1024x2048_S1x1024x512_0_0_1024))
            (View.ld (Val := Elt Ideal) (e' := .bf16) wd (Rect.unit ![0, 1024] ![512, 512] inb_S512x2048_S512x512_0_1024))⟩,
        ⟨Rect.unit ![0, 0, 512] ![1, 1024, 512] inb_S1x1024x2048_S1x1024x512_0_0_512,
          k0_pay10 (F := Ideal) (k0_pay2 u wu) (View.ld (Val := Elt Ideal) (e' := .f32) P (Rect.unit ![0, 0, 512] ![1, 1024, 512] inb_S1x1024x2048_S1x1024x512_0_0_512))
            (View.ld (Val := Elt Ideal) (e' := .bf16) wd (Rect.unit ![0, 512] ![512, 512] inb_S512x2048_S512x512_0_512))⟩,
        ⟨Rect.unit ![0, 0, 0] ![1, 1024, 512] inb_S1x1024x2048_S1x1024x512_0_0_0,
          k0_pay9 (F := Ideal) (k0_pay2 u wu) (View.ld (Val := Elt Ideal) (e' := .f32) P (Rect.unit ![0, 0, 0] ![1, 1024, 512] inb_S1x1024x2048_S1x1024x512_0_0_0))
            (View.ld (Val := Elt Ideal) (e' := .bf16) wd (Rect.unit ![0, 0] ![512, 512] inb_S512x2048_S512x512_0_0))⟩]
    = nextBlock P u wu wd := by
  funext y
  refine View.canon_apply_of_pieces (Val := Elt Ideal) (e := .f32) (nextBlock P u wu wd) _ (View.PiecesOf.mem ?_) y ?_
  · exact ⟨next_piece P u wu wd 1536 (by omega) inb_S1x1024x2048_S1x1024x512_0_0_1536
        inb_S512x2048_S512x512_0_1536 (fun a v => k0_pay7 (F := Ideal) u wu a v) fun a v r n => pay7_at u wu v a r n,
      next_piece P u wu wd 1024 (by omega) inb_S1x1024x2048_S1x1024x512_0_0_1024
        inb_S512x2048_S512x512_0_1024 (fun a v => k0_pay11 (F := Ideal) _ a v) fun a v r n => pay11_at v _ a r n,
      next_piece P u wu wd 512 (by omega) inb_S1x1024x2048_S1x1024x512_0_0_512
        inb_S512x2048_S512x512_0_512 (fun a v => k0_pay10 (F := Ideal) _ a v) fun a v r n => pay10_at v _ a r n,
      next_piece P u wu wd 0 (by omega) inb_S1x1024x2048_S1x1024x512_0_0_0
        inb_S512x2048_S512x512_0_0 (fun a v => k0_pay9 (F := Ideal) _ a v) fun a v r n => pay9_at v _ a r n,
      trivial⟩
  · exact View.cover_of_tiledL (s := S1x1024x2048) _ S1x1024x512.size (by sl_kernel_rfl) y

/-- What a load of the four tiles reads. -/
theorem next_load {κ : Kind} {sp : Space} (a : View sig κ sp S1x1024x2048 .f32) (P : FVec Ideal S1x1024x2048 .f32)
    (u : FVec Ideal S1024x2048 .bf16) (wu : FVec Ideal S2048x512 .bf16) (wd : FVec Ideal S512x2048 .bf16)
    (B : Rect S1x1024x2048) :
    a.readCov (Val := Elt Ideal)
      [⟨Rect.unit ![0, 0, 1536] ![1, 1024, 512] inb_S1x1024x2048_S1x1024x512_0_0_1536,
          k0_pay7 (F := Ideal) u wu (View.ld (Val := Elt Ideal) (e' := .f32) P (Rect.unit ![0, 0, 1536] ![1, 1024, 512] inb_S1x1024x2048_S1x1024x512_0_0_1536))
            (View.ld (Val := Elt Ideal) (e' := .bf16) wd (Rect.unit ![0, 1536] ![512, 512] inb_S512x2048_S512x512_0_1536))⟩,
        ⟨Rect.unit ![0, 0, 1024] ![1, 1024, 512] inb_S1x1024x2048_S1x1024x512_0_0_1024,
          k0_pay11 (F := Ideal) (k0_pay2 u wu) (View.ld (Val := Elt Ideal) (e' := .f32) P (Rect.unit ![0, 0, 1024] ![1, 1024, 512] inb_S1x1024x2048_S1x1024x512_0_0_1024))
            (View.ld (Val := Elt Ideal) (e' := .bf16) wd (Rect.unit ![0, 1024] ![512, 512] inb_S512x2048_S512x512_0_1024))⟩,
        ⟨Rect.unit ![0, 0, 512] ![1, 1024, 512] inb_S1x1024x2048_S1x1024x512_0_0_512,
          k0_pay10 (F := Ideal) (k0_pay2 u wu) (View.ld (Val := Elt Ideal) (e' := .f32) P (Rect.unit ![0, 0, 512] ![1, 1024, 512] inb_S1x1024x2048_S1x1024x512_0_0_512))
            (View.ld (Val := Elt Ideal) (e' := .bf16) wd (Rect.unit ![0, 512] ![512, 512] inb_S512x2048_S512x512_0_512))⟩,
        ⟨Rect.unit ![0, 0, 0] ![1, 1024, 512] inb_S1x1024x2048_S1x1024x512_0_0_0,
          k0_pay9 (F := Ideal) (k0_pay2 u wu) (View.ld (Val := Elt Ideal) (e' := .f32) P (Rect.unit ![0, 0, 0] ![1, 1024, 512] inb_S1x1024x2048_S1x1024x512_0_0_0))
            (View.ld (Val := Elt Ideal) (e' := .bf16) wd (Rect.unit ![0, 0] ![512, 512] inb_S512x2048_S512x512_0_0))⟩] B.toLoadRect
    = View.ld (Val := Elt Ideal) (e' := .f32) (nextBlock P u wu wd) B := by
  rw [View.readCov_eq_canon', next_tiles]

/-- A piece of the last step at row `o`, whichever payload computes it. -/
theorem last_piece (X : FVec Ideal S1x1024x2048 .f32) (gt : FVec Ideal S1x1x2048 .f32) (A : FVec Ideal S1x1024x2048 .f32)
    (o : ℕ) (ho : o + 128 ≤ 1024) (inb)
    (f : FVec Ideal S1x128x2048 .f32 → FVec Ideal S1x128x2048 .f32 → FVec Ideal S1x128x2048 .f32)
    (hf : ∀ a v r n, f a v (ix3 0 r n) = lastAt a gt v r n) (x : S1x128x2048.Idx) :
    f (View.ld (Val := Elt Ideal) (e' := .f32) X (Rect.unit (s := S1x1024x2048) ![0, o, 0] S1x128x2048.size inb))
        (View.ld (Val := Elt Ideal) (e' := .f32) A (Rect.unit (s := S1x1024x2048) ![0, o, 0] S1x128x2048.size inb)) x
      = lastBlock X gt A ((Rect.unit (s := S1x1024x2048) ![0, o, 0] S1x128x2048.size inb).emb x) := by
  idx_vars x
  obtain rfl : x0 = 0 := Subsingleton.elim _ _
  refine (hf _ _ x1 x2).trans ?_
  refine Eq.trans ?_ (congrArg (lastBlock X gt A) (emb_rows o ho inb x1 x2)).symm
  exact congrArg₂ (fun f g : Fin 2048 → EReal => addRow f (fun k => gt (ix3 0 0 k)) g x2)
    (funext fun k => congrArg X (emb_rows o ho inb x1 k)) (funext fun k => congrArg A (emb_rows o ho inb x1 k))

end Cert.Kernel3Ideal.Mlp
-- ==== Proof.Mid.Points.lean ====
/- What each point of the feed-forward kernel's grid leaves in the output block and in the scratch: the first point of a
   block of rows, a middle one, the last one. -/
module

public import proofs.«01_k».proof.Proof.Gen.Kernel3Ideal.Value
public import Idealize.ShloMosaic.Lib.Pipeline.ValueKit
public import proofs.«01_k».proof.Proof.Mid.Scratch
public import proofs.«01_k».proof.Proof.Mid.Tiles

@[expose] public section
set_option maxRecDepth 16384
noncomputable section
namespace Cert.Kernel3Ideal.Mlp
open Idealize.ShloMosaic Idealize.ShloMosaic.TcCoe Idealize.SL.Sem
open Cert.Kernel3Ideal Cert.Kernel3Ideal.Gen
open _root_.Mlp

variable (m : (ℓ : Loc nD τ sig) → Buf (Elt Ideal) ℓ) (c : Dev nD) (t : Fin cfg0.N)

/-- What the point before `t` left. -/
abbrev before : Vec Ideal S1x1024x2048 .f32 × Vec Ideal S1024x2048 .bf16 :=
  outsAt0 m c (t.val - 1) (Nat.lt_of_le_of_lt (Nat.sub_le _ _) t.isLt)

theorem ld_u (u : FVec Ideal S1024x2048 .bf16) (inb) :
    View.ld (Val := Elt Ideal) (e' := .bf16) u (Rect.unit (s := S1024x2048) ![0, 0] S1024x2048.size inb) = u :=
  View.ld_unit_zero (Val := Elt Ideal) (e := .bf16) (by decide) inb u

theorem ld_wu (u : FVec Ideal S2048x512 .bf16) (inb) :
    View.ld (Val := Elt Ideal) (e' := .bf16) u (Rect.unit (s := S2048x512) ![0, 0] S2048x512.size inb) = u :=
  View.ld_unit_zero (Val := Elt Ideal) (e := .bf16) (by decide) inb u

theorem ld_row (u : FVec Ideal S1x2048 .f32) (inb) :
    View.ld (Val := Elt Ideal) (e' := .f32) u (Rect.unit (s := S1x2048) ![0, 0] S1x2048.size inb) = u :=
  View.ld_unit_zero (Val := Elt Ideal) (e := .f32) (by decide) inb u

theorem ld_vec (u : FVec Ideal S1x1x2048 .f32) (inb) :
    View.ld (Val := Elt Ideal) (e' := .f32) u (Rect.unit (s := S1x1x2048) ![0, 0, 0] S1x1x2048.size inb) = u :=
  View.ld_unit_zero (Val := Elt Ideal) (e := .f32) (by decide) inb u

theorem middle_scratch (h0 : ¬t.val % 16 = 0) (h2 : 1 ≤ t.val % 16) (h3 : ¬t.val % 16 = 15) :
    (outsAt0 m c t.val t.isLt).2 = (before m c t).2 := by
  rw [outsAt0_B m c t h0 h0 h2 h3]
  rfl

theorem last_scratch (h0 : ¬t.val % 16 = 0) (h2 : 1 ≤ t.val % 16) (h3 : t.val % 16 = 15) :
    (outsAt0 m c t.val t.isLt).2 = (before m c t).2 := by
  rw [outsAt0_C m c t h0 h0 h2 h3]
  rfl

theorem middle_block (h0 : ¬t.val % 16 = 0) (h2 : 1 ≤ t.val % 16) (h3 : ¬t.val % 16 = 15) :
    (outsAt0 m c t.val t.isLt).1 = nextBlock (before m c t).1 (before m c t).2 (iblk m c 5 t) (iblk m c 6 t) := by
  unfold before
  rw [outsAt0_B m c t h0 h0 h2 h3]
  frame_open
  rw [View.read_writes_junk_eq_canon]
  simp only [View.readAt_eq_ld, (hs0_5 t).read_unread, (hs0_6 t).read_unread, (hs0_7 t).read_unread,
    (Memref.isWhole_whole _).read_unread]
  generalize outsAt0 m c (t.val - 1) (Nat.lt_of_le_of_lt (Nat.sub_le _ _) t.isLt) = p
  refine (next_tiles p.1 _ _ _).trans ?_
  exact congrArg₂ (fun a b => nextBlock p.1 a b (iblk m c 6 t)) (ld_u p.2 _) (ld_wu (iblk m c 5 t) _)

end Cert.Kernel3Ideal.Mlp
-- ==== Proof.Mid.First.lean ====
/- What the first point of a block of rows leaves: the modulated rows in the scratch, and the block's first part. -/
module

public import proofs.«01_k».proof.Proof.Mid.Points

@[expose] public section
set_option maxRecDepth 16384
noncomputable section
namespace Cert.Kernel3Ideal.Mlp
open Idealize.ShloMosaic Idealize.ShloMosaic.TcCoe Idealize.SL.Sem
open Cert.Kernel3Ideal Cert.Kernel3Ideal.Gen
open _root_.Mlp

variable (m : (ℓ : Loc nD τ sig) → Buf (Elt Ideal) ℓ) (c : Dev nD) (t : Fin cfg0.N)

theorem mod_congr {g g' : FVec Ideal S1x2048 .f32} {sc sc' sh sh' : FVec Ideal S1x1x2048 .f32}
    (x : FVec Ideal S1x1024x2048 .f32) (hg : g = g') (hc : sc = sc') (hh : sh = sh') :
    modBlock g sc sh x = modBlock g' sc' sh' x := by
  subst hg hc hh
  rfl

theorem first_scratch (h0 : t.val % 16 = 0) (h2 : ¬1 ≤ t.val % 16) (h3 : ¬t.val % 16 = 15) :
    (outsAt0 m c t.val t.isLt).2 = modBlock (iblk m c 1 t) (iblk m c 2 t) (iblk m c 3 t) (iblk m c 0 t) := by
  rw [outsAt0_A m c t h0 h0 h2 h3]
  dsimp only
  unfold sout0_A_0
  rw [View.read_writes_junk_eq_canon]
  unfold kernelRun0_A
  dsimp only
  simp only [View.readAt_eq_ld, (hs0_1 t).read_unread, (hs0_2 t).read_unread, (hs0_3 t).read_unread]
  refine (scratch_eq Variants.none c none (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) scM0_0
    (Memref.isWhole_whole _) _ _ _ _ _ (iblk m c 0 t) ((hs0_0 t).read_unread _)).trans ?_
  exact mod_congr (iblk m c 0 t) (ld_row (iblk m c 1 t) _) (ld_vec (iblk m c 2 t) _) (ld_vec (iblk m c 3 t) _)

theorem first_block (h0 : t.val % 16 = 0) (h2 : ¬1 ≤ t.val % 16) (h3 : ¬t.val % 16 = 15) :
    (outsAt0 m c t.val t.isLt).1
      = firstBlock (modBlock (iblk m c 1 t) (iblk m c 2 t) (iblk m c 3 t) (iblk m c 0 t)) (iblk m c 5 t) (iblk m c 6 t) := by
  rw [outsAt0_A m c t h0 h0 h2 h3]
  frame_open
  rw [View.read_writes_junk_eq_canon]
  simp only [View.readAt_eq_ld, (hs0_1 t).read_unread, (hs0_2 t).read_unread, (hs0_3 t).read_unread,
    (hs0_5 t).read_unread, (hs0_6 t).read_unread]
  refine (first_tiles _ _ (iblk m c 6 t)).trans ?_
  refine congrArg₂ (fun a b => firstBlock a b (iblk m c 6 t)) ?_ (ld_wu (iblk m c 5 t) _)
  rw [View.readCov_eq_canon']
  refine Eq.trans ?_ (ld_u (modBlock (iblk m c 1 t) (iblk m c 2 t) (iblk m c 3 t) (iblk m c 0 t)) inb_S1024x2048_S1024x2048_0_0)
  funext j
  refine (congrFun (scratch_eq Variants.none c none (grid0.coords t) (ms0_0 t) (hs0_0 t) (ms0_1 t) (hs0_1 t) (ms0_2 t) (hs0_2 t) (ms0_3 t)
    (hs0_3 t) (ms0_4 t) (hs0_4 t) (ms0_5 t) (hs0_5 t) (ms0_6 t) (hs0_6 t) (ms0_7 t) (hs0_7 t) scM0_0
    (Memref.isWhole_whole _) _ _ _ _ _ (iblk m c 0 t) ((hs0_0 t).read_unread _)) _).trans ?_
  exact congrFun (mod_congr (iblk m c 0 t) (ld_row (iblk m c 1 t) _) (ld_vec (iblk m c 2 t) _) (ld_vec (iblk m c 3 t) _)) _

end Cert.Kernel3Ideal.Mlp
-- ==== Proof.Mid.Last.lean ====
/- What the last point of a block of rows leaves: the finished rows. -/
module

public import proofs.«01_k».proof.Proof.Mid.Points

@[expose] public section
set_option maxRecDepth 16384
noncomputable section
namespace Cert.Kernel3Ideal.Mlp
open Idealize.ShloMosaic Idealize.ShloMosaic.TcCoe Idealize.SL.Sem
open Cert.Kernel3Ideal Cert.Kernel3Ideal.Gen
open _root_.Mlp

/-- The eight pieces of the last step, each 128 rows. -/
abbrev rowPieces (X : FVec Ideal S1x1024x2048 .f32) (gt : FVec Ideal S1x1x2048 .f32) (A : FVec Ideal S1x1024x2048 .f32) :
    List (View.Piece (Elt Ideal) S1x1024x2048 .f32) :=
  [⟨Rect.unit ![0, 896, 0] ![1, 128, 2048] inb_S1x1024x2048_S1x128x2048_0_896_0,
        k0_pay8 (F := Ideal) (k0_pay22 (View.ld (Val := Elt Ideal) (e' := .f32) X (Rect.unit ![0, 896, 0] ![1, 128, 2048] inb_S1x1024x2048_S1x128x2048_0_896_0))) gt (View.ld (Val := Elt Ideal) (e' := .f32) A (Rect.unit ![0, 896, 0] ![1, 128, 2048] inb_S1x1024x2048_S1x128x2048_0_896_0))⟩,
      ⟨Rect.unit ![0, 768, 0] ![1, 128, 2048] inb_S1x1024x2048_S1x128x2048_0_768_0,
        k0_pay21 (F := Ideal) (View.ld (Val := Elt Ideal) (e' := .f32) X (Rect.unit ![0, 768, 0] ![1, 128, 2048] inb_S1x1024x2048_S1x128x2048_0_768_0)) gt (View.ld (Val := Elt Ideal) (e' := .f32) A (Rect.unit ![0, 768, 0] ![1, 128, 2048] inb_S1x1024x2048_S1x128x2048_0_768_0))⟩,
      ⟨Rect.unit ![0, 640, 0] ![1, 128, 2048] inb_S1x1024x2048_S1x128x2048_0_640_0,
        k0_pay20 (F := Ideal) (View.ld (Val := Elt Ideal) (e' := .f32) X (Rect.unit ![0, 640, 0] ![1, 128, 2048] inb_S1x1024x2048_S1x128x2048_0_640_0)) gt (View.ld (Val := Elt Ideal) (e' := .f32) A (Rect.unit ![0, 640, 0] ![1, 128, 2048] inb_S1x1024x2048_S1x128x2048_0_640_0))⟩,
      ⟨Rect.unit ![0, 512, 0] ![1, 128, 2048] inb_S1x1024x2048_S1x128x2048_0_512_0,
        k0_pay19 (F := Ideal) (k0_pay18 (View.ld (Val := Elt Ideal) (e' := .f32) X (Rect.unit ![0, 512, 0] ![1, 128, 2048] inb_S1x1024x2048_S1x128x2048_0_512_0)) gt (View.ld (Val := Elt Ideal) (e' := .f32) A (Rect.unit ![0, 512, 0] ![1, 128, 2048] inb_S1x1024x2048_S1x128x2048_0_512_0)))⟩,
      ⟨Rect.unit ![0, 384, 0] ![1, 128, 2048] inb_S1x1024x2048_S1x128x2048_0_384_0,
        k0_pay17 (F := Ideal) (View.ld (Val := Elt Ideal) (e' := .f32) X (Rect.unit ![0, 384, 0] ![1, 128, 2048] inb_S1x1024x2048_S1x128x2048_0_384_0)) gt (View.ld (Val := Elt Ideal) (e' := .f32) A (Rect.unit ![0, 384, 0] ![1, 128, 2048] inb_S1x1024x2048_S1x128x2048_0_384_0))⟩,
      ⟨Rect.unit ![0, 256, 0] ![1, 128, 2048] inb_S1x1024x2048_S1x128x2048_0_256_0,
        k0_pay16 (F := Ideal) (k0_pay14 (View.ld (Val := Elt Ideal) (e' := .f32) X (Rect.unit ![0, 256, 0] ![1, 128, 2048] inb_S1x1024x2048_S1x128x2048_0_256_0))) (k0_pay15 gt) (View.ld (Val := Elt Ideal) (e' := .f32) A (Rect.unit ![0, 256, 0] ![1, 128, 2048] inb_S1x1024x2048_S1x128x2048_0_256_0))⟩,
      ⟨Rect.unit ![0, 128, 0] ![1, 128, 2048] inb_S1x1024x2048_S1x128x2048_0_128_0,
        k0_pay13 (F := Ideal) (View.ld (Val := Elt Ideal) (e' := .f32) X (Rect.unit ![0, 128, 0] ![1, 128, 2048] inb_S1x1024x2048_S1x128x2048_0_128_0)) gt (View.ld (Val := Elt Ideal) (e' := .f32) A (Rect.unit ![0, 128, 0] ![1, 128, 2048] inb_S1x1024x2048_S1x128x2048_0_128_0))⟩,
      ⟨Rect.unit ![0, 0, 0] ![1, 128, 2048] inb_S1x1024x2048_S1x128x2048_0_0_0,
        k0_pay12 (F := Ideal) (View.ld (Val := Elt Ideal) (e' := .f32) X (Rect.unit ![0, 0, 0] ![1, 128, 2048] inb_S1x1024x2048_S1x128x2048_0_0_0)) gt (View.ld (Val := Elt Ideal) (e' := .f32) A (Rect.unit ![0, 0, 0] ![1, 128, 2048] inb_S1x1024x2048_S1x128x2048_0_0_0))⟩]

/-- They make up the block, whatever was stored before them. -/
theorem last_tiles (X : FVec Ideal S1x1024x2048 .f32) (gt : FVec Ideal S1x1x2048 .f32) (A : FVec Ideal S1x1024x2048 .f32)
    (L : List (View.Piece (Elt Ideal) S1x1024x2048 .f32)) :
    View.canon (rowPieces X gt A ++ L) = lastBlock X gt A := by
  funext y
  refine View.canon_append_of_piecesOf (Val := Elt Ideal) (e := .f32) (lastBlock X gt A) L (rowPieces X gt A) ?_ y ?_
  · exact ⟨last_piece X gt A 896 (by omega) inb_S1x1024x2048_S1x128x2048_0_896_0
      (fun a v => k0_pay8 (F := Ideal) (k0_pay22 a) gt v) fun a v r n => pay8_at a gt v r n,
    last_piece X gt A 768 (by omega) inb_S1x1024x2048_S1x128x2048_0_768_0
      (fun a v => k0_pay21 (F := Ideal) a gt v) fun a v r n => pay21_at a gt v r n,
    last_piece X gt A 640 (by omega) inb_S1x1024x2048_S1x128x2048_0_640_0
      (fun a v => k0_pay20 (F := Ideal) a gt v) fun a v r n => pay20_at a gt v r n,
    last_piece X gt A 512 (by omega) inb_S1x1024x2048_S1x128x2048_0_512_0
      (fun a v => k0_pay19 (F := Ideal) (k0_pay18 a gt v)) fun a v r n => pay19_at a gt v r n,
    last_piece X gt A 384 (by omega) inb_S1x1024x2048_S1x128x2048_0_384_0
      (fun a v => k0_pay17 (F := Ideal) a gt v) fun a v r n => pay17_at a gt v r n,
    last_piece X gt A 256 (by omega) inb_S1x1024x2048_S1x128x2048_0_256_0
      (fun a v => k0_pay16 (F := Ideal) (k0_pay14 a) (k0_pay15 gt) v) fun a v r n => pay16_at a gt v r n,
    last_piece X gt A 128 (by omega) inb_S1x1024x2048_S1x128x2048_0_128_0
      (fun a v => k0_pay13 (F := Ideal) a gt v) fun a v r n => pay13_at a gt v r n,
    last_piece X gt A 0 (by omega) inb_S1x1024x2048_S1x128x2048_0_0_0
      (fun a v => k0_pay12 (F := Ideal) a gt v) fun a v r n => pay12_at a gt v r n, trivial⟩
  · exact View.cover_of_tiledL (s := S1x1024x2048) (rowPieces X gt A) S1x128x2048.size (by sl_kernel_rfl) y

variable (m : (ℓ : Loc nD τ sig) → Buf (Elt Ideal) ℓ) (c : Dev nD) (t : Fin cfg0.N)

theorem last_block (h0 : ¬t.val % 16 = 0) (h2 : 1 ≤ t.val % 16) (h3 : t.val % 16 = 15) :
    (outsAt0 m c t.val t.isLt).1 = lastBlock (iblk m c 0 t) (iblk m c 4 t)
      (nextBlock (before m c t).1 (before m c t).2 (iblk m c 5 t) (iblk m c 6 t)) := by
  unfold before
  rw [outsAt0_C m c t h0 h0 h2 h3]
  frame_open
  rw [View.read_writes_junk_eq_canon]
  simp only [View.readAt_eq_ld, (hs0_0 t).read_unread, (hs0_4 t).read_unread, (hs0_5 t).read_unread, (hs0_6 t).read_unread,
    (hs0_7 t).read_unread, (Memref.isWhole_whole _).read_unread]
  generalize outsAt0 m c (t.val - 1) (Nat.lt_of_le_of_lt (Nat.sub_le _ _) t.isLt) = p
  simp (disch := decide) only [↓View.readCov_skip]
  simp only [next_load]
  refine (last_tiles (iblk m c 0 t) _ _ _).trans ?_
  exact congrArg₂ (lastBlock (iblk m c 0 t)) (ld_vec (iblk m c 4 t) _)
    (congrArg₂ (fun a b => nextBlock p.1 a b (iblk m c 6 t)) (ld_u p.2 _) (ld_wu (iblk m c 5 t) _))

end Cert.Kernel3Ideal.Mlp
-- ==== Proof.Mid.Reads.lean ====
/- What the feed-forward kernel's windows read at a point of its grid, in terms of the argument arrays. -/
module

public import proofs.«01_k».proof.Proof.Gen.Kernel3Ideal.Value
public import Idealize.ShloMosaic.Lib.Pipeline.ValueKit
public import Idealize.ShloMosaic.Lib.Claim

@[expose] public section
set_option maxRecDepth 16384
noncomputable section
namespace Cert.Kernel3Ideal.Mlp
open Idealize.ShloMosaic Idealize.ShloMosaic.TcCoe Idealize.SL.Sem
open Cert.Kernel3Ideal Cert.Kernel3Ideal.Gen

variable (m : (ℓ : Loc nD τ sig) → Buf (Elt Ideal) ℓ)

theorem idx : ∀ t : Fin cfg0.N, win0_0.index t = ![t.val / 256, t.val / 16 % 16, 0] ∧ win0_1.index t = ![0, 0]
    ∧ win0_2.index t = ![t.val / 256, 0, 0] ∧ win0_3.index t = ![t.val / 256, 0, 0]
    ∧ win0_4.index t = ![t.val / 256, 0, 0] ∧ win0_5.index t = ![0, t.val % 16] ∧ win0_6.index t = ![t.val % 16, 0]
    ∧ win0_7.index t = ![t.val / 256, t.val / 16 % 16, 0] :=
  (by decide +kernel : ∀ t : Fin grid0.N, _)

section Blocks
variable (c : Dev nD) (t : Fin cfg0.N)

theorem blk0 (b : Fin 2) (i : Fin 16) (hb : t.val / 256 = b.val) (hi : t.val / 16 % 16 = i.val) (r : Fin 1024) (d : Fin 2048) :
    (iblk m c 0 t : FVec Ideal S1x1024x2048 .f32) (ix3 0 r d)
    = m ((c : Thread nD τ).loc main_arg0) (ix3 b ⟨i.val * 1024 + r.val, by omega⟩ d) := by
  have e := idx t
  rw [hb, hi] at e
  blk_ext [iblk, V, e]

theorem blk1 (d : Fin 2048) :
    (iblk m c 1 t : FVec Ideal S1x2048 .f32) (ix2 0 d) = m ((c : Thread nD τ).loc main_arg1) (ix1 d) := by
  have e : V m c main_v0 = shapeCast _ (m ((c : Thread nD τ).loc main_arg1)) shapeCasts_S2048_S1x2048 := by
    entry_read
    rfl
  have e' := idx t
  refine Eq.trans (b := (V m c main_v0 : FVec Ideal S1x2048 .f32) (ix2 0 d)) ?_ ?_
  · blk_ext [iblk, e']
  · rw [e]
    pointwise

theorem blk2 (b : Fin 2) (hb : t.val / 256 = b.val) (d : Fin 2048) :
    (iblk m c 2 t : FVec Ideal S1x1x2048 .f32) (ix3 0 0 d) = m ((c : Thread nD τ).loc main_arg2) (ix3 b 0 d) := by
  have e := idx t
  rw [hb] at e
  blk_ext [iblk, V, e]

theorem blk3 (b : Fin 2) (hb : t.val / 256 = b.val) (d : Fin 2048) :
    (iblk m c 3 t : FVec Ideal S1x1x2048 .f32) (ix3 0 0 d) = m ((c : Thread nD τ).loc main_arg3) (ix3 b 0 d) := by
  have e := idx t
  rw [hb] at e
  blk_ext [iblk, V, e]

theorem blk4 (b : Fin 2) (hb : t.val / 256 = b.val) (d : Fin 2048) :
    (iblk m c 4 t : FVec Ideal S1x1x2048 .f32) (ix3 0 0 d) = m ((c : Thread nD τ).loc main_arg4) (ix3 b 0 d) := by
  have e := idx t
  rw [hb] at e
  blk_ext [iblk, V, e]

theorem blk5 (j : Fin 16) (hj : t.val % 16 = j.val) (d : Fin 2048) (k : Fin 512) :
    (iblk m c 5 t : FVec Ideal S2048x512 .bf16) (ix2 d k)
    = m ((c : Thread nD τ).loc main_arg5) (ix2 d ⟨j.val * 512 + k.val, by omega⟩) := by
  have e : V m c main_v1 = truncf (F := Ideal) .bf16 (m ((c : Thread nD τ).loc main_arg5)) bitsLt_bf16_f32 := by
    entry_read
    rfl
  have e' := idx t
  rw [hj] at e'
  refine Eq.trans (b := (V m c main_v1 : FVec Ideal S2048x8192 .bf16) (ix2 d ⟨j.val * 512 + k.val, by omega⟩)) ?_ ?_
  · blk_ext [iblk, e']
  · rw [e]
    pointwise

theorem blk6 (j : Fin 16) (hj : t.val % 16 = j.val) (k : Fin 512) (d : Fin 2048) :
    (iblk m c 6 t : FVec Ideal S512x2048 .bf16) (ix2 k d)
    = m ((c : Thread nD τ).loc main_arg6) (ix2 ⟨j.val * 512 + k.val, by omega⟩ d) := by
  have e : V m c main_v2 = truncf (F := Ideal) .bf16 (m ((c : Thread nD τ).loc main_arg6)) bitsLt_bf16_f32 := by
    entry_read
    rfl
  have e' := idx t
  rw [hj] at e'
  refine Eq.trans (b := (V m c main_v2 : FVec Ideal S8192x2048 .bf16) (ix2 ⟨j.val * 512 + k.val, by omega⟩ d)) ?_ ?_
  · blk_ext [iblk, e']
  · rw [e]
    pointwise

end Blocks

end Cert.Kernel3Ideal.Mlp
-- ==== Proof.Mid.Sweep.lean ====
/- The 16 points that share a block of rows: the modulated rows stay in the scratch, the output block gathers the 16 parts
   of the second product, and the last point finishes the rows. -/
module

public import proofs.«01_k».proof.Proof.Mid.First
public import proofs.«01_k».proof.Proof.Mid.Last
public import proofs.«01_k».proof.Proof.Mid.Reads

@[expose] public section
set_option maxRecDepth 16384
noncomputable section
namespace Cert.Kernel3Ideal.Mlp
open Idealize.ShloMosaic Idealize.ShloMosaic.TcCoe Idealize.SL.Sem
open Cert.Kernel3Ideal Cert.Kernel3Ideal.Gen
open _root_.Mlp

variable (m : (ℓ : Loc nD τ sig) → Buf (Elt Ideal) ℓ) (c : Dev nD)

/-- The modulated rows of the block that point `t` works on. -/
def rows (t : Fin cfg0.N) : FVec Ideal S1024x2048 .bf16 :=
  modBlock (iblk m c 1 t) (iblk m c 2 t) (iblk m c 3 t) (iblk m c 0 t)

theorem rows_at (t : Fin cfg0.N) (b : Fin 2) (i : Fin 16) (hb : t.val / 256 = b.val) (hi : t.val / 16 % 16 = i.val)
    (r : Fin 1024) (d : Fin 2048) : rows m c t (ix2 r d)
      = modRow (fun k => m ((c : Thread nD τ).loc main_arg0) (ix3 b ⟨i.val * 1024 + r.val, by omega⟩ k))
        (fun k => m ((c : Thread nD τ).loc main_arg1) (ix1 k)) (fun k => m ((c : Thread nD τ).loc main_arg2) (ix3 b 0 k))
        (fun k => m ((c : Thread nD τ).loc main_arg3) (ix3 b 0 k)) d := by
  unfold rows
  rw [modBlock_at]
  exact modRow_congr (blk0 m c t b i hb hi r) (blk1 m c t) (blk2 m c t b hb) (blk3 m c t b hb) d

/-- Points that share a block of rows have the same modulated rows. -/
theorem rows_same (s t : Fin cfg0.N) (h : s.val / 16 = t.val / 16) : rows m c s = rows m c t := by
  have hN : t.val < 512 := lt_of_lt_of_eq t.isLt N_0
  funext y
  idx_vars y
  rw [rows_at m c s ⟨t.val / 256, by omega⟩ ⟨t.val / 16 % 16, by omega⟩ (by show _ = t.val / 256; omega) (by show _ = t.val / 16 % 16; omega),
    rows_at m c t ⟨t.val / 256, by omega⟩ ⟨t.val / 16 % 16, by omega⟩ rfl rfl]

theorem scratch_at (n : ℕ) (h : n < cfg0.N) : (outsAt0 m c n h).2 = rows m c ⟨n, h⟩ := by
  induction n with
  | zero => exact first_scratch m c ⟨0, h⟩ rfl (by show ¬1 ≤ 0 % 16; omega) (by show ¬0 % 16 = 15; omega)
  | succ n ih =>
    by_cases h0 : (n + 1) % 16 = 0
    · exact first_scratch m c ⟨n + 1, h⟩ h0 (by show ¬1 ≤ (n + 1) % 16; omega) (by show ¬(n + 1) % 16 = 15; omega)
    · have e := (ih (Nat.lt_of_succ_lt h)).trans (rows_same m c ⟨n, Nat.lt_of_succ_lt h⟩ ⟨n + 1, h⟩ (by show n / 16 = (n + 1) / 16; omega))
      by_cases h3 : (n + 1) % 16 = 15
      · exact (last_scratch m c ⟨n + 1, h⟩ h0 (by show 1 ≤ (n + 1) % 16; omega) h3).trans e
      · exact (middle_scratch m c ⟨n + 1, h⟩ h0 (by show 1 ≤ (n + 1) % 16; omega) h3).trans e

/-- The part of the second product that point `t` adds. -/
def part (t : Fin cfg0.N) (y : S1x1024x2048.Idx) : EReal :=
  tileSum (rows m c t) (iblk m c 5 t) (iblk m c 6 t) (y 1) (y 2)

/-- The output block after point `n`'s part is added: at a last point, before the rows are finished. -/
def gathered (n : ℕ) (h : n < cfg0.N) (y : S1x1024x2048.Idx) : EReal :=
  if n % 16 = 15 then
    nextBlock (before m c ⟨n, h⟩).1 (before m c ⟨n, h⟩).2 (iblk m c 5 ⟨n, h⟩) (iblk m c 6 ⟨n, h⟩) y
  else (outsAt0 m c n h).1 y

theorem gathered_first (t : Fin cfg0.N) (h0 : t.val % 16 = 0) (y : S1x1024x2048.Idx) :
    gathered m c t.val t.isLt y = 0 + part m c t y := by
  unfold gathered
  rw [if_neg (by omega), zero_add]
  exact congrFun (first_block m c t h0 (by omega) (by omega)) y

theorem gathered_next (t : Fin cfg0.N) (h0 : ¬t.val % 16 = 0) (y : S1x1024x2048.Idx) :
    gathered m c t.val t.isLt y
      = gathered m c (t.val - 1) (Nat.lt_of_le_of_lt (Nat.sub_le _ _) t.isLt) y + part m c t y := by
  have e : gathered m c t.val t.isLt y
      = nextBlock (before m c t).1 (before m c t).2 (iblk m c 5 t) (iblk m c 6 t) y := by
    unfold gathered
    by_cases h3 : t.val % 16 = 15
    · rw [if_pos h3]
    · rw [if_neg h3]
      exact congrFun (middle_block m c t h0 (by omega) h3) y
  rw [e]
  refine congrArg₂ (· + ·) ?_ ?_
  · unfold gathered before
    rw [if_neg (by omega)]
  · refine congrArg (fun u => tileSum u (iblk m c 5 t) (iblk m c 6 t) (y 1) (y 2)) ?_
    exact (scratch_at m c _ _).trans (rows_same m c _ _ (by show (t.val - 1) / 16 = _; omega))

/-- At the last point the block has gathered all 16 parts. -/
theorem gathered_last (t : Fin cfg0.N) (h3 : t.val % 16 = 15) (y : S1x1024x2048.Idx) :
    gathered m c t.val t.isLt y
      = ∑ s : Fin 16, part m c ⟨16 * (t.val / 16) + s.val, Pipeline.run_point_lt_of_flush t (J := 16) h3 s⟩ y := by
  rw [Pipeline.eq_sum_fin_of_reset_step_apply_of_flush (fun n h => gathered m c n h) 16 (fun _ => 0) (part m c)
    (gathered_first m c) (gathered_next m c) t h3 y, zero_add]

theorem block_last (t : Fin cfg0.N) (h3 : t.val % 16 = 15) :
    (outsAt0 m c t.val t.isLt).1 = lastBlock (iblk m c 0 t) (iblk m c 4 t)
      (fun y => ∑ s : Fin 16, part m c ⟨16 * (t.val / 16) + s.val, Pipeline.run_point_lt_of_flush t (J := 16) h3 s⟩ y) := by
  rw [last_block m c t (by omega) (by omega) h3]
  refine congrArg (fun A => lastBlock (iblk m c 0 t) (iblk m c 4 t) A) (funext fun y => ?_)
  rw [← gathered_last m c t h3 y]
  unfold gathered
  rw [if_pos h3]

end Cert.Kernel3Ideal.Mlp
-- ==== Proof.Mid.Array.lean ====
/- What the feed-forward kernel leaves in its result array: each entry in terms of the entries of the argument arrays. -/
module

public import proofs.«01_k».proof.Proof.Mid.Sweep

@[expose] public section
set_option maxRecDepth 16384
noncomputable section
namespace Cert.Kernel3Ideal.Mlp
open Idealize.ShloMosaic Idealize.ShloMosaic.TcCoe Idealize.SL.Sem
open Cert.Kernel3Ideal Cert.Kernel3Ideal.Gen
open _root_.Mlp

variable (m : (ℓ : Loc nD τ sig) → Buf (Elt Ideal) ℓ) (c : Dev nD)

/-- The 16 parts at row `r` of block `i`, column `d`, are the second product's whole sum. -/
theorem parts_sum (t : Fin cfg0.N) (h3 : t.val % 16 = 15) (b : Fin 2) (i : Fin 16) (hb : t.val / 256 = b.val)
    (hi : t.val / 16 % 16 = i.val) (r : Fin 1024) (d : Fin 2048) :
    ∑ s : Fin 16, part m c ⟨16 * (t.val / 16) + s.val, Pipeline.run_point_lt_of_flush t (J := 16) h3 s⟩ (ix3 0 r d)
      = ∑ k : Fin 8192, act
          (modRow (fun k => m ((c : Thread nD τ).loc main_arg0) (ix3 b ⟨i.val * 1024 + r.val, by omega⟩ k))
            (fun k => m ((c : Thread nD τ).loc main_arg1) (ix1 k)) (fun k => m ((c : Thread nD τ).loc main_arg2) (ix3 b 0 k))
            (fun k => m ((c : Thread nD τ).loc main_arg3) (ix3 b 0 k)))
          (fun e => m ((c : Thread nD τ).loc main_arg5) (ix2 e k)) * m ((c : Thread nD τ).loc main_arg6) (ix2 k d) := by
  have hp : ∀ s : Fin 16, ∀ y, part m c ⟨16 * (t.val / 16) + s.val, Pipeline.run_point_lt_of_flush t (J := 16) h3 s⟩ y
      = ∑ k : Fin 512, act (fun e => rows m c ⟨16 * (t.val / 16) + s.val, Pipeline.run_point_lt_of_flush t (J := 16) h3 s⟩ (ix2 (y 1) e))
        (fun e => (iblk m c 5 ⟨16 * (t.val / 16) + s.val, Pipeline.run_point_lt_of_flush t (J := 16) h3 s⟩ : FVec Ideal S2048x512 .bf16) (ix2 e k))
        * (iblk m c 6 ⟨16 * (t.val / 16) + s.val, Pipeline.run_point_lt_of_flush t (J := 16) h3 s⟩ : FVec Ideal S512x2048 .bf16) (ix2 k (y 2)) :=
    fun s y => rfl
  refine (Finset.sum_congr rfl fun s _ => hp s _).trans ?_
  refine Fin.sum_mul_add_congr fun s k hl => ?_
  have hN : t.val < 512 := lt_of_lt_of_eq t.isLt N_0
  refine congrArg₂ (· * ·) (congrArg₂ act (funext fun e => ?_) (funext fun e => ?_)) ?_
  · exact rows_at m c _ b i (by show (16 * (t.val / 16) + s.val) / 256 = _; omega)
      (by show (16 * (t.val / 16) + s.val) / 16 % 16 = _; omega) r e
  · exact blk5 m c _ s (by show (16 * (t.val / 16) + s.val) % 16 = _; omega) e k
  · exact blk6 m c _ s (by show (16 * (t.val / 16) + s.val) % 16 = _; omega) k d

/-- One entry of the kernel's result. -/
def kernelOut (x : S2x16384x2048.Idx → EReal) (g : S2048.Idx → EReal) (sc sh gt : S2x1x2048.Idx → EReal)
    (wu : S2048x8192.Idx → EReal) (wd : S8192x2048.Idx → EReal) (y : S2x16384x2048.Idx) : EReal :=
  addRow (fun k => x (ix3 (y 0) (y 1) k)) (fun k => gt (ix3 (y 0) 0 k))
    (fun n => ∑ k : Fin 8192, act (modRow (fun k => x (ix3 (y 0) (y 1) k)) (fun k => g (ix1 k)) (fun k => sc (ix3 (y 0) 0 k))
      (fun k => sh (ix3 (y 0) 0 k))) (fun e => wu (ix2 e k)) * wd (ix2 k n)) (y 2)

/-- What a last point writes back, at an index of its block. -/
theorem written (t : Fin cfg0.N) (h3 : t.val % 16 = 15) (b : Fin 2) (i : Fin 16) (hb : t.val / 256 = b.val)
    (hi : t.val / 16 % 16 = i.val) (r : Fin 1024) (d : Fin 2048) :
    (outsAt0 m c t.val t.isLt).1 (ix3 0 r d)
      = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (ix3 b ⟨i.val * 1024 + r.val, by omega⟩ d) := by
  rw [block_last m c t h3]
  exact addRow_congr (blk0 m c t b i hb hi r) (blk4 m c t b hb) (parts_sum m c t h3 b i hb hi r) d

theorem final : (dats m 0 c).arrAt 7 cfg0.N
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t hf y => ?_
  have h3 := (flush0_7 t).mp hf
  have hN : t.val < 512 := lt_of_lt_of_eq t.isLt N_0
  have e := idx t
  have hw : ∀ (r : Fin 1024) (d : Fin 2048), _ := written m c t h3 ⟨t.val / 256, by omega⟩ ⟨t.val / 16 % 16, by omega⟩ rfl rfl
  blk_simp
  rw [after0_7]
  idx_vars y
  obtain rfl : y0 = 0 := Subsingleton.elim _ _
  refine (hw y1 y2).trans ?_
  generalize kernelOut _ _ _ _ _ _ _ = K
  blk_ext [e]

end Cert.Kernel3Ideal.Mlp
-- ==== Proof.Mid.Ref.lean ====
/- The plain feed-forward layer's result, read at an index: a normalised row, its scaling and shift, the hidden values,
   the row they are added to. -/
module

public import proofs.«01_k».proof.Proof.Gen.Reference3Ideal.Run
public import Idealize.ShloMosaic.Lib.Pointwise
public import proofs.«01_k».proof.Proof.Mlp.Row

@[expose] public section
set_option maxRecDepth 16384
noncomputable section
namespace Cert.Reference3Ideal.Mlp
open Idealize.ShloMosaic Idealize.ShloMosaic.TcCoe Idealize.SL.Sem
open Cert.Reference3Ideal Cert.Reference3Ideal.Gen Cert.Reference3Ideal.Value
open _root_.Mlp

/-- Every row normalised and scaled by the gain. -/
def normed (x : FVec Ideal S2x16384x2048 .f32) (g : FVec Ideal S2048 .f32) : FVec Ideal S2x16384x2048 .f32 :=
  mulf (mulf x (broadcastInDim S2x16384x2048 ![0, 1, 2] bcast_S2x16384x1_S2x16384x2048_0_1_2 (Host.rsqrt (addf (Host.divf
    (broadcastInDim S2x16384x1 ![0, 1] bcast_S2x16384_S2x16384x1_0_1 (Host.reduceAdd (mulf x x) (constant S_ .f32 0x00000000#32)
    reducesTo_S2x16384x2048_S2x16384_d2 h_S_)) (broadcastInDim S2x16384x1 ![] bcast_S_S2x16384x1 (constant S_ .f32 0x45000000#32)))
    (broadcastInDim S2x16384x1 ![] bcast_S_S2x16384x1 (constant S_ .f32 0x358637BD#32))))))
    (broadcastInDim S2x16384x2048 ![0, 1, 2] bcast_S1x1x2048_S2x16384x2048_0_1_2 (broadcastInDim S1x1x2048 ![2] bcast_S2048_S1x1x2048_2 g))

/-- The normalised rows `z` scaled by `1 + sc` and shifted by `sh`. -/
def modulated (z : FVec Ideal S2x16384x2048 .f32) (sc sh : FVec Ideal S2x1x2048 .f32) : FVec Ideal S2x16384x2048 .f32 :=
  addf (mulf z (broadcastInDim S2x16384x2048 ![0, 1, 2] bcast_S2x1x2048_S2x16384x2048_0_1_2
    (addf (broadcastInDim S2x1x2048 ![] bcast_S_S2x1x2048 (constant S_ .f32 0x3F800000#32)) sc)))
    (broadcastInDim S2x16384x2048 ![0, 1, 2] bcast_S2x1x2048_S2x16384x2048_0_1_2 sh)

/-- The hidden values before the positive part is taken. -/
def raised (u : FVec Ideal S2x16384x2048 .f32) (wu : FVec Ideal S2048x8192 .f32) : FVec Ideal S2x16384x8192 .f32 :=
  Host.dotGeneral dot_S2x16384x2048_S2048x8192_S2x16384x8192_2_0_01_1_n_n none u wu

/-- The hidden values. -/
def hidden (h : FVec Ideal S2x16384x8192 .f32) : FVec Ideal S2x16384x8192 .f32 :=
  mulf (maximumf h (broadcastInDim S2x16384x8192 ![] bcast_S_S2x16384x8192 (constant S_ .f32 0x00000000#32)))
    (maximumf h (broadcastInDim S2x16384x8192 ![] bcast_S_S2x16384x8192 (constant S_ .f32 0x00000000#32)))

/-- The rows with the layer's output added. -/
def added (x : FVec Ideal S2x16384x2048 .f32) (gt : FVec Ideal S2x1x2048 .f32) (h : FVec Ideal S2x16384x8192 .f32)
    (wd : FVec Ideal S8192x2048 .f32) : FVec Ideal S2x16384x2048 .f32 :=
  addf x (mulf (broadcastInDim S2x16384x2048 ![0, 1, 2] bcast_S2x1x2048_S2x16384x2048_0_1_2 gt)
    (Host.dotGeneral dot_S2x16384x8192_S8192x2048_S2x16384x2048_2_0_01_1_n_n none h wd))

theorem normed_at (x : FVec Ideal S2x16384x2048 .f32) (g : FVec Ideal S2048 .f32) (b : Fin 2) (r : Fin 16384) (d : Fin 2048) :
    normed x g (ix3 b r d) = normRow (fun k => x (ix3 b r k)) d * g (ix1 d) := by
  unfold normRow
  pointwise! [normed]

theorem modulated_at (z : FVec Ideal S2x16384x2048 .f32) (sc sh : FVec Ideal S2x1x2048 .f32) (b : Fin 2) (r : Fin 16384)
    (d : Fin 2048) : modulated z sc sh (ix3 b r d)
      = z (ix3 b r d) * (Ideal.ofBits .f32 0x3F800000#32 + sc (ix3 b 0 d)) + sh (ix3 b 0 d) := by
  pointwise! [modulated]

theorem raised_at (u : FVec Ideal S2x16384x2048 .f32) (wu : FVec Ideal S2048x8192 .f32) (b : Fin 2) (r : Fin 16384)
    (k : Fin 8192) : raised u wu (ix3 b r k) = ∑ e : Fin 2048, u (ix3 b r e) * wu (ix2 e k) := by
  pointwise [raised]

theorem hidden_at (h : FVec Ideal S2x16384x8192 .f32) (b : Fin 2) (r : Fin 16384) (k : Fin 8192) :
    hidden h (ix3 b r k) = max (h (ix3 b r k)) 0 * max (h (ix3 b r k)) 0 := by
  pointwise! [hidden]

theorem added_at (x : FVec Ideal S2x16384x2048 .f32) (gt : FVec Ideal S2x1x2048 .f32) (h : FVec Ideal S2x16384x8192 .f32)
    (wd : FVec Ideal S8192x2048 .f32) (b : Fin 2) (r : Fin 16384) (d : Fin 2048) :
    added x gt h wd (ix3 b r d) = x (ix3 b r d) + gt (ix3 b 0 d) * ∑ k : Fin 8192, h (ix3 b r k) * wd (ix2 k d) := by
  pointwise [added]

/-- The result in these steps. -/
def result (m : (ℓ : Loc nD τ sig) → Buf (Elt Ideal) ℓ) (c : Dev nD) : FVec Ideal S2x16384x2048 .f32 :=
  added (m ((c : Thread nD τ).loc main_arg0)) (m ((c : Thread nD τ).loc main_arg4))
    (hidden (raised (modulated (normed (m ((c : Thread nD τ).loc main_arg0)) (m ((c : Thread nD τ).loc main_arg1)))
      (m ((c : Thread nD τ).loc main_arg2)) (m ((c : Thread nD τ).loc main_arg3))) (m ((c : Thread nD τ).loc main_arg5))))
    (m ((c : Thread nD τ).loc main_arg6))

/-- The program ends with it, its arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v25) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans rfl, (h c).2⟩) (run (F := Ideal) m ρ)

end Cert.Reference3Ideal.Mlp
-- ==== Proof.Mid.Eq.lean ====
/- An entry of the feed-forward kernel's result is the plain layer's entry. -/
module

public import proofs.«01_k».proof.Proof.Mid.Array
public import proofs.«01_k».proof.Proof.Mid.Ref

@[expose] public section
set_option maxRecDepth 16384
noncomputable section
namespace Cert.Mid
open Idealize.ShloMosaic Idealize.ShloMosaic.TcCoe Idealize.SL.Sem
open Cert.Kernel3Ideal.Mlp Cert.Reference3Ideal.Mlp
open _root_.Mlp

variable (x : FVec Ideal Cert.Kernel3Ideal.S2x16384x2048 .f32) (g : FVec Ideal Cert.Kernel3Ideal.S2048 .f32)
  (sc sh gt : FVec Ideal Cert.Kernel3Ideal.S2x1x2048 .f32) (wu : FVec Ideal Cert.Kernel3Ideal.S2048x8192 .f32)
  (wd : FVec Ideal Cert.Kernel3Ideal.S8192x2048 .f32)
  (b : Fin 2) (r : Fin 16384)

/-- The modulated row: the gain goes with the scale in the kernel, with the row in the reference. -/
theorem mod_eq (d : Fin 2048) : modulated (normed x g) sc sh (ix3 b r d)
    = modRow (fun k => x (ix3 b r k)) (fun k => g (ix1 k)) (fun k => sc (ix3 b 0 k)) (fun k => sh (ix3 b 0 k)) d := by
  rw [modulated_at, normed_at]
  unfold modRow
  rw [mul_assoc]

theorem hidden_eq (k : Fin 8192) : hidden (raised (modulated (normed x g) sc sh) wu) (ix3 b r k)
    = act (modRow (fun k => x (ix3 b r k)) (fun k => g (ix1 k)) (fun k => sc (ix3 b 0 k)) (fun k => sh (ix3 b 0 k)))
      (fun e => wu (ix2 e k)) := by
  rw [hidden_at, raised_at]
  unfold act
  simp only [mod_eq]

theorem entry (d : Fin 2048) : added x gt (hidden (raised (modulated (normed x g) sc sh) wu)) wd (ix3 b r d)
    = kernelOut x g sc sh gt wu wd (ix3 b r d) := by
  rw [added_at]
  refine congrArg (fun z : EReal => x (ix3 b r d) + gt (ix3 b 0 d) * z) (Finset.sum_congr rfl fun j _ => ?_)
  exact congrArg (· * wd (ix2 j d)) (hidden_eq x g sc sh wu b r j)

end Cert.Mid
-- ==== Proof.Inproj.Cases.lean ====
/- The in-projection kernel's branch conditions in closed form over the points of its grid, and the five cases they make: the first
   point (A), an odd or an even step of the left half of the columns (B, C), an even or an odd step of the right half (D, E). -/
module

public import proofs.«01_k».proof.Proof.Gen.Kernel4Ideal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel4Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid's coordinates. -/
abbrev cond0_0 (i : grid0.Coords) : Prop := (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcond0_0 : ∀ t : Fin cfg0.N, cond0_0 (grid0.coords t) ↔ t.val % 132 = 0 :=
  (fun t => by
    have ht : t.val < 132 := Nat.lt_of_lt_of_eq t.isLt N_0
    have e0 : (grid0.coords t 0).val = t.val / 66 % 2 := Pipeline.Grid.coords_val t 0 (by decide) rfl
    have e1 : (grid0.coords t 1).val = t.val / 33 % 2 := Pipeline.Grid.coords_val t 1 (by decide) rfl
    have e2 : (grid0.coords t 2).val = t.val / 1 % 33 := Pipeline.Grid.coords_val t 2 (by decide) rfl
    simp only [cond0_0, e0, e1, e2]
    word_cmp
   : ∀ t : Fin grid0.N, cond0_0 (grid0.coords t) ↔ t.val % 132 = 0)

/-- The condition of the body's `scf.if` 1 (`k0_h2`), from the grid's coordinates. -/
abbrev cond0_1 (i : grid0.Coords) : Prop := k0_cond2 i = 1#1
/-- It holds at the points ≢ 1, 3, 5, 7, 9, 11, 13, 15, 17, 19, 21, 23, 25, 27, 29 or 31 (mod 33). -/
theorem hcond0_1 : ∀ t : Fin cfg0.N, cond0_1 (grid0.coords t) ↔ ¬(t.val % 33 % 2 = 1) :=
  (by decide +kernel : ∀ t : Fin grid0.N, cond0_1 (grid0.coords t) ↔ ¬(t.val % 33 % 2 = 1))

/-- The condition of the body's `scf.if` 2 (`k0_h3`), from the grid's coordinates. -/
abbrev cond0_2 (i : grid0.Coords) : Prop := k0_cond3 i = 1#1
/-- It holds at the points ≡ 1, 3, 5, 7, 9, 11, 13, 15, 17, 19, 21, 23, 25, 27, 29 or 31 (mod 33). -/
theorem hcond0_2 : ∀ t : Fin cfg0.N, cond0_2 (grid0.coords t) ↔ (t.val % 33 % 2 = 1) :=
  (by decide +kernel : ∀ t : Fin grid0.N, cond0_2 (grid0.coords t) ↔ (t.val % 33 % 2 = 1))

/-- The condition of the body's `scf.if` 3 (`k0_h4`), from the grid's coordinates. -/
abbrev cond0_3 (i : grid0.Coords) : Prop := k0_cond4 i = 1#1
/-- It holds at the points before point 66. -/
theorem hcond0_3 : ∀ t : Fin cfg0.N, cond0_3 (grid0.coords t) ↔ t.val < 66 :=
  (fun t => by
    have ht : t.val < 132 := Nat.lt_of_lt_of_eq t.isLt N_0
    have e0 : (grid0.coords t 0).val = t.val / 66 % 2 := Pipeline.Grid.coords_val t 0 (by decide) rfl
    have e1 : (grid0.coords t 1).val = t.val / 33 % 2 := Pipeline.Grid.coords_val t 1 (by decide) rfl
    have e2 : (grid0.coords t 2).val = t.val / 1 % 33 := Pipeline.Grid.coords_val t 2 (by decide) rfl
    simp only [cond0_3, k0_cond4, e0, e1, e2]
    word_cmp
   : ∀ t : Fin grid0.N, cond0_3 (grid0.coords t) ↔ t.val < 66)

/-! ## No window is idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl

/-- Case A's branch conditions on the grid, as one proposition. -/
abbrev conds0_A (i : grid0.Coords) : Prop := cond0_0 i ∧ cond0_1 i ∧ ¬cond0_2 i ∧ cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ cond0_2 i ∧ cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ cond0_1 i ∧ ¬cond0_2 i ∧ cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ cond0_1 i ∧ ¬cond0_2 i ∧ ¬cond0_3 i
instance conds0_D.dec (i : grid0.Coords) : Decidable (conds0_D i) :=
  @instDecidableAnd _ _ inferInstance (@instDecidableAnd _ _ inferInstance (@instDecidableAnd _ _ inferInstance inferInstance))
/-- Case E's branch conditions on the grid, as one proposition. -/
abbrev conds0_E (i : grid0.Coords) : Prop := ¬cond0_0 i ∧ ¬cond0_1 i ∧ cond0_2 i ∧ ¬cond0_3 i
instance conds0_E.dec (i : grid0.Coords) : Decidable (conds0_E i) :=
  @instDecidableAnd _ _ inferInstance (@instDecidableAnd _ _ inferInstance (@instDecidableAnd _ _ inferInstance inferInstance))
/-- At the points of case A the output is stored into. -/
theorem liveAt0_8_A : ∀ t : Fin cfg0.N, cond0_0 (grid0.coords t) → cond0_1 (grid0.coords t) → ¬cond0_2 (grid0.coords t) → cond0_3 (grid0.coords t) → cfg0.idle 8 (grid0.coords t) = false :=
  fun t h0 h1 h2 h3 => (by decide +kernel : ∀ t : Fin cfg0.N, conds0_A (grid0.coords t) → cfg0.idle 8 (grid0.coords t) = false) t ⟨h0, h1, h2, h3⟩
/-- At the points of case B the output is stored into. -/
theorem liveAt0_8_B : ∀ t : Fin cfg0.N, ¬cond0_0 (grid0.coords t) → ¬cond0_1 (grid0.coords t) → cond0_2 (grid0.coords t) → cond0_3 (grid0.coords t) → cfg0.idle 8 (grid0.coords t) = false :=
  fun t h0 h1 h2 h3 => (by decide +kernel : ∀ t : Fin cfg0.N, conds0_B (grid0.coords t) → cfg0.idle 8 (grid0.coords t) = false) t ⟨h0, h1, h2, h3⟩
/-- At the points of case C the output is stored into. -/
theorem liveAt0_8_C : ∀ t : Fin cfg0.N, ¬cond0_0 (grid0.coords t) → cond0_1 (grid0.coords t) → ¬cond0_2 (grid0.coords t) → cond0_3 (grid0.coords t) → cfg0.idle 8 (grid0.coords t) = false :=
  fun t h0 h1 h2 h3 => (by decide +kernel : ∀ t : Fin cfg0.N, conds0_C (grid0.coords t) → cfg0.idle 8 (grid0.coords t) = false) t ⟨h0, h1, h2, h3⟩
/-- At the points of case D the output is stored into. -/
theorem liveAt0_8_D : ∀ t : Fin cfg0.N, ¬cond0_0 (grid0.coords t) → cond0_1 (grid0.coords t) → ¬cond0_2 (grid0.coords t) → ¬cond0_3 (grid0.coords t) → cfg0.idle 8 (grid0.coords t) = false :=
  fun t h0 h1 h2 h3 => (by decide +kernel : ∀ t : Fin cfg0.N, conds0_D (grid0.coords t) → cfg0.idle 8 (grid0.coords t) = false) t ⟨h0, h1, h2, h3⟩
/-- At the points of case E the output is stored into. -/
theorem liveAt0_8_E : ∀ t : Fin cfg0.N, ¬cond0_0 (grid0.coords t) → ¬cond0_1 (grid0.coords t) → cond0_2 (grid0.coords t) → ¬cond0_3 (grid0.coords t) → cfg0.idle 8 (grid0.coords t) = false :=
  fun t h0 h1 h2 h3 => (by decide +kernel : ∀ t : Fin cfg0.N, conds0_E (grid0.coords t) → cfg0.idle 8 (grid0.coords t) = false) t ⟨h0, h1, h2, h3⟩

/-! ## The buffers the body works on -/

/-- One staging buffer of output window 8, through which its contents are stated. -/
abbrev VO0_8 : View sig .tc .vmem S1x512x3328 .f32 := (Memref.whole cc0_stg8_0 : Memref sig .tc .vmem S1x512x3328 .f32).view
/-- Each window's current staging memref at point `t`, and that it is whole. -/
abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x3328 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x3328 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S512x2048 .bf16 := Memref.whole cc0_scratch0
abbrev scM0_1 : Memref sig .tc .vmem S512x2048 .bf16 := Memref.whole cc0_scratch1
/-- The scratch `arg12` the kernel carries between points, as a view: what it holds is stated through it. -/
abbrev VS0_0 : View sig .tc .vmem S512x2048 .bf16 := scM0_0.view
/-- The scratch `arg13` the kernel carries between points, as a view: what it holds is stated through it. -/
abbrev VS0_1 : View sig .tc .vmem S512x2048 .bf16 := scM0_1.view

/-- The scratch buffers owned at some contents, beside the rest of what the region owns. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel4Ideal.Inproj

end
-- ==== Proof.Inproj.RunA.lean ====
/- The run of the in-projection kernel's body in case A: what it stores into the output block and the two scratch buffers. -/
module

public import proofs.«01_k».proof.Proof.Gen.Kernel4Ideal.Skeleton
public import proofs.«01_k».proof.Proof.Inproj.Cases

@[expose] public section

set_option maxRecDepth 16384

noncomputable section

namespace Cert.Kernel4Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores in case A into the output block and into each scratch it fills, as pieces, the last one first, with the
    proof that it runs: on whole buffers, the inputs at their contents, it ends with the inputs as they were and these pieces
    written. -/
noncomputable def kernelRun0_A (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) :
    Σ' (L8 : List (View.Piece (Elt F) S1x512x3328 .f32)), Σ' (LS0 : List (View.Piece (Elt F) S512x2048 .bf16)), { LS1 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1)) -∗ K ⟨⟩))
          ⊢ wp frame (wpE (defs₀ (F := F)) Variants.none c none) E (cc0_ab_inproj_stream i arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_ab_inproj_stream_eq_skeleton]; unfold cc0_ab_inproj_stream_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]; · iexists _; iexact HS0
    iexists _; iexact HS1

end Cert.Kernel4Ideal.Inproj

end
-- ==== Proof.Inproj.RunB.lean ====
/- The run of the in-projection kernel's body in case B: what it stores into the output block and the two scratch buffers. -/
module

public import proofs.«01_k».proof.Proof.Gen.Kernel4Ideal.Skeleton
public import proofs.«01_k».proof.Proof.Inproj.Cases

@[expose] public section

set_option maxRecDepth 16384

noncomputable section

namespace Cert.Kernel4Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores in case B into the output block and into each scratch it fills, as pieces, the last one first, with the
    proof that it runs: on whole buffers, the inputs at their contents, it ends with the inputs as they were and these pieces
    written. -/
noncomputable def kernelRun0_B (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) :
    Σ' (L8 : List (View.Piece (Elt F) S1x512x3328 .f32)), Σ' (LS0 : List (View.Piece (Elt F) S512x2048 .bf16)), { LS1 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xs0 ∗ (∃ f, arg13.view.loc (c : Thread nD τ) ↦[arg13.view.set]{fullShare} arg13.view.writes (Elt F) f LS1)) -∗ K ⟨⟩))
          ⊢ wp frame (wpE (defs₀ (F := F)) Variants.none c none) E (cc0_ab_inproj_stream i arg3 harg3 arg4 harg4 arg5 harg5 arg6 harg6 arg7 harg7 arg8 harg8 arg9 harg9 arg10 harg10 arg11 harg11 arg12 harg12 arg13 harg13) K } := by
  refine ⟨?_, [], ?_, fun E K => ?run⟩
  case run =>
    simp only [cc0_ab_inproj_stream_eq_skeleton]; unfold cc0_ab_inproj_stream_skel
    simp only [k0_part20_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _; isplitr; · ipureintro; exact harg12.read_unread _
      iexact HS0
    iexists _; iexact HS1

end Cert.Kernel4Ideal.Inproj

end
-- ==== Proof.Inproj.RunC.lean ====
/- The run of the in-projection kernel's body in case C: what it stores into the output block and the two scratch buffers. -/
module

public import proofs.«01_k».proof.Proof.Gen.Kernel4Ideal.Skeleton
public import proofs.«01_k».proof.Proof.Inproj.Cases

@[expose] public section

set_option maxRecDepth 16384

noncomputable section

namespace Cert.Kernel4Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores in case C into the output block and into each scratch it fills, as pieces, the last one first, with the
    proof that it runs: on whole buffers, the inputs at their contents, it ends with the inputs as they were and these pieces
    written. -/
noncomputable def kernelRun0_C (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) :
    Σ' (L8 : List (View.Piece (Elt F) S1x512x3328 .f32)), Σ' (LS0 : List (View.Piece (Elt F) S512x2048 .bf16)), { LS1 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0_ab_inproj_stream i arg3 harg3 arg4 harg4 arg5 harg5 arg6 harg6 arg7 harg7 arg8 harg8 arg9 harg9 arg10 harg10 arg11 harg11 arg12 harg12 arg13 harg13) K } := by
  refine ⟨?_, ?_, [], fun E K => ?run⟩
  case run =>
    simp only [cc0_ab_inproj_stream_eq_skeleton]; unfold cc0_ab_inproj_stream_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg13.eq_unread hfs1
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]; · iexists _; iexact HS0
    iexists _; isplitr; · ipureintro; exact harg13.read_unread _
    iexact HS1

end Cert.Kernel4Ideal.Inproj

end
-- ==== Proof.Inproj.RunD.lean ====
/- The run of the in-projection kernel's body in case D: what it stores into the output block and the two scratch buffers. -/
module

public import proofs.«01_k».proof.Proof.Gen.Kernel4Ideal.Skeleton
public import proofs.«01_k».proof.Proof.Inproj.Cases

@[expose] public section

set_option maxRecDepth 16384

noncomputable section

namespace Cert.Kernel4Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores in case D into the output block and into each scratch it fills, as pieces, the last one first, with the
    proof that it runs: on whole buffers, the inputs at their contents, it ends with the inputs as they were and these pieces
    written. -/
noncomputable def kernelRun0_D (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) :
    Σ' (L8 : List (View.Piece (Elt F) S1x512x3328 .f32)), Σ' (LS0 : List (View.Piece (Elt F) S512x2048 .bf16)), { LS1 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f LS0) ∗ owns (c : Thread nD τ) arg13 fullShare xs1) -∗ K ⟨⟩))
          ⊢ wp frame (wpE (defs₀ (F := F)) Variants.none c none) E (cc0_ab_inproj_stream i arg3 harg3 arg4 harg4 arg5 harg5 arg6 harg6 arg7 harg7 arg8 harg8 arg9 harg9 arg10 harg10 arg11 harg11 arg12 harg12 arg13 harg13) K } := by
  refine ⟨?_, ?_, [], fun E K => ?run⟩
  case run =>
    simp only [cc0_ab_inproj_stream_eq_skeleton]; unfold cc0_ab_inproj_stream_skel
    simp only [k0_part20_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg13.eq_unread hfs1
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]; · iexists _; iexact HS0
    iexists _; isplitr; · ipureintro; exact harg13.read_unread _
    iexact HS1

end Cert.Kernel4Ideal.Inproj

end
-- ==== Proof.Inproj.RunE.lean ====
/- The run of the in-projection kernel's body in case E: what it stores into the output block and the two scratch buffers. -/
module

public import proofs.«01_k».proof.Proof.Gen.Kernel4Ideal.Skeleton
public import proofs.«01_k».proof.Proof.Inproj.Cases

@[expose] public section

set_option maxRecDepth 16384

noncomputable section

namespace Cert.Kernel4Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body stores in case E into the output block and into each scratch it fills, as pieces, the last one first, with the
    proof that it runs: on whole buffers, the inputs at their contents, it ends with the inputs as they were and these pieces
    written. -/
noncomputable def kernelRun0_E (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) :
    Σ' (L8 : List (View.Piece (Elt F) S1x512x3328 .f32)), Σ' (LS0 : List (View.Piece (Elt F) S512x2048 .bf16)), { LS1 : List (View.Piece (Elt F) S512x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ owns (c : Thread nD τ) arg12 fullShare xs0 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ owns (c : Thread nD τ) arg12 fullShare xs0 ∗ (∃ f, arg13.view.loc (c : Thread nD τ) ↦[arg13.view.set]{fullShare} arg13.view.writes (Elt F) f LS1)) -∗ K ⟨⟩))
          ⊢ wp frame (wpE (defs₀ (F := F)) Variants.none c none) E (cc0_ab_inproj_stream i arg3 harg3 arg4 harg4 arg5 harg5 arg6 harg6 arg7 harg7 arg8 harg8 arg9 harg9 arg10 harg10 arg11 harg11 arg12 harg12 arg13 harg13) K } := by
  refine ⟨?_, [], ?_, fun E K => ?run⟩
  case run =>
    simp only [cc0_ab_inproj_stream_eq_skeleton]; unfold cc0_ab_inproj_stream_skel
    simp only [k0_part20_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg12.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _; isplitr; · ipureintro; exact harg12.read_unread _
      iexact HS0
    iexists _; iexact HS1

end Cert.Kernel4Ideal.Inproj

end
-- ==== Proof.Inproj.Frame.lean ====
/- The frame of the in-projection kernel: what the output block and the two scratch buffers hold after each point of the grid, the
   proof that each point leaves this, and the run of the whole program. -/
module

public import proofs.«01_k».proof.Proof.Inproj.RunA
public import proofs.«01_k».proof.Proof.Inproj.RunB
public import proofs.«01_k».proof.Proof.Inproj.RunC
public import proofs.«01_k».proof.Proof.Inproj.RunD
public import proofs.«01_k».proof.Proof.Inproj.RunE
public import Idealize.ShloMosaic.Lib.Claim

@[expose] public section

set_option maxRecDepth 16384

noncomputable section

namespace Cert.Kernel4Ideal.Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stores into the output block, the product and ten heads, tile it when cut into heads, so they cover it. -/
theorem cover0_A_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (y : S1x512x3328.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).1, y ∈ pc.1.set :=
  View.cover_of_tiledBy (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).1 ![1, 512, 128] (by sl_kernel_rfl) y

/-- What case A leaves in output 8's staging buffer: its pieces read back over junk. -/
def out0_A_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) : Vec F S1x512x3328 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).1)

/-- Case A's stores into scratch `arg12` cover it. -/
theorem scover0_A_0 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (y : S512x2048.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.1 S32x2048.size (by sl_kernel_rfl) y

/-- What case A leaves in scratch `arg12`: its pieces read back over junk. -/
def sout0_A_0 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) : Vec F S512x2048 .bf16 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.1)

/-- Case A's stores into scratch `arg13` cover it. -/
theorem scover0_A_1 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (y : S512x2048.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.2.1 S512x2048.size (by sl_kernel_rfl) y

/-- What case A leaves in scratch `arg13`: its pieces read back over junk. -/
def sout0_A_1 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) : Vec F S512x2048 .bf16 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7).2.2.1)

/-- Case B's stores into the output block, the product and ten heads, tile it when cut into heads, so they cover it. -/
theorem cover0_B_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) (y : S1x512x3328.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).1, y ∈ pc.1.set :=
  View.cover_of_tiledBy (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).1 ![1, 512, 128] (by sl_kernel_rfl) y

/-- What case B leaves in output 8's staging buffer: its pieces read back over junk. -/
def out0_B_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) : Vec F S1x512x3328 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).1)

/-- Case B stores nothing into scratch `arg12`: it holds what the point before left. -/
def sout0_B_0 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) : Vec F S512x2048 .bf16 := xs0

/-- Case B's stores into scratch `arg13` cover it. -/
theorem scover0_B_1 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) (y : S512x2048.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).2.2.1 S32x2048.size (by sl_kernel_rfl) y

/-- What case B leaves in scratch `arg13`: its pieces read back over junk. -/
def sout0_B_1 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) : Vec F S512x2048 .bf16 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).2.2.1)

/-- Case C's stores into the output block, the product and ten heads, tile it when cut into heads, so they cover it. -/
theorem cover0_C_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) (y : S1x512x3328.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).1, y ∈ pc.1.set :=
  View.cover_of_tiledBy (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).1 ![1, 512, 128] (by sl_kernel_rfl) y

/-- What case C leaves in output 8's staging buffer: its pieces read back over junk. -/
def out0_C_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) : Vec F S1x512x3328 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).1)

/-- Case C's stores into scratch `arg12` cover it. -/
theorem scover0_C_0 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) (y : S512x2048.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).2.1 S32x2048.size (by sl_kernel_rfl) y

/-- What case C leaves in scratch `arg12`: its pieces read back over junk. -/
def sout0_C_0 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) : Vec F S512x2048 .bf16 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).2.1)

/-- Case C stores nothing into scratch `arg13`: it holds what the point before left. -/
def sout0_C_1 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) : Vec F S512x2048 .bf16 := xs1

/-- Case D's one store covers the output block. -/
theorem cover0_D_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) (y : S1x512x3328.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).1 S1x512x3328.size (by sl_kernel_rfl) y

/-- What case D leaves in output 8's staging buffer: its pieces read back over junk. -/
def out0_D_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) : Vec F S1x512x3328 .f32 :=
  VO0_8.read (Elt F) (VO0_8.writes (Elt F) VO0_8.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).1)

/-- Case D's stores into scratch `arg12` cover it. -/
theorem scover0_D_0 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) (y : S512x2048.Idx) :
    ∃ pc ∈ (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).2.1, y ∈ pc.1.set :=
  View.cover_of_tiledL (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).2.1 S32x2048.size (by sl_kernel_rfl) y

/-- What case D leaves in scratch `arg12`: its pieces read back over junk. -/
def sout0_D_0 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) : Vec F S512x2048 .bf16 :=
  VS0_0.read (Elt F) (VS0_0.writes (Elt F) VS0_0.junk (kernelRun0_D c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs1).2.1)

/-- Case D stores nothing into scratch `arg13`: it holds what the point before left. -/
def sout0_D_1 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : cond0_1 i) (hc2 : ¬cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs1 : Vec F S512x2048 .bf16) : Vec F S512x2048 .bf16 := xs1

/-- Case E's one store covers the output block. -/
theorem cover0_E_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) (y : S1x512x3328.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).1 S1x512x3328.size (by sl_kernel_rfl) y

/-- What case E leaves in output 8's staging buffer: its pieces read back over junk. -/
def out0_E_8 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) : Vec F S1x512x3328 .f32 :=
  VO0_8.read (Elt F) (VO0_8.writes (Elt F) VO0_8.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).1)

/-- Case E stores nothing into scratch `arg12`: it holds what the point before left. -/
def sout0_E_0 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) : Vec F S512x2048 .bf16 := xs0

/-- Case E's stores into scratch `arg13` cover it. -/
theorem scover0_E_1 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) (y : S512x2048.Idx) :
    ∃ pc ∈ (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).2.2.1, y ∈ pc.1.set :=
  View.cover_of_tiledL (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).2.2.1 S32x2048.size (by sl_kernel_rfl) y

/-- What case E leaves in scratch `arg13`: its pieces read back over junk. -/
def sout0_E_1 (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x3328 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x512x3328 .f32) (harg11 : arg11.IsWhole) (arg12 : Memref sig .tc .vmem S512x2048 .bf16) (harg12 : arg12.IsWhole) (arg13 : Memref sig .tc .vmem S512x2048 .bf16) (harg13 : arg13.IsWhole) (hc0 : ¬cond0_0 i) (hc1 : ¬cond0_1 i) (hc2 : cond0_2 i) (hc3 : ¬cond0_3 i)
    (x0 : Vec F S1x512x2048 .f32) (x1 : Vec F S1x2048 .f32) (x2 : Vec F S1x1x2048 .f32) (x3 : Vec F S1x1x2048 .f32) (x4 : Vec F S2048x3328 .bf16) (x5 : Vec F S512x128 .f32) (x6 : Vec F S512x128 .f32) (x7 : Vec F S512x128 .f32) (xs0 : Vec F S512x2048 .bf16) : Vec F S512x2048 .bf16 :=
  VS0_1.read (Elt F) (VS0_1.writes (Elt F) VS0_1.junk (kernelRun0_E c i arg3 harg3 arg4 harg4 arg5 harg5 arg6 harg6 arg7 harg7 arg8 harg8 arg9 harg9 arg10 harg10 arg11 harg11 arg12 harg12 arg13 harg13 hc0 hc1 hc2 hc3 x0 x1 x2 x3 x4 x5 x6 x7 xs0).2.2.1)

/-! ## What the outputs hold after each point -/

/-- What the output block and the two scratch buffers hold after point `n`: what the case of `n` leaves, from the point's input
    blocks and from what was held after the point before. -/
def outsAt0 (c : Dev nD) : (n : ℕ) → n < cfg0.N → Vec F S1x512x3328 .f32 × Vec F S512x2048 .bf16 × Vec F S512x2048 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) scM0_0 (Memref.isWhole_whole _) scM0_1 (Memref.isWhole_whole _) ((hcond0_0 ⟨0, hn⟩).mpr (Nat.zero_mod _)) ((hcond0_1 ⟨0, hn⟩).mpr (by (try dsimp only); omega)) (fun h => (fun h => by (try dsimp only at h); omega) ((hcond0_2 ⟨0, hn⟩).mp h)) ((hcond0_3 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 132 = 0 then
      if h1 : ¬((n + 1) % 33 % 2 = 1) then
        if h2 : ((n + 1) % 33 % 2 = 1) then
          False.elim (by have hN : n + 1 < 132 := lt_of_lt_of_eq hn (show cfg0.N = 132 from N_0); omega)
        else
          if h3 : (n + 1) < 66 then
            (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) ((hcond0_0 ⟨n + 1, hn⟩).mpr h0) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
          else
            False.elim (by have hN : n + 1 < 132 := lt_of_lt_of_eq hn (show cfg0.N = 132 from N_0); omega)
      else
        False.elim (by have hN : n + 1 < 132 := lt_of_lt_of_eq hn (show cfg0.N = 132 from N_0); omega)
    else
      if h1 : ¬((n + 1) % 33 % 2 = 1) then
        if h2 : ((n + 1) % 33 % 2 = 1) then
          False.elim (by have hN : n + 1 < 132 := lt_of_lt_of_eq hn (show cfg0.N = 132 from N_0); omega)
        else
          if h3 : (n + 1) < 66 then
            (out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)
          else
            (out0_D_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2)
      else
        if h2 : ((n + 1) % 33 % 2 = 1) then
          if h3 : (n + 1) < 66 then
            (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1)
          else
            (out0_E_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1)
        else
          False.elim (by have hN : n + 1 < 132 := lt_of_lt_of_eq hn (show cfg0.N = 132 from N_0); omega)

/-- `outsAt0` at a point of case A: that case's contents. -/
theorem outsAt0_A (c : Dev nD) (t : Fin cfg0.N) (h0 : t.val % 132 = 0) (h1 : ¬(t.val % 33 % 2 = 1)) (h2 : ¬(t.val % 33 % 2 = 1)) (h3 : t.val < 66) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans ((dif_pos h1).trans ((dif_neg h2).trans ((dif_pos h3).trans rfl)))

/-- `outsAt0` at a point of case B: that case's contents, over what the point before left. -/
theorem outsAt0_B (c : Dev nD) (t : Fin cfg0.N) (h0 : ¬t.val % 132 = 0) (h1 : ¬¬(t.val % 33 % 2 = 1)) (h2 : (t.val % 33 % 2 = 1)) (h3 : t.val < 66) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_neg h1).trans ((dif_pos h2).trans ((dif_pos h3).trans rfl)))

/-- `outsAt0` at a point of case C: that case's contents, over what the point before left. -/
theorem outsAt0_C (c : Dev nD) (t : Fin cfg0.N) (h0 : ¬t.val % 132 = 0) (h1 : ¬(t.val % 33 % 2 = 1)) (h2 : ¬(t.val % 33 % 2 = 1)) (h3 : t.val < 66) :
    outsAt0 m c t.val t.isLt = (out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans rfl)))

/-- `outsAt0` at a point of case D: that case's contents, over what the point before left. -/
theorem outsAt0_D (c : Dev nD) (t : Fin cfg0.N) (h0 : ¬t.val % 132 = 0) (h1 : ¬(t.val % 33 % 2 = 1)) (h2 : ¬(t.val % 33 % 2 = 1)) (h3 : ¬t.val < 66) :
    outsAt0 m c t.val t.isLt = (out0_D_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at a point of case E: that case's contents, over what the point before left. -/
theorem outsAt0_E (c : Dev nD) (t : Fin cfg0.N) (h0 : ¬t.val % 132 = 0) (h1 : ¬¬(t.val % 33 % 2 = 1)) (h2 : (t.val % 33 % 2 = 1)) (h3 : ¬t.val < 66) :
    outsAt0 m c t.val t.isLt = (out0_E_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- What holds between the points: before the first, each scratch holds anything; afterwards, what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- The data of the pipeline's proof: the arrays as the region finds them, each input's buffer at its block, the output's as
    above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
  Φ t := PhiS m c t.val (Nat.le_of_lt_succ t.isLt)
  q _ := fullShare
  owed _ := 0

/-- The arrays are what the region finds. -/
theorem A_eq (c : Dev nD) (w : Fin cfg0.W) : (dats m 0 c).A w = V m c (Pipeline.arrRef spec0 w) := by
  dsimp only [dats]

/-- The invariant at a point's start, at the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body at a point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 16000000 in
/-- The body at any point: by the point's case, the case's run, the scratch at what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 132 := lt_of_lt_of_eq t.isLt (show cfg0.N = 132 from N_0)
  by_cases h0 : t.val % 132 = 0
  · by_cases h1 : ¬(t.val % 33 % 2 = 1)
    · by_cases h2 : (t.val % 33 % 2 = 1)
      · exfalso; omega
      · by_cases h3 : t.val < 66
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8_A t ((hcond0_0 t).mpr h0) ((hcond0_1 t).mpr h1) (fun h => h2 ((hcond0_2 t).mp h)) ((hcond0_3 t).mpr h3)], after0_8]
          by_cases hz : t.val = 0
          · rw [PhiS_castSucc m c t, PhiS_zero m c _ _ hz, PhiA0_eq]
            rw [outsAt0_A m c t h0 h1 h2 h3]
            unfold out0_A_8 sout0_A_0 sout0_A_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_A c (grid0.coords t) _ _ _ _ _ _ _ _ _ _ _ _ _ _ _ _ _ _ _ _ _ _ ((hcond0_0 t).mpr h0) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t)).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [HS0]; · iexact HS0
            isplitl [HS1]; · iexact HS1
            iintro ⟨H0, H1, H2, H3, H4, H5, H6, H7, ⟨%e8, H8⟩, ⟨%es0, HS0⟩, ⟨%es1, HS1⟩⟩
            isplitl [HS0 HS1 Hg]
            · isplitl [HS0 HS1]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _ _ _ _ _ _ _ _ _)
                unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _)
          · exfalso; have hN : t.val < 132 := lt_of_lt_of_eq t.isLt (show cfg0.N = 132 from N_0); omega
        · exfalso; omega
    · exfalso; omega
  · by_cases h1 : ¬(t.val % 33 % 2 = 1)
    · by_cases h2 : (t.val % 33 % 2 = 1)
      · exfalso; omega
      · by_cases h3 : t.val < 66
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1) (fun h => h2 ((hcond0_2 t).mp h)) ((hcond0_3 t).mpr h3)], after0_8]
          by_cases hz : t.val = 0
          · exfalso; have hN : t.val < 132 := lt_of_lt_of_eq t.isLt (show cfg0.N = 132 from N_0); omega
          · rw [PhiS_castSucc m c t, PhiS_pos m c _ _ hz]
            rw [outsAt0_C m c t h0 h1 h2 h3]
            unfold out0_C_8 sout0_C_0 sout0_C_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_C c (grid0.coords t) _ _ _ _ _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [HS0]; · iexists _; iexact HS0
            isplitl [HS1]; · iexact HS1
            iintro ⟨H0, H1, H2, H3, H4, H5, H6, H7, ⟨%e8, H8⟩, ⟨%es0, HS0⟩, HS1⟩
            isplitl [HS0 HS1 Hg]
            · isplitl [HS0 HS1]
              · isplitl [HS0]
                · unfold owns; iexists _; isplitr
                  swap; · iexact HS0
                  ipureintro; exact View.read_writes_of_cover _ _ _ _ _ (scover0_C_0 c _ _ _ _ _ _ _ _ _ _ _ _ _ _ _ _ _ _ _ _ _ _ _ _ _ _ _ _ _ _ _ _ _ _ _ _)
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8_D t (fun h => h0 ((hcond0_0 t).mp h)) ((hcond0_1 t).mpr h1) (fun h => h2 ((hcond0_2 t).mp h)) (fun h => h3 ((hcond0_3 t).mp h))], after0_8]
          by_cases hz : t.val = 0
          · exfalso; have hN : t.val < 132 := lt_of_lt_of_eq t.isLt (show cfg0.N = 132 from N_0); omega
          · rw [PhiS_castSucc m c t, PhiS_pos m c _ _ hz]
            rw [outsAt0_D m c t h0 h1 h2 h3]
            unfold out0_D_8 sout0_D_0 sout0_D_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_D c (grid0.coords t) _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [HS0]; · iexists _; iexact HS0
            isplitl [HS1]; · iexact HS1
            iintro ⟨H0, H1, H2, H3, H4, H5, H6, H7, ⟨%e8, H8⟩, ⟨%es0, HS0⟩, HS1⟩
            isplitl [HS0 HS1 Hg]
            · isplitl [HS0 HS1]
              · isplitl [HS0]
                · unfold owns; iexists _; isplitr
                  swap; · iexact HS0
                  ipureintro; exact View.read_writes_of_cover _ _ _ _ _ (scover0_D_0 c _ _ _ _ _ _ _ _ _ _ _ _ _ _ _ _ _ _ _ _ _ _ _ _ _ _ _ _ _ _ _ _ _ _ _ _)
                iexact HS1
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_D_8 c _ _ _ _ _ _ _ _ _ _ _ _ _ _ _ _ _ _ _ _ _ _ _ _ _ _ _ _ _ _ _ _ _ _ _ _)
    · by_cases h2 : (t.val % 33 % 2 = 1)
      · by_cases h3 : t.val < 66
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8_B t (fun h => h0 ((hcond0_0 t).mp h)) (fun h => h1 ((hcond0_1 t).mp h)) ((hcond0_2 t).mpr h2) ((hcond0_3 t).mpr h3)], after0_8]
          by_cases hz : t.val = 0
          · exfalso; have hN : t.val < 132 := lt_of_lt_of_eq t.isLt (show cfg0.N = 132 from N_0); omega
          · rw [PhiS_castSucc m c t, PhiS_pos m c _ _ hz]
            rw [outsAt0_B m c t h0 h1 h2 h3]
            unfold out0_B_8 sout0_B_0 sout0_B_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_B c (grid0.coords t) _ _ _ _ _ _ _ _ _ _ _ _ _ _ _ _ _ _ _ _ _ _ (fun h => h0 ((hcond0_0 t).mp h)) (fun h => h1 ((hcond0_1 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [HS0]; · iexact HS0
            isplitl [HS1]; · iexists _; iexact HS1
            iintro ⟨H0, H1, H2, H3, H4, H5, H6, H7, ⟨%e8, H8⟩, HS0, ⟨%es1, HS1⟩⟩
            isplitl [HS0 HS1 Hg]
            · isplitl [HS0 HS1]
              · isplitl [HS0]
                · iexact HS0
                unfold owns; iexists _; isplitr
                swap; · iexact HS1
                ipureintro; exact View.read_writes_of_cover _ _ _ _ _ (scover0_B_1 c _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _)
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8_E t (fun h => h0 ((hcond0_0 t).mp h)) (fun h => h1 ((hcond0_1 t).mp h)) ((hcond0_2 t).mpr h2) (fun h => h3 ((hcond0_3 t).mp h))], after0_8]
          by_cases hz : t.val = 0
          · exfalso; have hN : t.val < 132 := lt_of_lt_of_eq t.isLt (show cfg0.N = 132 from N_0); omega
          · rw [PhiS_castSucc m c t, PhiS_pos m c _ _ hz]
            rw [outsAt0_E m c t h0 h1 h2 h3]
            unfold out0_E_8 sout0_E_0 sout0_E_1; (try dsimp only)
            iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
            iapply ((kernelRun0_E c (grid0.coords t) _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) _).2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexists _; iexact H8
            isplitl [HS0]; · iexact HS0
            isplitl [HS1]; · iexists _; iexact HS1
            iintro ⟨H0, H1, H2, H3, H4, H5, H6, H7, ⟨%e8, H8⟩, HS0, ⟨%es1, HS1⟩⟩
            isplitl [HS0 HS1 Hg]
            · isplitl [HS0 HS1]
              · isplitl [HS0]
                · iexact HS0
                unfold owns; iexists _; isplitr
                swap; · iexact HS1
                ipureintro; exact View.read_writes_of_cover _ _ _ _ _ (scover0_E_1 c _ _ _ _ _ _ _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            unfold owns; iexists _; isplitr
            swap; · iexact H8
            ipureintro; exact View.read_writes_of_cover _ _ _ _ _ (cover0_E_8 c _ _ _ _ _ _ _ _ _ _ _ _ _ _ _ _ _ _ _ _ _ _ _ _ _ _ _ _ _ _ _ _ _ _ _ _)
      · exfalso; omega

/-- The body that the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body runs at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 132 := N_0; omega)

/-! ## The run and the frame -/

set_option backward.isDefEq.respectTransparency.types false in
/-- The program runs: its arrays end as the blocks written back leave them, and every counter ends at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the program ends with its arguments unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel4Ideal.Inproj

end
-- ==== Proof.Inproj.Pay.lean ====
/- What the body of the in-projection kernel computes, read at an index: a modulated row, an entry of the product, an entry of a
   turned head. -/
module

public import proofs.«01_k».proof.Proof.Gen.Kernel4Ideal.Skeleton
public import proofs.«01_k».proof.Proof.Mlp.Row

@[expose] public section
set_option maxRecDepth 16384
noncomputable section
namespace Cert.Kernel4Ideal.Inproj
open Idealize.ShloMosaic Idealize.ShloMosaic.TcCoe Idealize.SL.Sem
open Cert.Kernel4Ideal Cert.Kernel4Ideal.Gen
open _root_.Mlp

/-- The modulated rows. -/
theorem mod_at (g : FVec Ideal S1x2048 .f32) (sc sh : FVec Ideal S1x1x2048 .f32) (x : FVec Ideal S1x32x2048 .f32)
    (r : Fin 32) (d : Fin 2048) :
    k0_pay5 (F := Ideal) g sc sh x (ix2 r d) = modRow (fun k => x (ix3 0 r k)) (fun k => g (ix2 0 k)) (fun k => sc (ix3 0 0 k))
      (fun k => sh (ix3 0 0 k)) d := by
  unfold modRow normRow
  pointwise! [Gen.k0_pay5, Gen.k0_pay3, Gen.k0_pay4]

/-- The product of the modulated rows and a block of columns. -/
theorem prod_at (u : FVec Ideal S512x2048 .bf16) (w : FVec Ideal S2048x3328 .bf16) (r : Fin 512) (n : Fin 3328) :
    k0_pay80 (F := Ideal) u w (ix3 0 r n) = ∑ e : Fin 2048, u (ix2 r e) * w (ix2 e n) := by
  pointwise! [Gen.k0_pay80]

/-- A head turned by the three tables. -/
theorem turn_at (co sa sb : FVec Ideal S512x128 .f32) (a : FVec Ideal S1x512x128 .f32) (r : Fin 512) (l : Fin 128) :
    k0_pay1 (F := Ideal) co sa sb a (ix3 0 r l)
      = a (ix3 0 r l) * co (ix2 r l) + a (ix3 0 r ⟨(l.val + 32) % 128, Nat.mod_lt _ (by decide)⟩) * sa (ix2 r l)
        + a (ix3 0 r ⟨(l.val + 96) % 128, Nat.mod_lt _ (by decide)⟩) * sb (ix2 r l) := by
  pointwise! [Gen.k0_pay1]

end Cert.Kernel4Ideal.Inproj
-- ==== Proof.Inproj.Tiles.lean ====
/- What one point of the in-projection kernel stores, as functions of what it loads: 16 pieces of 32 modulated rows, and for the left
   half of the columns ten turned heads over the product. -/
module

public import Idealize.ShloMosaic.Lib.Pipeline.ValueKit
public import Idealize.ShloMosaic.Lib.Pipeline.ReadBack
public import Idealize.ShloMosaic.Lib.Ring
public import proofs.«01_k».proof.Proof.Inproj.Pay

@[expose] public section
set_option maxRecDepth 16384
noncomputable section
namespace Cert.Kernel4Ideal.Inproj
open Idealize.ShloMosaic Idealize.ShloMosaic.TcCoe Idealize.SL.Sem
open Cert.Kernel4Ideal Cert.Kernel4Ideal.Gen
open _root_.Mlp

section Rows
variable (g : FVec Ideal S1x2048 .f32) (sc sh : FVec Ideal S1x1x2048 .f32) (x : FVec Ideal S1x512x2048 .f32)

/-- The rows of the block, modulated. -/
def modBlock (y : S512x2048.Idx) : EReal :=
  modRow (fun k => x (ix3 0 (y 0) k)) (fun k => g (ix2 0 k)) (fun k => sc (ix3 0 0 k)) (fun k => sh (ix3 0 0 k)) (y 1)

theorem rows_in (k : Fin 16) (a : Fin 2) : (![32 * k.val, 0] : Fin 2 → ℕ) a + S32x2048.size a ≤ S512x2048.size a :=
  match a with
  | 0 => by show 32 * k.val + 32 ≤ 512; omega
  | 1 => by show 0 + 2048 ≤ 2048; omega

theorem source_in (k : Fin 16) (a : Fin 3) : (![0, 32 * k.val, 0] : Fin 3 → ℕ) a + S1x32x2048.size a ≤ S1x512x2048.size a :=
  match a with
  | 0 => by show 0 + 1 ≤ 1; omega
  | 1 => by show 32 * k.val + 32 ≤ 512; omega
  | 2 => by show 0 + 2048 ≤ 2048; omega

/-- Piece `k`: 32 modulated rows. -/
def rowPiece (k : Fin 16) : View.Piece (Elt Ideal) S512x2048 .bf16 :=
  ⟨Rect.unit (s := S512x2048) ![32 * k.val, 0] S32x2048.size (rows_in k),
    k0_pay5 (F := Ideal) g sc sh
      (View.ld (Val := Elt Ideal) (e' := .f32) x (Rect.unit (s := S1x512x2048) ![0, 32 * k.val, 0] S1x32x2048.size (source_in k)))⟩

/-- All 16 pieces, the last one stored first in the list. -/
def rowPieces : List (View.Piece (Elt Ideal) S512x2048 .bf16) :=
  [15, 14, 13, 12, 11, 10, 9, 8, 7, 6, 5, 4, 3, 2, 1, 0].map (rowPiece g sc sh x)

theorem rowPiece_mod (k : Fin 16) (z : (rowPiece g sc sh x k).1.shape.Idx) :
    (rowPiece g sc sh x k).2 z = modBlock g sc sh x ((rowPiece g sc sh x k).1.emb z) := by
  change S32x2048.Idx at z
  idx_vars z
  have hy : (rowPiece g sc sh x k).1.emb (ix2 z0 z1) = ix2 ⟨32 * k.val + z0.val, by omega⟩ z1 := by
    unfold rowPiece
    idx_ext
  have hl : ∀ d : Fin 2048, (Rect.unit (s := S1x512x2048) ![0, 32 * k.val, 0] S1x32x2048.size (source_in k)).emb (ix3 0 z0 d)
      = ix3 0 ⟨32 * k.val + z0.val, by omega⟩ d := by
    intro d
    idx_ext
  refine Eq.trans ?_ (congrArg (modBlock g sc sh x) hy).symm
  refine (mod_at _ _ _ _ z0 z1).trans ?_
  exact congrArg (fun f : Fin 2048 → EReal => modRow f (fun k => g (ix2 0 k)) (fun k => sc (ix3 0 0 k))
        (fun k => sh (ix3 0 0 k)) z1) (funext fun d => congrArg x (hl d))

/-- The 16 pieces make up the block of modulated rows. -/
theorem rows_canon : View.canon (rowPieces g sc sh x) = modBlock g sc sh x := by
  funext y
  refine View.canon_apply_of_pieces (Val := Elt Ideal) (e := .bf16) (modBlock g sc sh x) _ ?_ y ?_
  · intro p hp
    obtain ⟨k, -, rfl⟩ := List.mem_map.1 hp
    exact rowPiece_mod g sc sh x k
  · have h0 : (y 0).val < 512 := (y 0).isLt
    have h1 : (y 1).val < 2048 := (y 1).isLt
    refine ⟨rowPiece g sc sh x ⟨(y 0).val / 32, by omega⟩, List.mem_map.2 ⟨_, ?_, rfl⟩, (Rect.mem_set_unit (inb := rows_in _)).2 ?_⟩
    · generalize (⟨(y 0).val / 32, by omega⟩ : Fin 16) = k
      revert k
      decide
    · intro a
      match a with
      | 0 => exact ⟨by show 32 * ((y 0).val / 32) ≤ (y 0).val; omega, by show (y 0).val < 32 * ((y 0).val / 32) + 32; omega⟩
      | 1 => exact ⟨by show 0 ≤ (y 1).val; omega, by show (y 1).val < 0 + 2048; omega⟩

end Rows

section Heads
variable (co sa sb : FVec Ideal S512x128 .f32) (p : FVec Ideal S1x512x3328 .f32)

theorem head_in (k : Fin 10) (a : Fin 3) : (![0, 0, 128 * k.val] : Fin 3 → ℕ) a + S1x512x128.size a ≤ S1x512x3328.size a :=
  match a with
  | 0 => by show 0 + 1 ≤ 1; omega
  | 1 => by show 0 + 512 ≤ 512; omega
  | 2 => by show 128 * k.val + 128 ≤ 3328; omega

/-- Head `k`, turned by the three tables. -/
def headPiece (k : Fin 10) : View.Piece (Elt Ideal) S1x512x3328 .f32 :=
  ⟨Rect.unit (s := S1x512x3328) ![0, 0, 128 * k.val] S1x512x128.size (head_in k),
    k0_pay1 (F := Ideal) co sa sb
      (View.ld (Val := Elt Ideal) (e' := .f32) p (Rect.unit (s := S1x512x3328) ![0, 0, 128 * k.val] S1x512x128.size (head_in k)))⟩

/-- The ten heads, the last one stored first in the list. -/
def headPieces : List (View.Piece (Elt Ideal) S1x512x3328 .f32) := [9, 8, 7, 6, 5, 4, 3, 2, 1, 0].map (headPiece co sa sb p)

/-- Column `n` of a row `p` after its head is turned by the row's table entries. -/
def turned (p : Fin 3328 → EReal) (co sa sb : Fin 128 → EReal) (n : Fin 3328) (hn : n.val < 1280) : EReal :=
  p n * co ⟨n.val % 128, by omega⟩ + p ⟨n.val / 128 * 128 + (n.val % 128 + 32) % 128, by omega⟩ * sa ⟨n.val % 128, by omega⟩
    + p ⟨n.val / 128 * 128 + (n.val % 128 + 96) % 128, by omega⟩ * sb ⟨n.val % 128, by omega⟩

/-- The block with its first 1280 columns turned, head by head. -/
def turnedBlock (y : S1x512x3328.Idx) : EReal :=
  if h : (y 2).val < 1280 then
    turned (fun n => p (ix3 0 (y 1) n)) (fun l => co (ix2 (y 1) l)) (fun l => sa (ix2 (y 1) l)) (fun l => sb (ix2 (y 1) l)) (y 2) h
  else p y

theorem headPiece_turned (k : Fin 10) (z : (headPiece co sa sb p k).1.shape.Idx) :
    (headPiece co sa sb p k).2 z = turnedBlock co sa sb p ((headPiece co sa sb p k).1.emb z) := by
  change S1x512x128.Idx at z
  idx_vars z
  obtain rfl : z0 = 0 := Subsingleton.elim _ _
  have hl : ∀ l : Fin 128, (Rect.unit (s := S1x512x3328) ![0, 0, 128 * k.val] S1x512x128.size (head_in k)).emb (ix3 0 z1 l)
      = ix3 0 z1 ⟨128 * k.val + l.val, by omega⟩ := by
    intro l
    idx_ext
  refine Eq.trans ?_ (congrArg (turnedBlock co sa sb p) (hl z2)).symm
  refine (turn_at _ _ _ _ z1 z2).trans ?_
  have hn : 128 * k.val + z2.val < 1280 := by omega
  have e : (128 * k.val + z2.val) % 128 = z2.val := by omega
  have e' : (128 * k.val + z2.val) / 128 * 128 = 128 * k.val := by omega
  refine Eq.trans ?_ (dif_pos hn).symm
  show _ = turned (fun n => p (ix3 0 z1 n)) (fun l => co (ix2 z1 l)) (fun l => sa (ix2 z1 l)) (fun l => sb (ix2 z1 l))
    ⟨128 * k.val + z2.val, by omega⟩ hn
  unfold turned
  simp only [e, e']
  exact congrArg₂ (· + ·) (congrArg₂ (· + ·) (congrArg (fun i => p i * co (ix2 z1 z2)) (hl z2))
    (congrArg (fun i => p i * sa (ix2 z1 z2)) (hl _))) (congrArg (fun i => p i * sb (ix2 z1 z2)) (hl _))

/-- Stores that miss an index leave it as it was. -/
theorem canon_missed {s : Shape} {e : EltTy} (L' : List (View.Piece (Elt Ideal) s e)) (y : s.Idx) :
    ∀ L : List (View.Piece (Elt Ideal) s e), (∀ p ∈ L, y ∉ p.1.set) → View.canon (L ++ L') y = View.canon L' y
  | [], _ => rfl
  | p :: L, h => (View.canon_cons_of_not_mem p (L ++ L') (h p List.mem_cons_self)).trans
      (canon_missed L' y L fun q hq => h q (List.mem_cons_of_mem p hq))

/-- The ten turned heads over the product make up the block. -/
theorem heads_canon (inb) : View.canon (headPieces co sa sb p
      ++ [⟨Rect.unit (s := S1x512x3328) ![0, 0, 0] S1x512x3328.size inb, p⟩]) = turnedBlock co sa sb p := by
  funext y
  have h0 : (y 0).val < 1 := (y 0).isLt
  have h1 : (y 1).val < 512 := (y 1).isLt
  by_cases h : (y 2).val < 1280
  · refine View.canon_append_of_pieces (turnedBlock co sa sb p) _ (headPieces co sa sb p) ?_ y ?_
    · intro q hq
      obtain ⟨k, -, rfl⟩ := List.mem_map.1 hq
      exact headPiece_turned co sa sb p k
    · refine ⟨headPiece co sa sb p ⟨(y 2).val / 128, by omega⟩, List.mem_map.2 ⟨_, ?_, rfl⟩, (Rect.mem_set_unit (inb := head_in _)).2 ?_⟩
      · generalize (⟨(y 2).val / 128, by omega⟩ : Fin 10) = k
        revert k
        decide
      · intro a
        match a with
        | 0 => exact ⟨by show 0 ≤ (y 0).val; omega, by show (y 0).val < 0 + 1; omega⟩
        | 1 => exact ⟨by show 0 ≤ (y 1).val; omega, by show (y 1).val < 0 + 512; omega⟩
        | 2 => exact ⟨by show 128 * ((y 2).val / 128) ≤ (y 2).val; omega, by show (y 2).val < 128 * ((y 2).val / 128) + 128; omega⟩
  · rw [canon_missed]
    · unfold turnedBlock
      rw [dif_neg h]
      exact congrFun (View.canon_cons_unit_zero (Val := Elt Ideal) (e := .f32) (by decide) inb p []) y
    · intro q hq hm
      obtain ⟨k, -, rfl⟩ := List.mem_map.1 hq
      have h2 := ((Rect.mem_set_unit (inb := head_in _)).1 hm 2).2
      change (y 2).val < 128 * k.val + 128 at h2
      omega

variable (v : View sig .tc .vmem S1x512x3328 .f32)
  (inb : ∀ a : Fin S1x512x3328.rank, (![0, 0, 0] : Fin 3 → ℕ) a + S1x512x3328.size a ≤ S1x512x3328.size a)

/-- Head `k`, turned, where the head is read back from the block's view `v` after the whole product `p` was stored. -/
def readHead (k : Fin 10) : View.Piece (Elt Ideal) S1x512x3328 .f32 :=
  ⟨Rect.unit (s := S1x512x3328) ![0, 0, 128 * k.val] S1x512x128.size (head_in k),
    k0_pay1 (F := Ideal) co sa sb
      (v.readCov [⟨Rect.unit (s := S1x512x3328) ![0, 0, 0] S1x512x3328.size inb, p⟩]
        (Rect.unit (s := S1x512x3328) ![0, 0, 128 * k.val] S1x512x128.size (head_in k)).toLoadRect)⟩

theorem readHead_eq (k : Fin 10) : readHead co sa sb p v inb k = headPiece co sa sb p k :=
  congrArg (fun z => (⟨Rect.unit (s := S1x512x3328) ![0, 0, 128 * k.val] S1x512x128.size (head_in k), k0_pay1 (F := Ideal) co sa sb z⟩
      : View.Piece (Elt Ideal) S1x512x3328 .f32))
    (View.readCov_fill (Val := Elt Ideal) v inb p []
      (Rect.unit (s := S1x512x3328) ![0, 0, 128 * k.val] S1x512x128.size (head_in k)) (by decide))

/-- The same block, each head read back. -/
theorem heads_read : View.canon ([9, 8, 7, 6, 5, 4, 3, 2, 1, 0].map (readHead co sa sb p v inb)
      ++ [⟨Rect.unit (s := S1x512x3328) ![0, 0, 0] S1x512x3328.size inb, p⟩]) = turnedBlock co sa sb p := by
  rw [funext (readHead_eq co sa sb p v inb)]
  exact heads_canon co sa sb p inb

end Heads

/-- A row of the block of modulated rows against a block of columns. -/
def prodBlock (u : FVec Ideal S512x2048 .bf16) (w : FVec Ideal S2048x3328 .bf16) (y : S1x512x3328.Idx) : EReal :=
  ∑ e : Fin 2048, u (ix2 (y 1) e) * w (ix2 e (y 2))

theorem prod_eq (u : FVec Ideal S512x2048 .bf16) (w : FVec Ideal S2048x3328 .bf16) : k0_pay80 (F := Ideal) u w = prodBlock u w := by
  funext y
  idx_vars y
  obtain rfl : y0 = 0 := Subsingleton.elim _ _
  exact prod_at u w y1 y2

end Cert.Kernel4Ideal.Inproj
-- ==== Proof.Inproj.Points.lean ====
/- What each point of the in-projection kernel's grid leaves: the modulated rows in the scratch whose turn it is, and in the output
   block the product of the rows that the point before left. -/
module

public import proofs.«01_k».proof.Proof.Inproj.Frame
public import Idealize.ShloMosaic.Lib.Pipeline.ValueKit
public import proofs.«01_k».proof.Proof.Inproj.Tiles

@[expose] public section
set_option maxRecDepth 16384
noncomputable section
namespace Cert.Kernel4Ideal.Inproj
open Idealize.ShloMosaic Idealize.ShloMosaic.TcCoe Idealize.SL.Sem
open Cert.Kernel4Ideal Cert.Kernel4Ideal.Gen
open _root_.Mlp

variable (m : (ℓ : Loc nD τ sig) → Buf (Elt Ideal) ℓ) (c : Dev nD) (t : Fin cfg0.N)

/-- What the point before `t` left. -/
abbrev before : Vec Ideal S1x512x3328 .f32 × Vec Ideal S512x2048 .bf16 × Vec Ideal S512x2048 .bf16 :=
  outsAt0 m c (t.val - 1) (Nat.lt_of_le_of_lt (Nat.sub_le _ _) t.isLt)

/-- The modulated rows of the block that `t` reads. -/
abbrev rowsAt : S512x2048.Idx → EReal := modBlock (iblk m c 1 t) (iblk m c 2 t) (iblk m c 3 t) (iblk m c 0 t)

theorem ld_u (u : FVec Ideal S512x2048 .bf16) (inb) :
    View.ld (Val := Elt Ideal) (e' := .bf16) u (Rect.unit (s := S512x2048) ![0, 0] S512x2048.size inb) = u :=
  View.ld_unit_zero (Val := Elt Ideal) (e := .bf16) (by decide) inb u

theorem ld_w (u : FVec Ideal S2048x3328 .bf16) (inb) :
    View.ld (Val := Elt Ideal) (e' := .bf16) u (Rect.unit (s := S2048x3328) ![0, 0] S2048x3328.size inb) = u :=
  View.ld_unit_zero (Val := Elt Ideal) (e := .bf16) (by decide) inb u

theorem ld_row (u : FVec Ideal S1x2048 .f32) (inb) :
    View.ld (Val := Elt Ideal) (e' := .f32) u (Rect.unit (s := S1x2048) ![0, 0] S1x2048.size inb) = u :=
  View.ld_unit_zero (Val := Elt Ideal) (e := .f32) (by decide) inb u

theorem ld_vec (u : FVec Ideal S1x1x2048 .f32) (inb) :
    View.ld (Val := Elt Ideal) (e' := .f32) u (Rect.unit (s := S1x1x2048) ![0, 0, 0] S1x1x2048.size inb) = u :=
  View.ld_unit_zero (Val := Elt Ideal) (e := .f32) (by decide) inb u

theorem ld_table (u : FVec Ideal S512x128 .f32) (inb) :
    View.ld (Val := Elt Ideal) (e' := .f32) u (Rect.unit (s := S512x128) ![0, 0] S512x128.size inb) = u :=
  View.ld_unit_zero (Val := Elt Ideal) (e := .f32) (by decide) inb u

theorem mod_congr {g g' : FVec Ideal S1x2048 .f32} {sc sc' sh sh' : FVec Ideal S1x1x2048 .f32}
    (x : FVec Ideal S1x512x2048 .f32) (hg : g = g') (hc : sc = sc') (hh : sh = sh') :
    modBlock g sc sh x = modBlock g' sc' sh' x := by
  subst hg hc hh
  rfl

theorem prod_congr {u u' : FVec Ideal S512x2048 .bf16} {w w' : FVec Ideal S2048x3328 .bf16} (hu : u = u') (hw : w = w') :
    prodBlock u w = prodBlock u' w' := by
  subst hu hw
  rfl

theorem turned_congr {co co' sa sa' sb sb' : FVec Ideal S512x128 .f32} {p p' : FVec Ideal S1x512x3328 .f32}
    (hc : co = co') (ha : sa = sa') (hb : sb = sb') (hp : p = p') : turnedBlock co sa sb p = turnedBlock co' sa' sb' p' := by
  subst hc ha hb hp
  rfl

theorem same_a (u : FVec Ideal S512x128 .f32) : k0_pay63 u = u := by
  funext y
  idx_vars y
  pointwise [k0_pay63]

theorem same_b (u : FVec Ideal S512x128 .f32) : k0_pay64 u = u := same_a u

theorem same_c (u : FVec Ideal S512x128 .f32) : k0_pay65 u = u := same_a u

theorem scratch_A (h0 : t.val % 132 = 0) (h1 : ¬t.val % 33 % 2 = 1) (h3 : t.val < 66) :
    (outsAt0 m c t.val t.isLt).2.1 = rowsAt m c t := by
  rw [outsAt0_A m c t h0 h1 h1 h3]
  frame_open
  rw [View.read_writes_junk_eq_canon]
  simp only [View.readAt_eq_ld, (hs0_0 t).read_unread, (hs0_1 t).read_unread, (hs0_2 t).read_unread, (hs0_3 t).read_unread]
  refine (rows_canon _ _ _ (iblk m c 0 t)).trans ?_
  exact mod_congr (iblk m c 0 t) (ld_row (iblk m c 1 t) _) (ld_vec (iblk m c 2 t) _) (ld_vec (iblk m c 3 t) _)

theorem scratch_B (h0 : ¬t.val % 132 = 0) (h1 : t.val % 33 % 2 = 1) (h3 : t.val < 66) :
    (outsAt0 m c t.val t.isLt).2.2 = rowsAt m c t := by
  rw [outsAt0_B m c t h0 (not_not.2 h1) h1 h3]
  frame_open
  rw [View.read_writes_junk_eq_canon]
  simp only [View.readAt_eq_ld, (hs0_0 t).read_unread, (hs0_1 t).read_unread, (hs0_2 t).read_unread, (hs0_3 t).read_unread]
  refine (rows_canon _ _ _ (iblk m c 0 t)).trans ?_
  exact mod_congr (iblk m c 0 t) (ld_row (iblk m c 1 t) _) (ld_vec (iblk m c 2 t) _) (ld_vec (iblk m c 3 t) _)

theorem scratch_C (h0 : ¬t.val % 132 = 0) (h1 : ¬t.val % 33 % 2 = 1) (h3 : t.val < 66) :
    (outsAt0 m c t.val t.isLt).2.1 = rowsAt m c t := by
  rw [outsAt0_C m c t h0 h1 h1 h3]
  frame_open
  rw [View.read_writes_junk_eq_canon]
  simp only [View.readAt_eq_ld, (hs0_0 t).read_unread, (hs0_1 t).read_unread, (hs0_2 t).read_unread, (hs0_3 t).read_unread]
  refine (rows_canon _ _ _ (iblk m c 0 t)).trans ?_
  exact mod_congr (iblk m c 0 t) (ld_row (iblk m c 1 t) _) (ld_vec (iblk m c 2 t) _) (ld_vec (iblk m c 3 t) _)

theorem scratch_D (h0 : ¬t.val % 132 = 0) (h1 : ¬t.val % 33 % 2 = 1) (h3 : ¬t.val < 66) :
    (outsAt0 m c t.val t.isLt).2.1 = rowsAt m c t := by
  rw [outsAt0_D m c t h0 h1 h1 h3]
  frame_open
  rw [View.read_writes_junk_eq_canon]
  simp only [View.readAt_eq_ld, (hs0_0 t).read_unread, (hs0_1 t).read_unread, (hs0_2 t).read_unread, (hs0_3 t).read_unread]
  refine (rows_canon _ _ _ (iblk m c 0 t)).trans ?_
  exact mod_congr (iblk m c 0 t) (ld_row (iblk m c 1 t) _) (ld_vec (iblk m c 2 t) _) (ld_vec (iblk m c 3 t) _)

theorem scratch_E (h0 : ¬t.val % 132 = 0) (h1 : t.val % 33 % 2 = 1) (h3 : ¬t.val < 66) :
    (outsAt0 m c t.val t.isLt).2.2 = rowsAt m c t := by
  rw [outsAt0_E m c t h0 (not_not.2 h1) h1 h3]
  frame_open
  rw [View.read_writes_junk_eq_canon]
  simp only [View.readAt_eq_ld, (hs0_0 t).read_unread, (hs0_1 t).read_unread, (hs0_2 t).read_unread, (hs0_3 t).read_unread]
  refine (rows_canon _ _ _ (iblk m c 0 t)).trans ?_
  exact mod_congr (iblk m c 0 t) (ld_row (iblk m c 1 t) _) (ld_vec (iblk m c 2 t) _) (ld_vec (iblk m c 3 t) _)

theorem block_C (h0 : ¬t.val % 132 = 0) (h1 : ¬t.val % 33 % 2 = 1) (h3 : t.val < 66) :
    (outsAt0 m c t.val t.isLt).1
      = turnedBlock (iblk m c 5 t) (iblk m c 6 t) (iblk m c 7 t) (prodBlock (before m c t).2.2 (iblk m c 4 t)) := by
  unfold before
  rw [outsAt0_C m c t h0 h1 h1 h3]
  frame_open
  rw [View.read_writes_junk_eq_canon]
  simp only [View.readAt_eq_ld, (hs0_4 t).read_unread, (hs0_5 t).read_unread, (hs0_6 t).read_unread, (hs0_7 t).read_unread,
    (Memref.isWhole_whole _).read_unread]
  generalize outsAt0 m c (t.val - 1) (Nat.lt_of_le_of_lt (Nat.sub_le _ _) t.isLt) = p
  simp (disch := decide) only [↓View.readCov_skip]
  refine (heads_read (k0_pay63 (View.ld (iblk m c 5 t) (Rect.unit ![0, 0] S512x128.size inb_S512x128_S512x128_0_0)))
    (k0_pay64 (View.ld (iblk m c 6 t) (Rect.unit ![0, 0] S512x128.size inb_S512x128_S512x128_0_0)))
    (k0_pay65 (View.ld (iblk m c 7 t) (Rect.unit ![0, 0] S512x128.size inb_S512x128_S512x128_0_0)))
    (k0_pay80 (View.ld p.2.2 (Rect.unit ![0, 0] S512x2048.size inb_S512x2048_S512x2048_0_0))
      (View.ld (iblk m c 4 t) (Rect.unit ![0, 0] S2048x3328.size inb_S2048x3328_S2048x3328_0_0)))
    (ms0_8 t).view inb_S1x512x3328_S1x512x3328_0_0_0).trans ?_
  exact turned_congr ((same_a _).trans (ld_table (iblk m c 5 t) _)) ((same_b _).trans (ld_table (iblk m c 6 t) _))
    ((same_c _).trans (ld_table (iblk m c 7 t) _))
    ((prod_eq _ _).trans (prod_congr (ld_u p.2.2 _) (ld_w (iblk m c 4 t) _)))

theorem block_B (h0 : ¬t.val % 132 = 0) (h1 : t.val % 33 % 2 = 1) (h3 : t.val < 66) :
    (outsAt0 m c t.val t.isLt).1
      = turnedBlock (iblk m c 5 t) (iblk m c 6 t) (iblk m c 7 t) (prodBlock (before m c t).2.1 (iblk m c 4 t)) := by
  unfold before
  rw [outsAt0_B m c t h0 (not_not.2 h1) h1 h3]
  frame_open
  rw [View.read_writes_junk_eq_canon]
  simp only [View.readAt_eq_ld, (hs0_4 t).read_unread, (hs0_5 t).read_unread, (hs0_6 t).read_unread, (hs0_7 t).read_unread,
    (Memref.isWhole_whole _).read_unread]
  generalize outsAt0 m c (t.val - 1) (Nat.lt_of_le_of_lt (Nat.sub_le _ _) t.isLt) = p
  simp (disch := decide) only [↓View.readCov_skip]
  refine (heads_read (k0_pay63 (View.ld (iblk m c 5 t) (Rect.unit ![0, 0] S512x128.size inb_S512x128_S512x128_0_0)))
    (k0_pay64 (View.ld (iblk m c 6 t) (Rect.unit ![0, 0] S512x128.size inb_S512x128_S512x128_0_0)))
    (k0_pay65 (View.ld (iblk m c 7 t) (Rect.unit ![0, 0] S512x128.size inb_S512x128_S512x128_0_0)))
    (k0_pay80 (View.ld p.2.1 (Rect.unit ![0, 0] S512x2048.size inb_S512x2048_S512x2048_0_0))
      (View.ld (iblk m c 4 t) (Rect.unit ![0, 0] S2048x3328.size inb_S2048x3328_S2048x3328_0_0)))
    (ms0_8 t).view inb_S1x512x3328_S1x512x3328_0_0_0).trans ?_
  exact turned_congr ((same_a _).trans (ld_table (iblk m c 5 t) _)) ((same_b _).trans (ld_table (iblk m c 6 t) _))
    ((same_c _).trans (ld_table (iblk m c 7 t) _))
    ((prod_eq _ _).trans (prod_congr (ld_u p.2.1 _) (ld_w (iblk m c 4 t) _)))

theorem block_D (h0 : ¬t.val % 132 = 0) (h1 : ¬t.val % 33 % 2 = 1) (h3 : ¬t.val < 66) :
    (outsAt0 m c t.val t.isLt).1 = prodBlock (before m c t).2.2 (iblk m c 4 t) := by
  unfold before
  rw [outsAt0_D m c t h0 h1 h1 h3]
  frame_open
  rw [View.read_writes_junk_eq_canon]
  simp only [View.readAt_eq_ld, (hs0_4 t).read_unread, (Memref.isWhole_whole _).read_unread]
  generalize outsAt0 m c (t.val - 1) (Nat.lt_of_le_of_lt (Nat.sub_le _ _) t.isLt) = p
  refine (View.canon_cons_unit_zero (Val := Elt Ideal) (e := .f32) (by decide) _ _ []).trans ?_
  refine (prod_eq _ _).trans ?_
  exact prod_congr (ld_u p.2.2 _) (ld_w (iblk m c 4 t) _)

theorem block_E (h0 : ¬t.val % 132 = 0) (h1 : t.val % 33 % 2 = 1) (h3 : ¬t.val < 66) :
    (outsAt0 m c t.val t.isLt).1 = prodBlock (before m c t).2.1 (iblk m c 4 t) := by
  unfold before
  rw [outsAt0_E m c t h0 (not_not.2 h1) h1 h3]
  frame_open
  rw [View.read_writes_junk_eq_canon]
  simp only [View.readAt_eq_ld, (hs0_4 t).read_unread, (Memref.isWhole_whole _).read_unread]
  generalize outsAt0 m c (t.val - 1) (Nat.lt_of_le_of_lt (Nat.sub_le _ _) t.isLt) = p
  refine (View.canon_cons_unit_zero (Val := Elt Ideal) (e := .f32) (by decide) _ _ []).trans ?_
  refine (prod_eq _ _).trans ?_
  exact prod_congr (ld_u p.2.1 _) (ld_w (iblk m c 4 t) _)

/-- Which scratch `t` fills. -/
theorem scratch_even (h1 : ¬t.val % 33 % 2 = 1) : (outsAt0 m c t.val t.isLt).2.1 = rowsAt m c t := by
  have hN : t.val < 132 := lt_of_lt_of_eq t.isLt N_0
  by_cases h3 : t.val < 66
  · by_cases h0 : t.val % 132 = 0
    · exact scratch_A m c t h0 h1 h3
    · exact scratch_C m c t h0 h1 h3
  · exact scratch_D m c t (by omega) h1 h3

theorem scratch_odd (h1 : t.val % 33 % 2 = 1) : (outsAt0 m c t.val t.isLt).2.2 = rowsAt m c t := by
  by_cases h3 : t.val < 66
  · exact scratch_B m c t (by omega) h1 h3
  · exact scratch_E m c t (by omega) h1 h3

/-- The point before `t`. -/
abbrev prev : Fin cfg0.N := ⟨t.val - 1, Nat.lt_of_le_of_lt (Nat.sub_le _ _) t.isLt⟩

/-- A point of the left half of the columns stores the rows of the point before against the columns, its heads turned. -/
theorem block_left (h : ¬t.val % 33 = 0) (h3 : t.val < 66) : (outsAt0 m c t.val t.isLt).1
    = turnedBlock (iblk m c 5 t) (iblk m c 6 t) (iblk m c 7 t) (prodBlock (rowsAt m c (prev t)) (iblk m c 4 t)) := by
  have e : (t.val - 1) % 33 = t.val % 33 - 1 := by omega
  by_cases h1 : t.val % 33 % 2 = 1
  · rw [block_B m c t (by omega) h1 h3]
    refine turned_congr rfl rfl rfl (prod_congr ?_ rfl)
    exact scratch_even m c (prev t) (by show ¬(t.val - 1) % 33 % 2 = 1; rw [e]; omega)
  · rw [block_C m c t (by omega) h1 h3]
    refine turned_congr rfl rfl rfl (prod_congr ?_ rfl)
    exact scratch_odd m c (prev t) (by show (t.val - 1) % 33 % 2 = 1; rw [e]; omega)

/-- A point of the right half stores the product alone. -/
theorem block_right (h : ¬t.val % 33 = 0) (h3 : ¬t.val < 66) : (outsAt0 m c t.val t.isLt).1
    = prodBlock (rowsAt m c (prev t)) (iblk m c 4 t) := by
  have e : (t.val - 1) % 33 = t.val % 33 - 1 := by omega
  by_cases h1 : t.val % 33 % 2 = 1
  · rw [block_E m c t (by omega) h1 h3]
    exact prod_congr (scratch_even m c (prev t) (by show ¬(t.val - 1) % 33 % 2 = 1; rw [e]; omega)) rfl
  · rw [block_D m c t (by omega) h1 h3]
    exact prod_congr (scratch_odd m c (prev t) (by show (t.val - 1) % 33 % 2 = 1; rw [e]; omega)) rfl

end Cert.Kernel4Ideal.Inproj
-- ==== Proof.Inproj.Reads.lean ====
/- What the in-projection kernel's windows read at a point of its grid, in terms of the argument arrays and the tables. -/
module

public import proofs.«01_k».proof.Proof.Gen.Kernel4Ideal.Frame
public import Idealize.ShloMosaic.Lib.Pipeline.ValueKit
public import Idealize.ShloMosaic.Lib.Claim

@[expose] public section
set_option maxRecDepth 16384
noncomputable section
namespace Cert.Kernel4Ideal.Inproj
open Idealize.ShloMosaic Idealize.ShloMosaic.TcCoe Idealize.SL.Sem
open Cert.Kernel4Ideal Cert.Kernel4Ideal.Gen

variable (m : (ℓ : Loc nD τ sig) → Buf (Elt Ideal) ℓ)

theorem idx : ∀ t : Fin cfg0.N, win0_0.index t = ![t.val / 33 % 2, min (t.val % 33) 31, 0] ∧ win0_1.index t = ![0, 0]
    ∧ win0_2.index t = ![t.val / 33 % 2, 0, 0] ∧ win0_3.index t = ![t.val / 33 % 2, 0, 0] ∧ win0_4.index t = ![0, t.val / 66]
    ∧ win0_5.index t = ![t.val % 33 - 1, 0] ∧ win0_6.index t = ![t.val % 33 - 1, 0] ∧ win0_7.index t = ![t.val % 33 - 1, 0]
    ∧ win0_8.index t = ![t.val / 33 % 2, t.val % 33 - 1, t.val / 66] :=
  (by decide +kernel : ∀ t : Fin grid0.N, _)

section Blocks
variable (c : Dev nD) (t : Fin cfg0.N)

theorem blk0 (b : Fin 2) (i : Fin 32) (hb : t.val / 33 % 2 = b.val) (hi : min (t.val % 33) 31 = i.val) (r : Fin 512) (d : Fin 2048) :
    (iblk m c 0 t : FVec Ideal S1x512x2048 .f32) (ix3 0 r d)
    = m ((c : Thread nD τ).loc main_arg0) (ix3 b ⟨i.val * 512 + r.val, by omega⟩ d) := by
  have e := idx t
  rw [hb, hi] at e
  blk_ext [iblk, V, e]

theorem blk1 (d : Fin 2048) :
    (iblk m c 1 t : FVec Ideal S1x2048 .f32) (ix2 0 d) = m ((c : Thread nD τ).loc main_arg1) (ix1 d) := by
  have e : V m c main_v0 = shapeCast _ (m ((c : Thread nD τ).loc main_arg1)) shapeCasts_S2048_S1x2048 := by
    entry_read
    rfl
  have e' := idx t
  refine Eq.trans (b := (V m c main_v0 : FVec Ideal S1x2048 .f32) (ix2 0 d)) ?_ ?_
  · blk_ext [iblk, e']
  · rw [e]
    pointwise

theorem blk2 (b : Fin 2) (hb : t.val / 33 % 2 = b.val) (d : Fin 2048) :
    (iblk m c 2 t : FVec Ideal S1x1x2048 .f32) (ix3 0 0 d) = m ((c : Thread nD τ).loc main_arg2) (ix3 b 0 d) := by
  have e := idx t
  rw [hb] at e
  blk_ext [iblk, V, e]

theorem blk3 (b : Fin 2) (hb : t.val / 33 % 2 = b.val) (d : Fin 2048) :
    (iblk m c 3 t : FVec Ideal S1x1x2048 .f32) (ix3 0 0 d) = m ((c : Thread nD τ).loc main_arg3) (ix3 b 0 d) := by
  have e := idx t
  rw [hb] at e
  blk_ext [iblk, V, e]

theorem blk4 (j : Fin 2) (hj : t.val / 66 = j.val) (d : Fin 2048) (n : Fin 3328) :
    (iblk m c 4 t : FVec Ideal S2048x3328 .bf16) (ix2 d n)
    = m ((c : Thread nD τ).loc main_arg4) (ix2 d ⟨j.val * 3328 + n.val, by omega⟩) := by
  have e : V m c main_v1 = truncf (F := Ideal) .bf16 (m ((c : Thread nD τ).loc main_arg4)) bitsLt_bf16_f32 := by
    entry_read
    rfl
  have e' := idx t
  rw [hj] at e'
  refine Eq.trans (b := (V m c main_v1 : FVec Ideal S2048x6656 .bf16) (ix2 d ⟨j.val * 3328 + n.val, by omega⟩)) ?_ ?_
  · blk_ext [iblk, e']
  · rw [e]
    pointwise

section Tables
variable (i : Fin 32) (hi : t.val % 33 - 1 = i.val) (r : Fin 512) (l : Fin 128)
include hi

theorem blk5 : (iblk m c 5 t : FVec Ideal S512x128 .f32) (ix2 r l)
    = (V m c main_v31 : FVec Ideal S16384x128 .f32) (ix2 ⟨i.val * 512 + r.val, by omega⟩ l) := by
  have e := idx t
  rw [hi] at e
  blk_ext [iblk, e]

theorem blk6 : (iblk m c 6 t : FVec Ideal S512x128 .f32) (ix2 r l)
    = (V m c main_v38 : FVec Ideal S16384x128 .f32) (ix2 ⟨i.val * 512 + r.val, by omega⟩ l) := by
  have e := idx t
  rw [hi] at e
  blk_ext [iblk, e]

theorem blk7 : (iblk m c 7 t : FVec Ideal S512x128 .f32) (ix2 r l)
    = (V m c main_v39 : FVec Ideal S16384x128 .f32) (ix2 ⟨i.val * 512 + r.val, by omega⟩ l) := by
  have e := idx t
  rw [hi] at e
  blk_ext [iblk, e]

end Tables

end Blocks

end Cert.Kernel4Ideal.Inproj
-- ==== Proof.Inproj.Tables.lean ====
/- The tables of the in-projection kernel, read at an index: the cosines, and the sines with their signs, of the row's place on the
   grid at the lane's frequency. -/
module

public import proofs.«01_k».proof.Proof.Inproj.Reads
public import Idealize.ShloMosaic.Lib.Pointwise
public import Idealize.ShloMosaic.Lib.StableHlo.RunRead

@[expose] public section
set_option maxRecDepth 16384
noncomputable section
namespace Cert.Kernel4Ideal.Inproj
open Idealize.ShloMosaic Idealize.ShloMosaic.TcCoe Idealize.SL.Sem
open Cert.Kernel4Ideal Cert.Kernel4Ideal.Gen

/-- A scalar word at every place. -/
def places (k : BitVec 32) : IVec S16384 32 := broadcastInDim S16384 ![] bcast_S_S16384 (constantI S_ 32 k)

/-- A scalar word at every lane. -/
def lanes (k : BitVec 32) : IVec S128 32 := broadcastInDim S128 ![] bcast_S_S128 (constantI S_ 32 k)

/-- Every place divided by 64, rounded down. -/
def rowWord : IVec S16384 32 :=
  select (andi (cmpi .ne (signi (iotaInDim S16384 32 0)) (broadcastInDim S16384 ![] bcast_S_S16384 (signi (constantI S_ 32 64#32))))
      (cmpi .ne (Host.remsi (iotaInDim S16384 32 0) (places 64#32)) (places 0#32)))
    (subi (Host.divsi (iotaInDim S16384 32 0) (places 64#32)) (places 1#32))
    (Host.divsi (iotaInDim S16384 32 0) (places 64#32))

/-- The divisor `k`, or one if it is zero. -/
def divisor (k : BitVec 32) : IVec S_ 32 :=
  select (cmpi .eq (constantI S_ 32 k) (constantI S_ 32 0#32)) (constantI S_ 32 1#32) (constantI S_ 32 k)

/-- The remainder of every place after division by 64. -/
def colWord : IVec S16384 32 :=
  select (andi (cmpi .ne
        (cmpi .slt (Host.remsi (iotaInDim S16384 32 0) (broadcastInDim S16384 ![] bcast_S_S16384 (divisor 64#32))) (places 0#32))
        (broadcastInDim S16384 ![] bcast_S_S16384 (cmpi .slt (divisor 64#32) (constantI S_ 32 0#32))))
      (cmpi .ne (Host.remsi (iotaInDim S16384 32 0) (broadcastInDim S16384 ![] bcast_S_S16384 (divisor 64#32))) (places 0#32)))
    (addi (Host.remsi (iotaInDim S16384 32 0) (broadcastInDim S16384 ![] bcast_S_S16384 (divisor 64#32)))
      (broadcastInDim S16384 ![] bcast_S_S16384 (divisor 64#32)))
    (Host.remsi (iotaInDim S16384 32 0) (broadcastInDim S16384 ![] bcast_S_S16384 (divisor 64#32)))

/-- The remainder of every lane after division by `k`. -/
def laneWord (k : BitVec 32) : IVec S128 32 :=
  select (andi (cmpi .ne
        (cmpi .slt (Host.remsi (iotaInDim S128 32 0) (broadcastInDim S128 ![] bcast_S_S128 (divisor k))) (lanes 0#32))
        (broadcastInDim S128 ![] bcast_S_S128 (cmpi .slt (divisor k) (constantI S_ 32 0#32))))
      (cmpi .ne (Host.remsi (iotaInDim S128 32 0) (broadcastInDim S128 ![] bcast_S_S128 (divisor k))) (lanes 0#32)))
    (addi (Host.remsi (iotaInDim S128 32 0) (broadcastInDim S128 ![] bcast_S_S128 (divisor k)))
      (broadcastInDim S128 ![] bcast_S_S128 (divisor k)))
    (Host.remsi (iotaInDim S128 32 0) (broadcastInDim S128 ![] bcast_S_S128 (divisor k)))

/-- The 32 frequencies. -/
def freq : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- Each lane's frequency. -/
def laneFreq : FVec Ideal S128 .f32 :=
  Host.gather gather_S32_S128x1_S128_n_0_n_n_0_1_1 freq (broadcastInDim S128x1 ![0] bcast_S128_S128x1_0
    (select (cmpi .slt (laneWord 32#32) (lanes 0#32)) (addi (laneWord 32#32) (lanes 32#32)) (laneWord 32#32)))

/-- The position that turns each lane: the row's in the first half of a head, the column's in the second. -/
def position : FVec Ideal S16384x128 .f32 :=
  select (broadcastInDim S16384x128 ![0, 1] bcast_S1x128_S16384x128_0_1 (broadcastInDim S1x128 ![1] bcast_S128_S1x128_1
      (cmpi .slt (iotaInDim S128 32 0) (lanes 64#32))))
    (broadcastInDim S16384x128 ![0, 1] bcast_S16384x1_S16384x128_0_1 (broadcastInDim S16384x1 ![0] bcast_S16384_S16384x1_0
      (sitofp .f32 rowWord : FVec Ideal S16384 .f32)))
    (broadcastInDim S16384x128 ![0, 1] bcast_S16384x1_S16384x128_0_1 (broadcastInDim S16384x1 ![0] bcast_S16384_S16384x1_0
      (sitofp .f32 colWord : FVec Ideal S16384 .f32)))

/-- The angle of each place and lane. -/
def laneAngle : FVec Ideal S16384x128 .f32 :=
  mulf position (broadcastInDim S16384x128 ![0, 1] bcast_S1x128_S16384x128_0_1
    (broadcastInDim S1x128 ![1] bcast_S128_S1x128_1 laneFreq))

/-- Which lanes lie in the first half of a part. -/
def firstHalf : IVec S16384x128 1 :=
  broadcastInDim S16384x128 ![0, 1] bcast_S1x128_S16384x128_0_1
    (broadcastInDim S1x128 ![1] bcast_S128_S1x128_1 (cmpi .slt (laneWord 64#32) (lanes 32#32)))

/-- Zero everywhere. -/
def none : FVec Ideal S16384x128 .f32 := broadcastInDim S16384x128 ![] bcast_S_S16384x128 (constant S_ .f32 0x00000000#32)

variable (m : (ℓ : Loc nD τ sig) → Buf (Elt Ideal) ℓ) (c : Dev nD)

theorem cosTable : V m c main_v31 = Host.cos laneAngle := by
  simp only [V]
  after_reads_simp
  rfl

theorem sinTableA : V m c main_v38 = select firstHalf (Host.negf (Host.sin laneAngle)) none := by
  simp only [V]
  after_reads_simp
  change select (_ : IVec S16384x128 1) (_ : FVec Ideal S16384x128 .f32) _ = _
  refine congr (congr (congrArg select ?_) ?_) ?_
  · rfl
  · refine congrArg (fun a : FVec Ideal S16384x128 .f32 => Host.negf (Host.sin a)) ?_
    rfl
  · rfl

theorem sinTableB : V m c main_v39 = select firstHalf none (Host.sin laneAngle) := by
  simp only [V]
  after_reads_simp
  change select (_ : IVec S16384x128 1) (_ : FVec Ideal S16384x128 .f32) _ = _
  refine congr (congr (congrArg select ?_) ?_) ?_
  · rfl
  · rfl
  · refine congrArg (fun a : FVec Ideal S16384x128 .f32 => Host.sin a) ?_
    rfl

end Cert.Kernel4Ideal.Inproj
-- ==== Proof.Inproj.Words.lean ====
/- The whole-number tables of the in-projection kernel, read at an index. -/
module

public import proofs.«01_k».proof.Proof.Inproj.Tables

@[expose] public section
set_option maxRecDepth 16384
noncomputable section
namespace Cert.Kernel4Ideal.Inproj
open Idealize.ShloMosaic Idealize.ShloMosaic.TcCoe Idealize.SL.Sem
open Cert.Kernel4Ideal Cert.Kernel4Ideal.Gen

theorem rowWord_at (s : Fin 16384) : rowWord (ix1 s) = BitVec.ofNat 32 (s.val / 64) := by
  pointwise [rowWord, places]
  revert s
  decide +kernel

theorem colWord_at (s : Fin 16384) : colWord (ix1 s) = BitVec.ofNat 32 (s.val % 64) := by
  pointwise [colWord, places, divisor]
  revert s
  decide +kernel

theorem laneWord_32 (l : Fin 128) : laneWord 32#32 (ix1 l) = BitVec.ofNat 32 (l.val % 32) := by
  pointwise [laneWord, lanes, divisor]
  revert l
  decide +kernel

theorem laneWord_64 (l : Fin 128) : laneWord 64#32 (ix1 l) = BitVec.ofNat 32 (l.val % 64) := by
  pointwise [laneWord, lanes, divisor]
  revert l
  decide +kernel

/-- The lanes' frequencies are taken from the 32 at the lane's number modulo 32. -/
theorem laneFreq_at (l : Fin 128) : laneFreq (ix1 l) = freq (ix1 ⟨l.val % 32, by omega⟩) := by
  have hl : (broadcastInDim S128x1 ![0] bcast_S128_S128x1_0 (select (cmpi .slt (laneWord 32#32) (lanes 0#32))
      (addi (laneWord 32#32) (lanes 32#32)) (laneWord 32#32)) (ix2 l 0)).toInt.toNat = l.val % 32 := by
    pointwise [lanes]
    rw [laneWord_32]
    revert l
    decide +kernel
  unfold laneFreq Host.gather
  congr 1
  funext a
  obtain rfl : a = 0 := Subsingleton.elim _ _
  refine Fin.ext ?_
  show gather_S32_S128x1_S128_n_0_n_n_0_1_1.start (ix1 l) _ 0 + gather_S32_S128x1_S128_n_0_n_n_0_1_1.batchCoord (ix1 l) 0
    + gather_S32_S128x1_S128_n_0_n_n_0_1_1.offCoord (ix1 l) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S32_S128x1_S128_n_0_n_n_0_1_1.startIndexMap from List.mem_singleton.mpr rfl)]
  have hs : gather_S32_S128x1_S128_n_0_n_n_0_1_1.siIdx (ix1 l)
      ⟨List.idxOf (0 : Fin 1) gather_S32_S128x1_S128_n_0_n_n_0_1_1.startIndexMap,
        List.idxOf_lt_length_iff.2 (List.mem_singleton.mpr rfl)⟩ = ix2 l 0 := by
    funext b
    refine Fin.ext ?_
    match b with
    | ⟨0, _⟩ => rfl
    | ⟨1, _⟩ => rfl
  rw [hs, hl]
  show min (l.val % 32) (32 - 1) + 0 + 0 = l.val % 32
  omega

theorem firstHalf_at (s : Fin 16384) (l : Fin 128) : firstHalf (ix2 s l) = if l.val % 64 < 32 then 1#1 else 0#1 := by
  pointwise [firstHalf, lanes]
  rw [laneWord_64]
  revert l
  decide +kernel

theorem firstPart_at (l : Fin 128) : cmpi .slt (iotaInDim S128 32 0) (lanes 64#32) (ix1 l) = if l.val < 64 then 1#1 else 0#1 := by
  pointwise [lanes]
  revert l
  decide +kernel

end Cert.Kernel4Ideal.Inproj
-- ==== Proof.Inproj.Ref.lean ====
/- The plain in-projection's result, read at an index: the modulated row times the weights, with the query and key heads turned by
   the angles of the row's place on the grid. -/
module

public import proofs.«01_k».proof.Proof.Gen.Reference4Ideal.Run
public import Idealize.ShloMosaic.Lib.Pointwise
public import proofs.«01_k».proof.Proof.Mid.Ref

@[expose] public section
set_option maxRecDepth 16384
noncomputable section
namespace Cert.Reference4Ideal.Inproj
open Idealize.ShloMosaic Idealize.ShloMosaic.TcCoe Idealize.SL.Sem
open Cert.Reference4Ideal Cert.Reference4Ideal.Gen Cert.Reference4Ideal.Value
open Cert.Reference3Ideal.Mlp (normed modulated)

/-- The row of the grid that each place lies in. -/
def rowOf : IVec S16384 32 :=
  shapeCast _ (broadcastInDim S256x64 ![0] bcast_S256_S256x64_0 (iotaInDim S256 32 0)) shapeCasts_S256x64_S16384

/-- The column of the grid that each place lies in. -/
def colOf : IVec S16384 32 :=
  shapeCast _ (broadcastInDim S256x64 ![0, 1] bcast_S1x64_S256x64_0_1 (shapeCast _ (iotaInDim S64 32 0) shapeCasts_S64_S1x64))
    shapeCasts_S256x64_S16384

/-- The 32 frequencies. -/
def freq : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- Every position times every frequency. -/
def angles (pos : IVec S16384 32) : FVec Ideal S16384x32 .f32 :=
  mulf (broadcastInDim S16384x32 ![0, 1] bcast_S16384x1_S16384x32_0_1 (broadcastInDim S16384x1 ![0] bcast_S16384_S16384x1_0
      (sitofp .f32 pos : FVec Ideal S16384 .f32)))
    (broadcastInDim S16384x32 ![0, 1] bcast_S1x32_S16384x32_0_1 (broadcastInDim S1x32 ![1] bcast_S32_S1x32_1 freq))

/-- A table of angles' cosines or sines, for every batch and head. -/
def spread (a : FVec Ideal S16384x32 .f32) : FVec Ideal S2x16384x10x32 .f32 :=
  broadcastInDim S2x16384x10x32 ![0, 1, 2, 3] bcast_S1x16384x1x32_S2x16384x10x32_0_1_2_3
    (broadcastInDim S1x16384x1x32 ![1, 3] bcast_S16384x32_S1x16384x1x32_1_3 a)

/-- The halves of every head's part `p`, turned by the angles `a`. -/
def turn (a : FVec Ideal S16384x32 .f32) (p : FVec Ideal S2x16384x10x64 .f32) : FVec Ideal S2x16384x10x64 .f32 :=
  concatenate S2x16384x10x64 3
    [⟨S2x16384x10x32, subf
      (mulf (extractStridedSlice S2x16384x10x32 ![0, 0, 0, 0] p slices_S2x16384x10x64_S2x16384x10x32_0_0_0_0) (spread (Host.cos a)))
      (mulf (extractStridedSlice S2x16384x10x32 ![0, 0, 0, 32] p slices_S2x16384x10x64_S2x16384x10x32_0_0_0_32) (spread (Host.sin a)))⟩,
     ⟨S2x16384x10x32, addf
      (mulf (extractStridedSlice S2x16384x10x32 ![0, 0, 0, 32] p slices_S2x16384x10x64_S2x16384x10x32_0_0_0_32) (spread (Host.cos a)))
      (mulf (extractStridedSlice S2x16384x10x32 ![0, 0, 0, 0] p slices_S2x16384x10x64_S2x16384x10x32_0_0_0_0) (spread (Host.sin a)))⟩]
    concatenates_S2x16384x10x32_S2x16384x10x32_S2x16384x10x64_d3

/-- The product. -/
def product (u : FVec Ideal S2x16384x2048 .f32) (w : FVec Ideal S2048x6656 .f32) : FVec Ideal S2x16384x6656 .f32 :=
  Host.dotGeneral dot_S2x16384x2048_S2048x6656_S2x16384x6656_2_0_01_1_n_n none u w

/-- The query and key heads of the product. -/
def heads (p : FVec Ideal S2x16384x6656 .f32) : FVec Ideal S2x16384x10x128 .f32 :=
  shapeCast _ (extractStridedSlice S2x16384x1280 ![0, 0, 0] p slices_S2x16384x6656_S2x16384x1280_0_0_0)
    shapeCasts_S2x16384x1280_S2x16384x10x128

/-- The heads, the first half of each turned by the row and the second by the column. -/
def turnedHeads (h : FVec Ideal S2x16384x10x128 .f32) : FVec Ideal S2x16384x10x128 .f32 :=
  concatenate S2x16384x10x128 3
    [⟨S2x16384x10x64, turn (angles rowOf)
      (extractStridedSlice S2x16384x10x64 ![0, 0, 0, 0] h slices_S2x16384x10x128_S2x16384x10x64_0_0_0_0)⟩,
     ⟨S2x16384x10x64, turn (angles colOf)
      (extractStridedSlice S2x16384x10x64 ![0, 0, 0, 64] h slices_S2x16384x10x128_S2x16384x10x64_0_0_0_64)⟩]
    concatenates_S2x16384x10x64_S2x16384x10x64_S2x16384x10x128_d3

/-- The product with its query and key heads turned. -/
def joined (p : FVec Ideal S2x16384x6656 .f32) : FVec Ideal S2x16384x6656 .f32 :=
  concatenate S2x16384x6656 2
    [⟨S2x16384x1280, shapeCast _ (turnedHeads (heads p)) shapeCasts_S2x16384x10x128_S2x16384x1280⟩,
     ⟨S2x16384x5376, extractStridedSlice S2x16384x5376 ![0, 0, 1280] p slices_S2x16384x6656_S2x16384x5376_0_0_1280⟩]
    concatenates_S2x16384x1280_S2x16384x5376_S2x16384x6656_d2

/-- The result in these steps. -/
def result (m : (ℓ : Loc nD τ sig) → Buf (Elt Ideal) ℓ) (c : Dev nD) : FVec Ideal S2x16384x6656 .f32 :=
  joined (product (modulated (normed (m ((c : Thread nD τ).loc main_arg0)) (m ((c : Thread nD τ).loc main_arg1)))
      (m ((c : Thread nD τ).loc main_arg2)) (m ((c : Thread nD τ).loc main_arg3))) (m ((c : Thread nD τ).loc main_arg4)))

/-- The program ends with it, its arguments unchanged. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v86) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans rfl, (h c).2⟩) (run (F := Ideal) m ρ)

theorem product_at (u : FVec Ideal S2x16384x2048 .f32) (w : FVec Ideal S2048x6656 .f32) (b : Fin 2) (s : Fin 16384) (n : Fin 6656) :
    product u w (ix3 b s n) = ∑ e : Fin 2048, u (ix3 b s e) * w (ix2 e n) := by
  pointwise [product]

theorem rowOf_at (s : Fin 16384) : rowOf (ix1 s) = BitVec.ofNat 32 (s.val / 64) := by
  pointwise! [rowOf]

theorem colOf_at (s : Fin 16384) : colOf (ix1 s) = BitVec.ofNat 32 (s.val % 64) := by
  pointwise! [colOf]

/-- The frequency number `k`, with the base and the divisor as the programs write them. -/
def freqAt (k : Fin 32) : EReal :=
  Ideal.pow (Ideal.ofBits .f32 0x461C4000#32) (Ideal.div (-(((BitVec.ofNat 32 k.val).toInt : ℝ) : EReal)) (Ideal.ofBits .f32 0x42000000#32))

/-- The angle of position `p` at frequency `k`. -/
def angle (p : BitVec 32) (k : Fin 32) : EReal := ((p.toInt : ℝ) : EReal) * freqAt k

theorem angles_at (pos : IVec S16384 32) (s : Fin 16384) (k : Fin 32) : angles pos (ix2 s k) = angle (pos (ix1 s)) k := by
  unfold angle freqAt
  pointwise! [angles, freq]

/-- The part `p` of a head turned by the angles `a`, at lane `l`. -/
def turnAt (a : Fin 32 → EReal) (p : Fin 64 → EReal) (l : Fin 64) : EReal :=
  if h : l.val < 32 then p l * Ideal.cos (a ⟨l.val, h⟩) - p ⟨32 + l.val, by omega⟩ * Ideal.sin (a ⟨l.val, h⟩)
  else p l * Ideal.cos (a ⟨l.val - 32, by omega⟩) + p ⟨l.val - 32, by omega⟩ * Ideal.sin (a ⟨l.val - 32, by omega⟩)

theorem turn_at (a : FVec Ideal S16384x32 .f32) (p : FVec Ideal S2x16384x10x64 .f32) (b : Fin 2) (s : Fin 16384) (h : Fin 10) (l : Fin 64) :
    turn a p (ix4 b s h l) = turnAt (fun k => a (ix2 s k)) (fun l => p (ix4 b s h l)) l := by
  pointwise [turn, spread]
  unfold turnAt
  split
  · rfl
  · have e : 32 + (l.val - 32) = l.val := by omega
    simp only [e]

theorem part_lo (p : FVec Ideal S2x16384x6656 .f32) (b : Fin 2) (s : Fin 16384) (h : Fin 10) (l : Fin 64) :
    extractStridedSlice S2x16384x10x64 ![0, 0, 0, 0] (heads p) slices_S2x16384x10x128_S2x16384x10x64_0_0_0_0 (ix4 b s h l)
      = p (ix3 b s ⟨h.val * 128 + l.val, by omega⟩) := by
  pointwise! [heads]

theorem part_hi (p : FVec Ideal S2x16384x6656 .f32) (b : Fin 2) (s : Fin 16384) (h : Fin 10) (l : Fin 64) :
    extractStridedSlice S2x16384x10x64 ![0, 0, 0, 64] (heads p) slices_S2x16384x10x128_S2x16384x10x64_0_0_0_64 (ix4 b s h l)
      = p (ix3 b s ⟨h.val * 128 + (64 + l.val), by omega⟩) := by
  pointwise! [heads]

theorem turnedHeads_at (p : FVec Ideal S2x16384x6656 .f32) (b : Fin 2) (s : Fin 16384) (h : Fin 10) (l : Fin 128) :
    turnedHeads (heads p) (ix4 b s h l) = if hl : l.val < 64 then
        turnAt (angle (BitVec.ofNat 32 (s.val / 64))) (fun l => p (ix3 b s ⟨h.val * 128 + l.val, by omega⟩)) ⟨l.val, hl⟩
      else turnAt (angle (BitVec.ofNat 32 (s.val % 64))) (fun l => p (ix3 b s ⟨h.val * 128 + (64 + l.val), by omega⟩))
        ⟨l.val - 64, by omega⟩ := by
  pointwise [turnedHeads]
  split
  · rw [turn_at]
    simp only [angles_at, rowOf_at, part_lo]
  · rw [turn_at]
    simp only [angles_at, colOf_at, part_hi]

theorem joined_lo (p : FVec Ideal S2x16384x6656 .f32) (b : Fin 2) (s : Fin 16384) (n : Fin 6656) (h : n.val < 1280) :
    joined p (ix3 b s n) = turnedHeads (heads p) (ix4 b s ⟨n.val / 128, by omega⟩ ⟨n.val % 128, by omega⟩) := by
  generalize e : turnedHeads (heads p) = q
  pointwise [joined]
  rw [dif_pos h, e]

theorem joined_hi (p : FVec Ideal S2x16384x6656 .f32) (b : Fin 2) (s : Fin 16384) (n : Fin 6656) (h : ¬n.val < 1280) :
    joined p (ix3 b s n) = p (ix3 b s n) := by
  have e : 1280 + (n.val - 1280) = n.val := by omega
  pointwise [joined]
  rw [dif_neg h]
  simp only [e]

end Cert.Reference4Ideal.Inproj
-- ==== Proof.Inproj.Values.lean ====
/- The float tables of the in-projection kernel, read at an index: the cosine of the lane's angle, and its sine with a sign or
   zero. -/
module

public import proofs.«01_k».proof.Proof.Inproj.Words
public import proofs.«01_k».proof.Proof.Inproj.Ref

@[expose] public section
set_option maxRecDepth 16384
noncomputable section
namespace Cert.Kernel4Ideal.Inproj
open Idealize.ShloMosaic Idealize.ShloMosaic.TcCoe Idealize.SL.Sem
open Cert.Kernel4Ideal Cert.Kernel4Ideal.Gen
open Cert.Reference4Ideal.Inproj (freqAt angle)

/-- The position that turns lane `l` at place `s`. -/
def posAt (s : Fin 16384) (l : Fin 128) : BitVec 32 := if l.val < 64 then BitVec.ofNat 32 (s.val / 64) else BitVec.ofNat 32 (s.val % 64)

/-- The angle of lane `l` at place `s`. -/
def angleAt (s : Fin 16384) (l : Fin 128) : EReal := angle (posAt s l) ⟨l.val % 32, by omega⟩

/-- The sine that multiplies the lane 32 places on. -/
def sinA (s : Fin 16384) (l : Fin 128) : EReal := if l.val % 64 < 32 then -Ideal.sin (angleAt s l) else 0

/-- The sine that multiplies the lane 32 places back. -/
def sinB (s : Fin 16384) (l : Fin 128) : EReal := if l.val % 64 < 32 then 0 else Ideal.sin (angleAt s l)

theorem less_64 (l : Fin 128) : IntOp.cmpi .slt (BitVec.ofNat 32 l.val) 64#32 = if l.val < 64 then 1#1 else 0#1 := by
  revert l
  decide +kernel

theorem position_at (s : Fin 16384) (l : Fin 128) : position (ix2 s l) = (((posAt s l).toInt : ℝ) : EReal) := by
  unfold posAt
  pointwise [position, lanes]
  rw [rowWord_at, colWord_at, less_64]
  split <;> rfl

theorem freq_at (k : Fin 32) : freq (ix1 k) = freqAt k := by
  unfold freqAt
  pointwise [freq]
  rfl

theorem laneAngle_at (s : Fin 16384) (l : Fin 128) : laneAngle (ix2 s l) = angleAt s l := by
  unfold angleAt angle
  pointwise [laneAngle]
  rw [position_at, laneFreq_at, freq_at]

variable (m : (ℓ : Loc nD τ sig) → Buf (Elt Ideal) ℓ) (c : Dev nD) (s : Fin 16384) (l : Fin 128)

theorem cos_at : (V m c main_v31 : FVec Ideal S16384x128 .f32) (ix2 s l) = Ideal.cos (angleAt s l) := by
  rw [cosTable]
  exact congrArg Ideal.cos (laneAngle_at s l)

theorem sinA_at : (V m c main_v38 : FVec Ideal S16384x128 .f32) (ix2 s l) = sinA s l := by
  rw [sinTableA]
  show Scalar.select (firstHalf (ix2 s l)) (-Ideal.sin (laneAngle (ix2 s l))) (none (ix2 s l)) = _
  have hn : none (ix2 s l) = 0 := by
    pointwise [none]
  rw [firstHalf_at, laneAngle_at, hn]
  unfold sinA
  split <;> rfl

theorem sinB_at : (V m c main_v39 : FVec Ideal S16384x128 .f32) (ix2 s l) = sinB s l := by
  rw [sinTableB]
  show Scalar.select (firstHalf (ix2 s l)) (none (ix2 s l)) (Ideal.sin (laneAngle (ix2 s l))) = _
  have hn : none (ix2 s l) = 0 := by
    pointwise [none]
  rw [firstHalf_at, laneAngle_at, hn]
  unfold sinB
  split <;> rfl

end Cert.Kernel4Ideal.Inproj
-- ==== Proof.Inproj.Head.lean ====
/- One column of a row of the in-projection's result, from the row of products: a query or key head is turned. The kernel adds
   three terms, one of them zero; the plain layer adds or subtracts two. -/
module

public import proofs.«01_k».proof.Proof.Inproj.Values

@[expose] public section
set_option maxRecDepth 16384
noncomputable section
namespace Cert.Kernel4Ideal.Inproj
open Idealize.ShloMosaic
open Cert.Reference4Ideal.Inproj (angle turnAt)

/-- Column `n` of the row of products `p`, its head turned. -/
def turnedCol (p : Fin 6656 → EReal) (s : Fin 16384) (n : Fin 6656) (hn : n.val < 1280) : EReal :=
  p n * Ideal.cos (angleAt s ⟨n.val % 128, by omega⟩)
    + p ⟨n.val / 128 * 128 + (n.val % 128 + 32) % 128, by omega⟩ * sinA s ⟨n.val % 128, by omega⟩
    + p ⟨n.val / 128 * 128 + (n.val % 128 + 96) % 128, by omega⟩ * sinB s ⟨n.val % 128, by omega⟩

variable (p : Fin 6656 → EReal) (s : Fin 16384) (n : Fin 6656) (hn : n.val < 1280)

/-- In the first half of a part only the lane 32 places on counts. -/
theorem turnedCol_first (h : n.val % 128 % 64 < 32) : turnedCol p s n hn
    = p n * Ideal.cos (angleAt s ⟨n.val % 128, by omega⟩)
      - p ⟨n.val + 32, by omega⟩ * Ideal.sin (angleAt s ⟨n.val % 128, by omega⟩) := by
  have e : (⟨n.val / 128 * 128 + (n.val % 128 + 32) % 128, by omega⟩ : Fin 6656) = ⟨n.val + 32, by omega⟩ :=
    Fin.ext (by show n.val / 128 * 128 + (n.val % 128 + 32) % 128 = n.val + 32; omega)
  unfold turnedCol sinA sinB
  rw [if_pos h, if_pos h, e, mul_zero, add_zero, mul_neg, ← sub_eq_add_neg]

/-- In the second half only the lane 32 places back counts. -/
theorem turnedCol_second (h : ¬n.val % 128 % 64 < 32) : turnedCol p s n hn
    = p n * Ideal.cos (angleAt s ⟨n.val % 128, by omega⟩)
      + p ⟨n.val - 32, by omega⟩ * Ideal.sin (angleAt s ⟨n.val % 128, by omega⟩) := by
  have e : (⟨n.val / 128 * 128 + (n.val % 128 + 96) % 128, by omega⟩ : Fin 6656) = ⟨n.val - 32, by omega⟩ :=
    Fin.ext (by show n.val / 128 * 128 + (n.val % 128 + 96) % 128 = n.val - 32; omega)
  unfold turnedCol sinA sinB
  rw [if_neg h, if_neg h, e, mul_zero, add_zero]

/-- A part of a head that starts at column `k`, turned at column `n` by the angles `a`. -/
theorem part_eq (a : Fin 32 → EReal) (k : ℕ) (hk : k + 64 ≤ 6656) (hl : k ≤ n.val) (hu : n.val < k + 64) (h64 : k % 64 = 0)
    (ha : ∀ i : Fin 32, i.val = n.val % 128 % 32 → angleAt s ⟨n.val % 128, by omega⟩ = a i) :
    turnAt a (fun l => p ⟨k + l.val, by omega⟩) ⟨n.val - k, by omega⟩ = turnedCol p s n hn := by
  have e0 : (⟨k + (n.val - k), by omega⟩ : Fin 6656) = n := Fin.ext (by show k + (n.val - k) = n.val; omega)
  unfold turnAt
  by_cases h : n.val - k < 32
  · have e : (⟨k + (32 + (n.val - k)), by omega⟩ : Fin 6656) = ⟨n.val + 32, by omega⟩ :=
      Fin.ext (by show k + (32 + (n.val - k)) = n.val + 32; omega)
    rw [dif_pos h, turnedCol_first p s n hn (by omega), ha ⟨n.val - k, h⟩ (by show n.val - k = _; omega)]
    simp only [e0, e]
  · have e : (⟨k + (n.val - k - 32), by omega⟩ : Fin 6656) = ⟨n.val - 32, by omega⟩ :=
      Fin.ext (by show k + (n.val - k - 32) = n.val - 32; omega)
    rw [dif_neg h, turnedCol_second p s n hn (by omega), ha ⟨n.val - k - 32, by omega⟩ (by show n.val - k - 32 = _; omega)]
    simp only [e0, e]

end Cert.Kernel4Ideal.Inproj
-- ==== Proof.Inproj.Array.lean ====
/- What the in-projection kernel leaves in its result array: each entry in terms of the entries of the argument arrays. -/
module

public import proofs.«01_k».proof.Proof.Inproj.Points
public import proofs.«01_k».proof.Proof.Inproj.Head

@[expose] public section
set_option maxRecDepth 16384
noncomputable section
namespace Cert.Kernel4Ideal.Inproj
open Idealize.ShloMosaic Idealize.ShloMosaic.TcCoe Idealize.SL.Sem
open Cert.Kernel4Ideal Cert.Kernel4Ideal.Gen
open _root_.Mlp

/-- One entry of the product: a modulated row against a column of the weights. -/
def col (x : S2x16384x2048.Idx → EReal) (g : S2048.Idx → EReal) (sc sh : S2x1x2048.Idx → EReal) (w : S2048x6656.Idx → EReal)
    (b : Fin 2) (s : Fin 16384) (n : Fin 6656) : EReal :=
  ∑ e : Fin 2048, modRow (fun k => x (ix3 b s k)) (fun k => g (ix1 k)) (fun k => sc (ix3 b 0 k)) (fun k => sh (ix3 b 0 k)) e
    * w (ix2 e n)

/-- One entry of the kernel's result. -/
def kernelOut (x : S2x16384x2048.Idx → EReal) (g : S2048.Idx → EReal) (sc sh : S2x1x2048.Idx → EReal) (w : S2048x6656.Idx → EReal)
    (y : S2x16384x6656.Idx) : EReal :=
  if h : (y 2).val < 1280 then turnedCol (col x g sc sh w (y 0) (y 1)) (y 1) (y 2) h else col x g sc sh w (y 0) (y 1) (y 2)

section Columns
variable (x : S2x16384x2048.Idx → EReal) (g : S2048.Idx → EReal) (sc sh : S2x1x2048.Idx → EReal) (w : S2048x6656.Idx → EReal)
  (b : Fin 2) (s : Fin 16384) (n : Fin 6656)

theorem kernelOut_lo (h : n.val < 1280) : kernelOut x g sc sh w (ix3 b s n) = turnedCol (col x g sc sh w b s) s n h := dif_pos h

theorem kernelOut_hi (h : ¬n.val < 1280) : kernelOut x g sc sh w (ix3 b s n) = col x g sc sh w b s n := dif_neg h

end Columns

variable (m : (ℓ : Loc nD τ sig) → Buf (Elt Ideal) ℓ) (c : Dev nD)

/-- The head turned within its half is the head turned within the row. -/
theorem turned_eq (q : Fin 3328 → EReal) (co sa sb : Fin 128 → EReal) (p : Fin 6656 → EReal) (s : Fin 16384) (n : Fin 3328)
    (N : Fin 6656) (hN : N.val = n.val) (hq : ∀ k : Fin 3328, q k = p ⟨k.val, by omega⟩)
    (hc : ∀ l, co l = Ideal.cos (angleAt s l)) (ha : ∀ l, sa l = sinA s l) (hb : ∀ l, sb l = sinB s l) (hn : n.val < 1280) :
    turned q co sa sb n hn = turnedCol p s N (by omega) := by
  obtain ⟨N, hN'⟩ := N
  dsimp only at hN
  subst hN
  unfold turned turnedCol
  rw [hq, hq, hq, hc, ha, hb]

section Point
variable (t : Fin cfg0.N) (h0 : ¬t.val % 33 = 0) (b : Fin 2) (hb : t.val / 33 % 2 = b.val) (i : Fin 32) (hi : t.val % 33 - 1 = i.val)
  (j : Fin 2) (hj : t.val / 66 = j.val) (r : Fin 512)
include h0 hb hi hj

/-- The product at row `r` of block `i` and column `n` of half `j`. -/
theorem prod_col (n : Fin 3328) : prodBlock (rowsAt m c (prev t)) (iblk m c 4 t) (ix3 0 r n)
    = col (m ((c : Thread nD τ).loc main_arg0)) (m ((c : Thread nD τ).loc main_arg1)) (m ((c : Thread nD τ).loc main_arg2))
      (m ((c : Thread nD τ).loc main_arg3)) (m ((c : Thread nD τ).loc main_arg4)) b ⟨i.val * 512 + r.val, by omega⟩
      ⟨j.val * 3328 + n.val, by omega⟩ := by
  have hp : (prev t).val / 33 % 2 = b.val := by
    show (t.val - 1) / 33 % 2 = b.val
    omega
  have hq : min ((prev t).val % 33) 31 = i.val := by
    show min ((t.val - 1) % 33) 31 = i.val
    have e : (t.val - 1) % 33 = t.val % 33 - 1 := by omega
    rw [e]
    omega
  refine Finset.sum_congr rfl fun e _ => congrArg₂ (· * ·) ?_ (blk4 m c t j hj e n)
  exact modRow_congr (blk0 m c (prev t) b i hp hq r) (blk1 m c (prev t)) (blk2 m c (prev t) b hp) (blk3 m c (prev t) b hp) e

/-- What a point writes back, at an index of its block. -/
theorem written (n : Fin 3328) : (outsAt0 m c t.val t.isLt).1 (ix3 0 r n)
    = kernelOut (m ((c : Thread nD τ).loc main_arg0)) (m ((c : Thread nD τ).loc main_arg1)) (m ((c : Thread nD τ).loc main_arg2))
      (m ((c : Thread nD τ).loc main_arg3)) (m ((c : Thread nD τ).loc main_arg4))
      (ix3 b ⟨i.val * 512 + r.val, by omega⟩ ⟨j.val * 3328 + n.val, by omega⟩) := by
  have hp := prod_col m c t h0 b hb i hi j hj r
  by_cases h3 : t.val < 66
  · rw [block_left m c t h0 h3]
    unfold turnedBlock
    by_cases hn : n.val < 1280
    · rw [kernelOut_lo _ _ _ _ _ _ _ _ (show j.val * 3328 + n.val < 1280 by omega)]
      refine (dif_pos hn).trans ?_
      exact turned_eq _ _ _ _ _ _ n _ (show j.val * 3328 + n.val = n.val by omega)
        (fun k => (hp k).trans (congrArg (col _ _ _ _ _ b _) (Fin.ext (show j.val * 3328 + k.val = k.val by omega))))
        (fun l => (blk5 m c t i hi r l).trans (cos_at m c _ l)) (fun l => (blk6 m c t i hi r l).trans (sinA_at m c _ l))
        (fun l => (blk7 m c t i hi r l).trans (sinB_at m c _ l)) hn
    · rw [kernelOut_hi _ _ _ _ _ _ _ _ (show ¬j.val * 3328 + n.val < 1280 by omega)]
      exact (dif_neg hn).trans (hp n)
  · rw [block_right m c t h0 h3, kernelOut_hi _ _ _ _ _ _ _ _ (show ¬j.val * 3328 + n.val < 1280 by omega)]
    exact hp n

end Point

/-- The result's block is written back at every point but the first of a sweep. -/
theorem flush : ∀ t : Fin cfg0.N, (cfg0.win 8).flush t = true ↔ ¬t.val % 33 = 0 :=
  (by decide +kernel : ∀ t : Fin grid0.N, win0_8.flush t = true ↔ ¬t.val % 33 = 0)

theorem final : (dats m 0 c).arrAt 8 cfg0.N
    = kernelOut (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 8 _ (by decide +kernel) fun t hf y => ?_
  have h0 := (flush t).mp hf
  have hN : t.val < 132 := lt_of_lt_of_eq t.isLt N_0
  have e := idx t
  have hw : ∀ (r : Fin 512) (n : Fin 3328), _ := fun r n => written m c t h0 ⟨t.val / 33 % 2, by omega⟩ rfl ⟨t.val % 33 - 1, by omega⟩ rfl
    ⟨t.val / 66, by omega⟩ rfl r n
  blk_simp
  rw [after0_8]
  idx_vars y
  obtain rfl : y0 = 0 := Subsingleton.elim _ _
  refine (hw y1 y2).trans ?_
  generalize kernelOut _ _ _ _ _ = K
  blk_ext [e]

end Cert.Kernel4Ideal.Inproj
-- ==== Proof.Inproj.Eq.lean ====
/- An entry of the in-projection kernel's result is the plain layer's entry. -/
module

public import proofs.«01_k».proof.Proof.Inproj.Array
public import proofs.«01_k».proof.Proof.Mid.Eq

@[expose] public section
set_option maxRecDepth 16384
noncomputable section
namespace Cert.Inproj
open Idealize.ShloMosaic Idealize.ShloMosaic.TcCoe Idealize.SL.Sem
open Cert.Kernel4Ideal.Inproj Cert.Reference4Ideal.Inproj
open Cert.Reference3Ideal.Mlp (normed modulated)

variable (x : FVec Ideal Cert.Kernel4Ideal.S2x16384x2048 .f32) (g : FVec Ideal Cert.Kernel4Ideal.S2048 .f32)
  (sc sh : FVec Ideal Cert.Kernel4Ideal.S2x1x2048 .f32) (w : FVec Ideal Cert.Kernel4Ideal.S2048x6656 .f32)
  (b : Fin 2) (s : Fin 16384)

theorem product_eq (n : Fin 6656) : product (modulated (normed x g) sc sh) w (ix3 b s n) = col x g sc sh w b s n := by
  rw [product_at]
  exact Finset.sum_congr rfl fun e _ => congrArg (· * w (ix2 e n)) (Cert.Mid.mod_eq x g sc sh b s e)

theorem entry (n : Fin 6656) : joined (product (modulated (normed x g) sc sh) w) (ix3 b s n) = kernelOut x g sc sh w (ix3 b s n) := by
  have hp := product_eq x g sc sh w b s
  generalize product (modulated (normed x g) sc sh) w = p at hp
  by_cases hn : n.val < 1280
  · rw [kernelOut_lo x g sc sh w b s n hn, joined_lo p b s n hn, turnedHeads_at]
    simp only [hp]
    generalize col x g sc sh w b s = q
    by_cases hl : n.val % 128 < 64
    · rw [dif_pos hl]
      refine (congrArg (turnAt _ _) (Fin.ext (show n.val % 128 = n.val - n.val / 128 * 128 by omega))).trans
        (part_eq q s n hn (angle (BitVec.ofNat 32 (s.val / 64))) (n.val / 128 * 128) (by omega) (by omega) (by omega) (by omega)
          fun i hi => ?_)
      unfold angleAt posAt
      rw [if_pos hl]
      exact congrArg (angle _) (Fin.ext hi.symm)
    · rw [dif_neg hl]
      refine (congrArg₂ (turnAt _) (funext fun l => congrArg q (Fin.ext
          (show n.val / 128 * 128 + (64 + l.val) = n.val / 128 * 128 + 64 + l.val by omega)))
        (Fin.ext (show n.val % 128 - 64 = n.val - (n.val / 128 * 128 + 64) by omega))).trans
        (part_eq q s n hn (angle (BitVec.ofNat 32 (s.val % 64))) (n.val / 128 * 128 + 64) (by omega) (by omega) (by omega) (by omega)
          fun i hi => ?_)
      unfold angleAt posAt
      rw [if_neg hl]
      exact congrArg (angle _) (Fin.ext hi.symm)
  · rw [kernelOut_hi x g sc sh w b s n hn, joined_hi p b s n hn, hp n]

end Cert.Inproj
-- ==== Proof.Inproj.Result.lean ====
/- The in-projection kernel's run, with its result array and its arguments named. -/
module

public import proofs.«01_k».proof.Proof.Inproj.Frame

@[expose] public section
set_option maxRecDepth 16384
noncomputable section
namespace Cert.Kernel4Ideal.Inproj
open Idealize.ShloMosaic Idealize.ShloMosaic.TcCoe Idealize.SL.Sem
open Cert.Kernel4Ideal Cert.Kernel4Ideal.Gen

variable {F : FTy → Type} [FloatOps F]
variable (m : (ℓ : Loc nD τ sig) → Buf (Elt F) ℓ) (ρ : Dev nD → PrngReg)

/-- The program ends with its result array as the blocks written back leave it, and its arguments unchanged. -/
theorem run_result : θ_run defs (onTc (τ := τ) (main (F := F))) ⟨m, fun _ => 0, ρ⟩ fun r => ∀ c : Dev nD,
    r.2.mem ((c.tc : Thread nD τ).loc main_v40) = (dats m 0 c).arrAt 8 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h.1.1 c).1 8, h.2 c⟩) (θ_run_and (run_main_quiescent m ρ) (unchanged m ρ))

end Cert.Kernel4Ideal.Inproj
-- ==== Proof.Inproj.Same.lean ====
/- The in-projection kernel as printed for bits and as printed for extended reals have the same text, so the frame proved for the
   one, over any float values, is the other's at bits. -/
module

public import proofs.«01_k».proof.Defs
public import proofs.«01_k».proof.Proof.Gen.Kernel4
public import proofs.«01_k».proof.Proof.Gen.Kernel4Ideal
public import proofs.«01_k».proof.Proof.Inproj.Result

@[expose] public section
set_option maxRecDepth 65536
noncomputable section
namespace Cert.Inproj
open Idealize.ShloMosaic Idealize.ShloMosaic.TcCoe Idealize.SL.Sem

set_option maxHeartbeats 4000000 in
theorem main_same : Cert.Kernel4.main (F := Bits) = Cert.Kernel4Ideal.main (F := Bits) := rfl

set_option maxHeartbeats 4000000 in
/-- The kernel's body is the same at its one label. -/
theorem body_same : Cert.Kernel4.defs₀ (F := Bits) = Cert.Kernel4Ideal.defs₀ (F := Bits) := by
  unfold Cert.Kernel4.defs₀ Cert.Kernel4Ideal.defs₀
  refine congrArg Defs.onTc (funext fun l => ?_)
  match l with
  | 0 =>
    funext a
    obtain ⟨t, s⟩ := a
    rfl
  | ⟨_ + 1, h⟩ => exact absurd h (Nat.not_lt.2 (Nat.le_add_left _ _))

set_option maxHeartbeats 4000000 in
theorem defs_same : Cert.Kernel4.defs (F := Bits) = Cert.Kernel4Ideal.defs (F := Bits) :=
  congrArg (Pipeline.defs (Cert.Kernel4.pcfgs (F := Bits))) body_same

set_option maxHeartbeats 4000000 in
theorem frame_bits : Cert.quiescent_Kernel4 := by
  intro m ρ _
  rw [defs_same, main_same]
  exact Cert.Kernel4Ideal.Inproj.frame (F := Bits) m ρ

end Cert.Inproj
-- ==== Proof.lean ====
/- The claims, assembled. -/
module

public import proofs.«01_k».proof.Defs
public import proofs.«01_k».proof.Proof.Attn.Finite
public import proofs.«01_k».proof.Proof.Attn.Eq
public import proofs.«01_k».proof.Proof.Mlp.Eq
public import proofs.«01_k».proof.Proof.Mid.Eq
public import proofs.«01_k».proof.Proof.Inproj.Eq
public import proofs.«01_k».proof.Proof.Inproj.Same
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Gen.Reference4Ideal.Run
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

/-- Under the precondition the kernel's array is the reference's result. -/
theorem attention_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite_scores m)
    (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Value.res_main_v54 m' c : Cert.KernelIdeal.S2x16384x1024.Idx → EReal) = (Cert.KernelIdeal.Gen.dats m 0 c).arrAt 10 Cert.KernelIdeal.cfg0.N := by
  rw [Cert.ReferenceIdeal.Attn.res_eq, e.1, e.2.1, e.2.2, Cert.KernelIdeal.Attn.final]
  funext i
  obtain ⟨h0, h1, h2⟩ := h c
  have h3 := (i 2).isLt
  have h4 := (i 1).isLt
  change (i 2).val < 1024 at h3
  change (i 1).val < 16384 at h4
  have e := Cert.Attn.entry _ _ _ (Cert.Pre_finite_scores.Attn.sink_real _ _ _ h0) (Cert.Pre_finite_scores.Attn.lat_real _ _ _ h1)
    (Cert.Pre_finite_scores.Attn.ctx_real _ _ _ h2) (i 0) ⟨(i 1).val / 128, by omega⟩ ⟨(i 1).val % 128, by omega⟩
    ⟨(i 2).val / 512, by omega⟩ ⟨(i 2).val / 128 % 4, by omega⟩ ⟨(i 2).val % 128, by omega⟩
  have e1 : (i 2).val / 512 * 4 + (i 2).val / 128 % 4 = (i 2).val / 128 := by omega
  have e2 : (i 1).val / 128 * 128 + (i 1).val % 128 = (i 1).val := by omega
  have e3 : (i 2).val / 512 * 512 + (i 2).val / 128 % 4 * 128 + (i 2).val % 128 = (i 2).val := by omega
  simp only [e1, e2, e3] at e
  refine Eq.trans ?_ e.symm
  congr 1
  exact funext (Fin.forall_fin_succ.2 ⟨rfl, Fin.forall_fin_succ.2 ⟨rfl, Fin.forall_fin_succ.2 ⟨rfl, fun x => x.elim0⟩⟩⟩)

theorem algebraic : Cert.algebraic_KernelIdeal_ReferenceIdeal_pre_finite_scores := by
  pair_intro
  · run_from Cert.KernelIdeal.Value.run_blocks m g
  · refine (θ_run Cert.ReferenceIdeal.defs _ _).mono (fun r h c => ⟨(h c).1.trans ?_, (h c).2⟩)
      (Cert.ReferenceIdeal.Value.run (F := Ideal) m' g')
    exact attention_eq m m' hpre c (hagree c)

theorem preserves : Cert.preserves_Kernel_KernelIdeal :=
  ⟨IdealRules.named_const.statement Cert.KernelIdeal.κ "scale2" .f32 0x3E0293EE#32 (((Real.sqrt 128)⁻¹ * (Real.log 2)⁻¹ : ℝ) : EReal) rfl,
   IdealRules.named_const.statement Cert.KernelIdeal.κ "log2e" .f32 0x3FB8AA3B#32 (((Real.log 2)⁻¹ : ℝ) : EReal) rfl⟩

theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward kernel's array is the plain layer's result. -/
theorem mlp_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (e : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    (Cert.Reference2Ideal.Value.res_main_v38 m' c : Cert.Kernel2Ideal.S2x16384x2048.Idx → EReal)
      = (Cert.Kernel2Ideal.Gen.dats m 0 c).arrAt 8 Cert.Kernel2Ideal.cfg0.N := by
  obtain ⟨e0, e1, e2, e3, e4, e5, e6, e7⟩ := e
  rw [Cert.Kernel2Ideal.Mlp.final]
  refine (Cert.Reference2Ideal.Mlp.result_eq m' c).trans ?_
  rw [e0, e1, e2, e3, e4, e5, e6, e7]
  funext y
  idx_vars y
  exact Cert.Mlp.entry _ _ _ _ _ _ _ _ y0 y1 y2

theorem algebraic2 : Cert.algebraic_Kernel2Ideal_Reference2Ideal := by
  pair_intro
  · run_from Cert.Kernel2Ideal.Value.run_blocks m g
  · refine (θ_run Cert.Reference2Ideal.defs _ _).mono (fun r h c => ⟨(h c).1.trans ?_, (h c).2⟩)
      (Cert.Reference2Ideal.Value.run (F := Ideal) m' g')
    exact mlp_eq m m' c (hagree c)

theorem frame_r2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The first layer's feed-forward kernel's array is the plain layer's result. -/
theorem mid_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (e : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) :
    (Cert.Reference3Ideal.Mlp.result m' c : Cert.Kernel3Ideal.S2x16384x2048.Idx → EReal) = (Cert.Kernel3Ideal.Gen.dats m 0 c).arrAt 7 Cert.Kernel3Ideal.cfg0.N := by
  obtain ⟨e0, e1, e2, e3, e4, e5, e6⟩ := e
  rw [Cert.Kernel3Ideal.Mlp.final]
  unfold Cert.Reference3Ideal.Mlp.result
  rw [e0, e1, e2, e3, e4, e5, e6]
  funext y
  idx_vars y
  exact Cert.Mid.entry _ _ _ _ _ _ _ y0 y1 y2

theorem algebraic3 : Cert.algebraic_Kernel3Ideal_Reference3Ideal := by
  pair_intro
  · run_from Cert.Kernel3Ideal.Value.run_blocks m g
  · refine (θ_run Cert.Reference3Ideal.defs _ _).mono (fun r h c => ⟨(h c).1.trans ?_, (h c).2⟩) (Cert.Reference3Ideal.Mlp.run_result m' g')
    exact mid_eq m m' c (hagree c)

theorem frame_r3 : Cert.quiescent_Reference3Ideal := fun m ρ _ =>
  (θ_run Cert.Reference3Ideal.defs _ _).mono (fun r h => ⟨fun c => (h c).2, sem_eq_zero_of_no_sems (by decide) r.2⟩)
    (Cert.Reference3Ideal.Mlp.run_result m ρ)

/-- The in-projection kernel's array is the plain layer's result. -/
theorem inproj_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (e : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) :
    (Cert.Reference4Ideal.Inproj.result m' c : Cert.Kernel4Ideal.S2x16384x6656.Idx → EReal)
      = (Cert.Kernel4Ideal.Inproj.dats m 0 c).arrAt 8 Cert.Kernel4Ideal.cfg0.N := by
  obtain ⟨e0, e1, e2, e3, e4⟩ := e
  rw [Cert.Kernel4Ideal.Inproj.final]
  unfold Cert.Reference4Ideal.Inproj.result
  rw [e0, e1, e2, e3, e4]
  funext y
  idx_vars y
  exact Cert.Inproj.entry _ _ _ _ _ y0 y1 y2

theorem algebraic4 : Cert.algebraic_Kernel4Ideal_Reference4Ideal := by
  pair_intro
  · run_from Cert.Kernel4Ideal.Inproj.run_result m g
  · refine (θ_run Cert.Reference4Ideal.defs _ _).mono (fun r h c => ⟨(h c).1.trans ?_, (h c).2⟩) (Cert.Reference4Ideal.Inproj.run_result m' g')
    exact inproj_eq m m' c (hagree c)

theorem frame_r4 : Cert.quiescent_Reference4Ideal := fun m ρ _ =>
  (θ_run Cert.Reference4Ideal.defs _ _).mono (fun r h => ⟨fun c => (h c).2, sem_eq_zero_of_no_sems (by decide) r.2⟩)
    (Cert.Reference4Ideal.Inproj.run_result m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite_scores.Attn.facts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    fun m ρ _ => Cert.Kernel2.Gen.frame m ρ, fun m ρ _ => Cert.Kernel2Ideal.Gen.frame m ρ, frame_r2,
    fun m ρ _ => Cert.Kernel3.Gen.frame m ρ, fun m ρ _ => Cert.Kernel3Ideal.Gen.frame m ρ, frame_r3,
    Cert.Inproj.frame_bits, fun m ρ _ => Cert.Kernel4Ideal.Inproj.frame m ρ, frame_r4,
    preserves, algebraic, trivial, algebraic2, trivial, algebraic3, trivial, algebraic4⟩

end Cert.Proof

end
